-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v115)) (v2 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v115) = v1 c
          ∧ r.2.mem ((c.tc : Thread Cert.KernelIdeal.nD Cert.KernelIdeal.τ).loc Cert.KernelIdeal.main_v116) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x16384 : Shape := ⟨3, ![2, 512, 16384]⟩
abbrev S2x512 : Shape := ⟨2, ![2, 512]⟩
abbrev S16384x1026 : Shape := ⟨2, ![16384, 1026]⟩
abbrev S1026 : Shape := ⟨1, ![1026]⟩
abbrev S1024x16384 : Shape := ⟨2, ![1024, 16384]⟩
abbrev S1x1026 : Shape := ⟨2, ![1, 1026]⟩
abbrev S513 : Shape := ⟨1, ![513]⟩
abbrev S513x1 : Shape := ⟨2, ![513, 1]⟩
abbrev S1024 : Shape := ⟨1, ![1024]⟩
abbrev S1x1024 : Shape := ⟨2, ![1, 1024]⟩
abbrev S513x1024 : Shape := ⟨2, ![513, 1024]⟩
abbrev S_ : Shape := ⟨0, ![]⟩
abbrev S1026x1024 : Shape := ⟨2, ![1026, 1024]⟩
abbrev S4x256 : Shape := ⟨2, ![4, 256]⟩
abbrev S256 : Shape := ⟨1, ![256]⟩
abbrev S1x256 : Shape := ⟨2, ![1, 256]⟩
abbrev S8x256 : Shape := ⟨2, ![8, 256]⟩
abbrev S2048x128 : Shape := ⟨2, ![2048, 128]⟩
abbrev S32x128 : Shape := ⟨2, ![32, 128]⟩
abbrev S1024x1026 : Shape := ⟨2, ![1024, 1026]⟩
abbrev S1024x512 : Shape := ⟨2, ![1024, 512]⟩
abbrev S512x1026 : Shape := ⟨2, ![512, 1026]⟩
abbrev S528x1024 : Shape := ⟨2, ![528, 1024]⟩
abbrev S8x1024 : Shape := ⟨2, ![8, 1024]⟩
abbrev S1x128 : Shape := ⟨2, ![1, 128]⟩
abbrev S128x128 : Shape := ⟨2, ![128, 128]⟩
abbrev S64x1026 : Shape := ⟨2, ![64, 1026]⟩
abbrev S64x1 : Shape := ⟨2, ![64, 1]⟩
abbrev S64x513 : Shape := ⟨2, ![64, 513]⟩
abbrev S512x1024 : Shape := ⟨2, ![512, 1024]⟩
abbrev S8x128 : Shape := ⟨2, ![8, 128]⟩
abbrev S5x128 : Shape := ⟨2, ![5, 128]⟩
abbrev S16x128 : Shape := ⟨2, ![16, 128]⟩
abbrev S1024x2x128 : Shape := ⟨3, ![1024, 2, 128]⟩
abbrev S2x1024x128 : Shape := ⟨3, ![2, 1024, 128]⟩
abbrev S2x131072 : Shape := ⟨2, ![2, 131072]⟩
abbrev S16x2x128 : Shape := ⟨3, ![16, 2, 128]⟩
abbrev S2x16x128 : Shape := ⟨3, ![2, 16, 128]⟩
abbrev S2x2048 : Shape := ⟨2, ![2, 2048]⟩
abbrev S2x512x1026 : Shape := ⟨3, ![2, 512, 1026]⟩

abbrev nBuf : Space → Nat
  | .hbm => 168
  | .vmem => 15
  | .smem => 0
  | _ => 0

abbrev hbmTy0_0 (i : Nat) : BufTy := match i % 128 with
  | 0 => ⟨S2x512x16384, .fp8e4m3⟩
  | 1 => ⟨S2x512, .f32⟩
  | 2 => ⟨S16384x1026, .fp8e4m3⟩
  | 3 => ⟨S1026, .f32⟩
  | 4 => ⟨S1026, .f32⟩
  | 5 => ⟨S1024x16384, .fp8e4m3⟩
  | 6 => ⟨S1x1026, .f32⟩
  | 7 => ⟨S1x1026, .f32⟩
  | 8 => ⟨S513, .i32⟩
  | 9 => ⟨S513x1, .i32⟩
  | 10 => ⟨S1024, .i32⟩
  | 11 => ⟨S1x1024, .i32⟩
  | 12 => ⟨S513x1024, .i32⟩
  | 13 => ⟨S513x1024, .i32⟩
  | 14 => ⟨S513x1024, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S513x1024, .i32⟩
  | 22 => ⟨S513x1024, .i32⟩
  | 23 => ⟨S_, .i32⟩
  | 24 => ⟨S513x1024, .i32⟩
  | 25 => ⟨S513x1024, .i1⟩
  | 26 => ⟨S_, .i32⟩
  | 27 => ⟨S513x1024, .i32⟩
  | 28 => ⟨S513x1024, .i1⟩
  | 29 => ⟨S_, .i32⟩
  | 30 => ⟨S_, .i1⟩
  | 31 => ⟨S513x1024, .i1⟩
  | 32 => ⟨S513x1024, .i1⟩
  | 33 => ⟨S513x1024, .i1⟩
  | 34 => ⟨S513x1024, .i32⟩
  | 35 => ⟨S513x1024, .i32⟩
  | 36 => ⟨S513x1024, .i32⟩
  | 37 => ⟨S513x1024, .f32⟩
  | 38 => ⟨S_, .f32⟩
  | 39 => ⟨S513x1024, .f32⟩
  | 40 => ⟨S513x1024, .f32⟩
  | 41 => ⟨S_, .i32⟩
  | 42 => ⟨S513x1, .i32⟩
  | 43 => ⟨S513x1, .i1⟩
  | 44 => ⟨S_, .i32⟩
  | 45 => ⟨S513x1, .i32⟩
  | 46 => ⟨S513x1, .i1⟩
  | 47 => ⟨S513x1, .i1⟩
  | 48 => ⟨S_, .f32⟩
  | 49 => ⟨S_, .f32⟩
  | 50 => ⟨S513x1, .f32⟩
  | 51 => ⟨S513x1, .f32⟩
  | 52 => ⟨S513x1, .f32⟩
  | 53 => ⟨S513x1, .f32⟩
  | 54 => ⟨S_, .f32⟩
  | 55 => ⟨S513x1, .f32⟩
  | 56 => ⟨S513x1, .f32⟩
  | 57 => ⟨S513x1024, .f32⟩
  | 58 => ⟨S513x1024, .f32⟩
  | 59 => ⟨S513x1024, .f32⟩
  | 60 => ⟨S513x1, .f32⟩
  | 61 => ⟨S513x1024, .f32⟩
  | 62 => ⟨S513x1024, .f32⟩
  | 63 => ⟨S513x1024, .f32⟩
  | 64 => ⟨S_, .f32⟩
  | 65 => ⟨S513x1024, .i1⟩
  | 66 => ⟨S513x1024, .f32⟩
  | 67 => ⟨S513x1024, .f32⟩
  | 68 => ⟨S1026x1024, .f32⟩
  | 69 => ⟨S1026x1024, .bf16⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S_, .f32⟩
  | 79 => ⟨S1024, .f32⟩
  | 80 => ⟨S1024, .f32⟩
  | 81 => ⟨S1x1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S4x256, .f32⟩
  | 95 => ⟨S_, .f32⟩
  | 96 => ⟨S256, .f32⟩
  | 97 => ⟨S_, .f32⟩
  | 98 => ⟨S256, .f32⟩
  | 99 => ⟨S1x256, .f32⟩
  | 100 => ⟨S256, .f32⟩
  | 101 => ⟨S256, .f32⟩
  | 102 => ⟨S1x256, .f32⟩
  | 103 => ⟨S256, .f32⟩
  | 104 => ⟨S256, .f32⟩
  | 105 => ⟨S_, .f32⟩
  | 106 => ⟨S256, .f32⟩
  | 107 => ⟨S1x256, .f32⟩
  | 108 => ⟨S256, .f32⟩
  | 109 => ⟨S256, .f32⟩
  | 110 => ⟨S1x256, .f32⟩
  | 111 => ⟨S256, .f32⟩
  | 112 => ⟨S256, .f32⟩
  | 113 => ⟨S1x256, .f32⟩
  | 114 => ⟨S256, .f32⟩
  | 115 => ⟨S256, .f32⟩
  | 116 => ⟨S_, .f32⟩
  | 117 => ⟨S256, .f32⟩
  | 118 => ⟨S1x256, .f32⟩
  | 119 => ⟨S256, .f32⟩
  | 120 => ⟨S256, .f32⟩
  | 121 => ⟨S1x256, .f32⟩
  | 122 => ⟨S256, .f32⟩
  | 123 => ⟨S256, .f32⟩
  | 124 => ⟨S1x256, .f32⟩
  | 125 => ⟨S256, .f32⟩
  | 126 => ⟨S256, .f32⟩
  | 127 => ⟨S1x256, .f32⟩
  | _ => ⟨S2x512x16384, .fp8e4m3⟩

abbrev hbmTy0_1 (i : Nat) : BufTy := match i % 128 with
  | 0 => ⟨S256, .f32⟩
  | 1 => ⟨S256, .f32⟩
  | 2 => ⟨S_, .f32⟩
  | 3 => ⟨S256, .f32⟩
  | 4 => ⟨S1x256, .f32⟩
  | 5 => ⟨S256, .f32⟩
  | 6 => ⟨S256, .f32⟩
  | 7 => ⟨S1x256, .f32⟩
  | 8 => ⟨S256, .f32⟩
  | 9 => ⟨S256, .f32⟩
  | 10 => ⟨S1x256, .f32⟩
  | 11 => ⟨S256, .f32⟩
  | 12 => ⟨S256, .f32⟩
  | 13 => ⟨S_, .f32⟩
  | 14 => ⟨S256, .f32⟩
  | 15 => ⟨S1x256, .f32⟩
  | 16 => ⟨S256, .f32⟩
  | 17 => ⟨S256, .f32⟩
  | 18 => ⟨S1x256, .f32⟩
  | 19 => ⟨S256, .f32⟩
  | 20 => ⟨S256, .f32⟩
  | 21 => ⟨S1x256, .f32⟩
  | 22 => ⟨S1x256, .f32⟩
  | 23 => ⟨S1x256, .f32⟩
  | 24 => ⟨S1x256, .f32⟩
  | 25 => ⟨S1x256, .f32⟩
  | 26 => ⟨S1x256, .f32⟩
  | 27 => ⟨S1x256, .f32⟩
  | 28 => ⟨S1x256, .f32⟩
  | 29 => ⟨S8x256, .f32⟩
  | 30 => ⟨S2048x128, .f32⟩
  | 31 => ⟨S32x128, .f32⟩
  | 32 => ⟨S1024x1026, .bf16⟩
  | 33 => ⟨S1024x2x128, .f32⟩
  | 34 => ⟨S2x1024x128, .f32⟩
  | 35 => ⟨S2x131072, .f32⟩
  | 36 => ⟨S16x2x128, .f32⟩
  | 37 => ⟨S2x16x128, .f32⟩
  | 38 => ⟨S2x2048, .f32⟩
  | 39 => ⟨S2x512x1026, .bf16⟩
  | _ => ⟨S2x512x16384, .fp8e4m3⟩

abbrev hbmTy (i : Nat) : BufTy := match i / 128 with
  | 0 => hbmTy0_0 i
  | 1 => hbmTy0_1 i
  | _ => ⟨S2x512x16384, .fp8e4m3⟩

abbrev bufTy : (tb : Table) → Fin (tcTables nBuf tb) → BufTy
  | .hbm, ⟨i, _⟩ => hbmTy i
  | .local _ .vmem, ⟨0, _⟩ => ⟨S1024x512, .fp8e4m3⟩
  | .local _ .vmem, ⟨1, _⟩ => ⟨S1024x512, .fp8e4m3⟩
  | .local _ .vmem, ⟨2, _⟩ => ⟨S512x1026, .fp8e4m3⟩
  | .local _ .vmem, ⟨3, _⟩ => ⟨S512x1026, .fp8e4m3⟩
  | .local _ .vmem, ⟨4, _⟩ => ⟨S2x512, .f32⟩
  | .local _ .vmem, ⟨5, _⟩ => ⟨S1x1026, .f32⟩
  | .local _ .vmem, ⟨6, _⟩ => ⟨S1x1026, .f32⟩
  | .local _ .vmem, ⟨7, _⟩ => ⟨S1026x1024, .bf16⟩
  | .local _ .vmem, ⟨8, _⟩ => ⟨S1x1024, .f32⟩
  | .local _ .vmem, ⟨9, _⟩ => ⟨S8x256, .f32⟩
  | .local _ .vmem, ⟨10, _⟩ => ⟨S2048x128, .f32⟩
  | .local _ .vmem, ⟨11, _⟩ => ⟨S32x128, .f32⟩
  | .local _ .vmem, ⟨12, _⟩ => ⟨S1024x1026, .bf16⟩
  | .local _ .vmem, ⟨13, _⟩ => ⟨S1024x1026, .f32⟩
  | .local _ .vmem, ⟨14, _⟩ => ⟨S528x1024, .f32⟩
  | _, _ => ⟨S2x512x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_c_0 : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_v38 : Ref sig .tc := ⟨.hbm, 77, rfl⟩
abbrev main_cst_8 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_10 : Ref sig .tc := ⟨.hbm, 87, rfl⟩
abbrev main_v46 : Ref sig .tc := ⟨.hbm, 88, rfl⟩
abbrev main_v47 : Ref sig .tc := ⟨.hbm, 89, rfl⟩
abbrev main_cst_11 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_12 : Ref sig .tc := ⟨.hbm, 95, rfl⟩
abbrev main_v52 : Ref sig .tc := ⟨.hbm, 96, rfl⟩
abbrev main_cst_13 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_14 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_15 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_16 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_17 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109_0 : Ref sig .tc := ⟨.hbm, 158, rfl⟩
abbrev main_v109_1 : Ref sig .tc := ⟨.hbm, 159, rfl⟩
abbrev main_v109_2 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v10 : BitVec 1 := Scalar.cmpi .eq arg0 c31_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1026 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1026 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1026 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1026x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1026 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2x512x16384 : Shape := ⟨3, ![2, 512, 16384]⟩
abbrev S2x512 : Shape := ⟨2, ![2, 512]⟩
abbrev S16384x1026 : Shape := ⟨2, ![16384, 1026]⟩
abbrev S1026 : Shape := ⟨1, ![1026]⟩
abbrev S1024x16384 : Shape := ⟨2, ![1024, 16384]⟩
abbrev S1024x1026 : Shape := ⟨2, ![1024, 1026]⟩
abbrev S2x512x1026 : Shape := ⟨3, ![2, 512, 1026]⟩
abbrev S2x512x1 : Shape := ⟨3, ![2, 512, 1]⟩
abbrev S1x1x1026 : Shape := ⟨3, ![1, 1, 1026]⟩
abbrev S2x512x513 : Shape := ⟨3, ![2, 512, 513]⟩
abbrev S_ : Shape := ⟨0, ![]⟩
abbrev S513 : Shape := ⟨1, ![513]⟩
abbrev S513x1 : Shape := ⟨2, ![513, 1]⟩
abbrev S1024 : Shape := ⟨1, ![1024]⟩
abbrev S1x1024 : Shape := ⟨2, ![1, 1024]⟩
abbrev S513x1024 : Shape := ⟨2, ![513, 1024]⟩
abbrev S1026x1024 : Shape := ⟨2, ![1026, 1024]⟩
abbrev S2x512x1024 : Shape := ⟨3, ![2, 512, 1024]⟩
abbrev S1x1x1024 : Shape := ⟨3, ![1, 1, 1024]⟩
abbrev S2x512x4x256 : Shape := ⟨4, ![2, 512, 4, 256]⟩
abbrev S2x512x1x256 : Shape := ⟨4, ![2, 512, 1, 256]⟩
abbrev S2x512x256 : Shape := ⟨3, ![2, 512, 256]⟩
abbrev S2x515x256 : Shape := ⟨3, ![2, 515, 256]⟩
abbrev S2x131840 : Shape := ⟨2, ![2, 131840]⟩
abbrev S4x256 : Shape := ⟨2, ![4, 256]⟩
abbrev S512x4x256 : Shape := ⟨3, ![512, 4, 256]⟩
abbrev S512x1x256 : Shape := ⟨3, ![512, 1, 256]⟩
abbrev S512x256 : Shape := ⟨2, ![512, 256]⟩
abbrev S515x256 : Shape := ⟨2, ![515, 256]⟩
abbrev S131840 : Shape := ⟨1, ![131840]⟩
abbrev S2x131072 : Shape := ⟨2, ![2, 131072]⟩
abbrev S131072 : Shape := ⟨1, ![131072]⟩
abbrev S1x131072 : Shape := ⟨2, ![1, 131072]⟩
abbrev S2x1024 : Shape := ⟨2, ![2, 1024]⟩
abbrev S2x2048 : Shape := ⟨2, ![2, 2048]⟩

abbrev nBuf : Space → Nat
  | .hbm => 167
  | .vmem => 3
  | .smem => 0
  | _ => 0

abbrev hbmTy0_0 (i : Nat) : BufTy := match i % 128 with
  | 0 => ⟨S2x512x16384, .fp8e4m3⟩
  | 1 => ⟨S2x512, .f32⟩
  | 2 => ⟨S16384x1026, .fp8e4m3⟩
  | 3 => ⟨S1026, .f32⟩
  | 4 => ⟨S1026, .f32⟩
  | 5 => ⟨S1024x16384, .fp8e4m3⟩
  | 6 => ⟨S1024x1026, .f32⟩
  | 7 => ⟨S2x512x1026, .f32⟩
  | 8 => ⟨S2x512x1, .f32⟩
  | 9 => ⟨S2x512x1026, .f32⟩
  | 10 => ⟨S2x512x1026, .f32⟩
  | 11 => ⟨S1x1x1026, .f32⟩
  | 12 => ⟨S2x512x1026, .f32⟩
  | 13 => ⟨S2x512x1026, .f32⟩
  | 14 => ⟨S1x1x1026, .f32⟩
  | 15 => ⟨S2x512x1026, .f32⟩
  | 16 => ⟨S2x512x1026, .f32⟩
  | 17 => ⟨S2x512x513, .f32⟩
  | 18 => ⟨S2x512x513, .f32⟩
  | 19 => ⟨S2x512x513, .f32⟩
  | 20 => ⟨S_, .f32⟩
  | 21 => ⟨S2x512x513, .f32⟩
  | 22 => ⟨S2x512x513, .f32⟩
  | 23 => ⟨S2x512x513, .f32⟩
  | 24 => ⟨S2x512x513, .f32⟩
  | 25 => ⟨S2x512x513, .f32⟩
  | 26 => ⟨S2x512x513, .f32⟩
  | 27 => ⟨S2x512x1026, .f32⟩
  | 28 => ⟨S2x512x1026, .bf16⟩
  | 29 => ⟨S513, .i32⟩
  | 30 => ⟨S513x1, .i32⟩
  | 31 => ⟨S1024, .i32⟩
  | 32 => ⟨S1x1024, .i32⟩
  | 33 => ⟨S513x1024, .i32⟩
  | 34 => ⟨S513x1024, .i32⟩
  | 35 => ⟨S513x1024, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S513x1024, .i32⟩
  | 43 => ⟨S513x1024, .i32⟩
  | 44 => ⟨S_, .i32⟩
  | 45 => ⟨S513x1024, .i32⟩
  | 46 => ⟨S513x1024, .i1⟩
  | 47 => ⟨S_, .i32⟩
  | 48 => ⟨S513x1024, .i32⟩
  | 49 => ⟨S513x1024, .i1⟩
  | 50 => ⟨S_, .i32⟩
  | 51 => ⟨S_, .i1⟩
  | 52 => ⟨S513x1024, .i1⟩
  | 53 => ⟨S513x1024, .i1⟩
  | 54 => ⟨S513x1024, .i1⟩
  | 55 => ⟨S513x1024, .i32⟩
  | 56 => ⟨S513x1024, .i32⟩
  | 57 => ⟨S513x1024, .i32⟩
  | 58 => ⟨S513x1024, .f32⟩
  | 59 => ⟨S_, .f32⟩
  | 60 => ⟨S513x1024, .f32⟩
  | 61 => ⟨S513x1024, .f32⟩
  | 62 => ⟨S_, .i32⟩
  | 63 => ⟨S513x1, .i32⟩
  | 64 => ⟨S513x1, .i1⟩
  | 65 => ⟨S_, .i32⟩
  | 66 => ⟨S513x1, .i32⟩
  | 67 => ⟨S513x1, .i1⟩
  | 68 => ⟨S513x1, .i1⟩
  | 69 => ⟨S_, .f32⟩
  | 70 => ⟨S_, .f32⟩
  | 71 => ⟨S513x1, .f32⟩
  | 72 => ⟨S513x1, .f32⟩
  | 73 => ⟨S513x1, .f32⟩
  | 74 => ⟨S513x1, .f32⟩
  | 75 => ⟨S_, .f32⟩
  | 76 => ⟨S513x1, .f32⟩
  | 77 => ⟨S513x1, .f32⟩
  | 78 => ⟨S513x1024, .f32⟩
  | 79 => ⟨S513x1024, .f32⟩
  | 80 => ⟨S513x1024, .f32⟩
  | 81 => ⟨S513x1, .f32⟩
  | 82 => ⟨S513x1024, .f32⟩
  | 83 => ⟨S513x1024, .f32⟩
  | 84 => ⟨S513x1024, .f32⟩
  | 85 => ⟨S_, .f32⟩
  | 86 => ⟨S_, .f32⟩
  | 87 => ⟨S513x1024, .i1⟩
  | 88 => ⟨S513x1024, .f32⟩
  | 89 => ⟨S513x1024, .f32⟩
  | 90 => ⟨S1026x1024, .f32⟩
  | 91 => ⟨S1026x1024, .bf16⟩
  | 92 => ⟨S2x512x1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S_, .f32⟩
  | 99 => ⟨S1024, .f32⟩
  | 100 => ⟨S1024, .f32⟩
  | 101 => ⟨S_, .f32⟩
  | 102 => ⟨S1024, .f32⟩
  | 103 => ⟨S1024, .f32⟩
  | 104 => ⟨S1x1x1024, .f32⟩
  | 105 => ⟨S2x512x1024, .f32⟩
  | 106 => ⟨S2x512x1024, .f32⟩
  | 107 => ⟨S2x512x4x256, .f32⟩
  | 108 => ⟨S2x512x1x256, .f32⟩
  | 109 => ⟨S2x512x256, .f32⟩
  | 110 => ⟨S_, .i32⟩
  | 111 => ⟨S_, .f32⟩
  | 112 => ⟨S2x515x256, .f32⟩
  | 113 => ⟨S2x512x1x256, .f32⟩
  | 114 => ⟨S2x512x256, .f32⟩
  | 115 => ⟨S_, .i32⟩
  | 116 => ⟨S_, .f32⟩
  | 117 => ⟨S2x515x256, .f32⟩
  | 118 => ⟨S2x515x256, .f32⟩
  | 119 => ⟨S2x512x1x256, .f32⟩
  | 120 => ⟨S2x512x256, .f32⟩
  | 121 => ⟨S_, .i32⟩
  | 122 => ⟨S_, .f32⟩
  | 123 => ⟨S2x515x256, .f32⟩
  | 124 => ⟨S2x515x256, .f32⟩
  | 125 => ⟨S2x512x1x256, .f32⟩
  | 126 => ⟨S2x512x256, .f32⟩
  | 127 => ⟨S_, .i32⟩
  | _ => ⟨S2x512x16384, .fp8e4m3⟩

abbrev hbmTy0_1 (i : Nat) : BufTy := match i % 128 with
  | 0 => ⟨S_, .f32⟩
  | 1 => ⟨S2x515x256, .f32⟩
  | 2 => ⟨S2x515x256, .f32⟩
  | 3 => ⟨S2x131840, .f32⟩
  | 4 => ⟨S1024, .f32⟩
  | 5 => ⟨S4x256, .f32⟩
  | 6 => ⟨S512x4x256, .f32⟩
  | 7 => ⟨S512x1x256, .f32⟩
  | 8 => ⟨S512x256, .f32⟩
  | 9 => ⟨S_, .i32⟩
  | 10 => ⟨S_, .f32⟩
  | 11 => ⟨S515x256, .f32⟩
  | 12 => ⟨S512x1x256, .f32⟩
  | 13 => ⟨S512x256, .f32⟩
  | 14 => ⟨S_, .i32⟩
  | 15 => ⟨S_, .f32⟩
  | 16 => ⟨S515x256, .f32⟩
  | 17 => ⟨S515x256, .f32⟩
  | 18 => ⟨S512x1x256, .f32⟩
  | 19 => ⟨S512x256, .f32⟩
  | 20 => ⟨S_, .i32⟩
  | 21 => ⟨S_, .f32⟩
  | 22 => ⟨S515x256, .f32⟩
  | 23 => ⟨S515x256, .f32⟩
  | 24 => ⟨S512x1x256, .f32⟩
  | 25 => ⟨S512x256, .f32⟩
  | 26 => ⟨S_, .i32⟩
  | 27 => ⟨S_, .f32⟩
  | 28 => ⟨S515x256, .f32⟩
  | 29 => ⟨S515x256, .f32⟩
  | 30 => ⟨S131840, .f32⟩
  | 31 => ⟨S2x131072, .f32⟩
  | 32 => ⟨S131072, .f32⟩
  | 33 => ⟨S1x131072, .f32⟩
  | 34 => ⟨S2x131072, .f32⟩
  | 35 => ⟨S2x131072, .f32⟩
  | 36 => ⟨S2x1024, .f32⟩
  | 37 => ⟨S2x1024, .f32⟩
  | 38 => ⟨S2x2048, .f32⟩
  | _ => ⟨S2x512x16384, .fp8e4m3⟩

abbrev hbmTy (i : Nat) : BufTy := match i / 128 with
  | 0 => hbmTy0_0 i
  | 1 => hbmTy0_1 i
  | _ => ⟨S2x512x16384, .fp8e4m3⟩

abbrev bufTy : (tb : Table) → Fin (tcTables nBuf tb) → BufTy
  | .hbm, ⟨i, _⟩ => hbmTy i
  | .local _ .vmem, ⟨0, _⟩ => ⟨S1024x16384, .fp8e4m3⟩
  | .local _ .vmem, ⟨1, _⟩ => ⟨S16384x1026, .fp8e4m3⟩
  | .local _ .vmem, ⟨2, _⟩ => ⟨S1024x1026, .f32⟩
  | _, _ => ⟨S2x512x16384, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v30 : Ref sig .tc := ⟨.hbm, 57, rfl⟩
abbrev main_v31 : Ref sig .tc := ⟨.hbm, 58, rfl⟩
abbrev main_cst_0 : Ref sig .tc := ⟨.hbm, 59, rfl⟩
abbrev main_v32 : Ref sig .tc := ⟨.hbm, 60, rfl⟩
abbrev main_v33 : Ref sig .tc := ⟨.hbm, 61, rfl⟩
abbrev main_c_1 : Ref sig .tc := ⟨.hbm, 62, rfl⟩
abbrev main_v34 : Ref sig .tc := ⟨.hbm, 63, rfl⟩
abbrev main_v35 : Ref sig .tc := ⟨.hbm, 64, rfl⟩
abbrev main_c_2 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_3 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_v39 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_7 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_8 : Ref sig .tc := ⟨.hbm, 98, rfl⟩
abbrev main_v58 : Ref sig .tc := ⟨.hbm, 99, rfl⟩
abbrev main_v59 : Ref sig .tc := ⟨.hbm, 100, rfl⟩
abbrev main_cst_9 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_10 : Ref sig .tc := ⟨.hbm, 110, rfl⟩
abbrev main_call3_v0 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_11 : Ref sig .tc := ⟨.hbm, 115, rfl⟩
abbrev main_call4_v0 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_12 : Ref sig .tc := ⟨.hbm, 121, rfl⟩
abbrev main_call5_v0 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_13 : Ref sig .tc := ⟨.hbm, 127, rfl⟩
abbrev main_call6_v0 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_14 : Ref sig .tc := ⟨.hbm, 137, rfl⟩
abbrev main_call7_v0 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_c_15 : Ref sig .tc := ⟨.hbm, 142, rfl⟩
abbrev main_call8_v0 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_16 : Ref sig .tc := ⟨.hbm, 148, rfl⟩
abbrev main_call9_v0 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_17 : Ref sig .tc := ⟨.hbm, 154, rfl⟩
abbrev main_call10_v0 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1026 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1026 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KI.Steps.lean ====
module

public import proofs.«01_k».proof.Proof.Gen.KernelIdeal.Skeleton

@[expose] public section

set_option maxRecDepth 65536

noncomputable section

namespace Cert.KernelIdeal

open Idealize.ShloMosaic Idealize.SL.Sem Gen

variable {F : FTy → Type} [FloatOps F]

/-- `n` rows of 128 lanes. -/
abbrev Rw (n : Nat) : Shape := ⟨2, ![n, 128]⟩

theorem Rw_pos {n : Nat} (hn : 0 < n) : 0 < (Rw n).numel := by
  show 0 < ∏ a : Fin 2, (![n, 128] : Fin 2 → Nat) a
  simp [Fin.prod_univ_two, hn]

theorem fr_inb {n r l : Nat} (hr : r + n ≤ 528) (hl : l + 128 ≤ 1024) :
    ∀ a, (![r, l] : Fin 2 → Nat) a + (Rw n).size a ≤ S528x1024.size a :=
  Fin.forall_fin_two.mpr ⟨hr, hl⟩

theorem env_inb {r l : Nat} (hr : r < 8) (hl : l + 128 ≤ 256) :
    ∀ a, (![r, l] : Fin 2 → Nat) a + S1x128.size a ≤ S8x256.size a :=
  Fin.forall_fin_two.mpr ⟨hr, hl⟩

theorem y_inb {n r : Nat} (hr : r + 4 * (n - 1) < 2048) :
    ∀ a, (Rw n).size a = 0 ∨ (![r, 0] : Fin 2 → Nat) a + (![4, 1] : Fin 2 → Nat) a * ((Rw n).size a - 1) < S2048x128.size a :=
  Fin.forall_fin_two.mpr ⟨Or.inr hr, Or.inr (show 0 + 1 * (128 - 1) < 128 by decide)⟩

/-- The quotient stored for `n` rows: the four frames' contributions summed, over the envelope's row. -/
def quot (n : Nat) (spread : FVec F S1x128 .f32 → FVec F (Rw n) .f32) (a b c d : FVec F (Rw n) .f32) (e : FVec F S1x128 .f32) :
    FVec F (Rw n) .f32 :=
  divf (addf (addf (addf a b) c) d) (spread (shapeCast S1x128 e shapeCasts_S1x128_S1x128))

/-- One row is its own spread; -/
def spread1 (e : FVec F S1x128 .f32) : FVec F (Rw 1) .f32 := e
/-- a row over five; -/
def spread5 (e : FVec F S1x128 .f32) : FVec F (Rw 5) .f32 := broadcastTo S5x128 e broadcasts_S1x128_S5x128
/-- a row over eight. -/
def spread8 (e : FVec F S1x128 .f32) : FVec F (Rw 8) .f32 := broadcastTo S8x128 e broadcasts_S1x128_S8x128

section Blk
variable (arg8 : Memref sig .tc .vmem S8x256 .f32) (arg9 : Memref sig .tc .vmem S2048x128 .f32) (arg13 : Memref sig .tc .vmem S528x1024 .f32)

/-- One half-block: `n` rows of the waveform, from frame rows `r … r + n - 1` and lanes `l …`, stored every fourth row from `o`. -/
def blk (n : Nat) (hn : 0 < n) (spread : FVec F S1x128 .f32 → FVec F (Rw n) .f32) (r l q o : Nat)
    (hr : 3 ≤ r ∧ r + n ≤ 528) (hl : l + 128 ≤ 256) (hq : q < 8) (ho : o + 4 * (n - 1) < 2048) :
    Prog (TpuEff nD τ sig (Elt F) Λ₀ .tc) PUnit := do
  let a : Vec F (Rw n) .f32 ← Prog.lift (.load arg13 (Rect.unit (s := S528x1024) ![r, l] (Rw n).size (fr_inb hr.2 (by omega))).toLoadRect (View.loadsAt_vmem (Rw_pos hn)))
  let b : Vec F (Rw n) .f32 ← Prog.lift (.load arg13 (Rect.unit (s := S528x1024) ![r - 1, l + 256] (Rw n).size (fr_inb (by omega) (by omega))).toLoadRect (View.loadsAt_vmem (Rw_pos hn)))
  let c : Vec F (Rw n) .f32 ← Prog.lift (.load arg13 (Rect.unit (s := S528x1024) ![r - 2, l + 512] (Rw n).size (fr_inb (by omega) (by omega))).toLoadRect (View.loadsAt_vmem (Rw_pos hn)))
  let d : Vec F (Rw n) .f32 ← Prog.lift (.load arg13 (Rect.unit (s := S528x1024) ![r - 3, l + 768] (Rw n).size (fr_inb (by omega) (by omega))).toLoadRect (View.loadsAt_vmem (Rw_pos hn)))
  let e : Vec F S1x128 .f32 ← Prog.lift (.load arg8 (Rect.unit (s := S8x256) ![q, l] S1x128.size (env_inb hq hl)).toLoadRect (View.loadsAt_vmem h_S1x128))
  let _ : Vec F (Rw n) .f32 ← Prog.lift (.load arg9 (⟨![o, 0], (Rw n).size, ![4, 1], y_inb ho⟩ : LoadRect S2048x128) (View.loadsAt_vmem (Rw_pos hn)))
  Prog.lift (.store arg9 ⟨(⟨![o, 0], (Rw n).size, ![4, 1], y_inb ho⟩ : LoadRect S2048x128), spos_4_1⟩ (quot n spread a b c d e) Finset.univ (View.stores_vmem_bits_univ (Rw_pos hn) rfl) (.inl rfl))

/-- `k` half-blocks of eight rows from the `h`-th on, the `h`-th at frame row `11 + 8 (h / 2)`. -/
def blks (bi : Nat) (hb : bi < 2) : (k h : Nat) → h + k ≤ 126 → Prog (TpuEff nD τ sig (Elt F) Λ₀ .tc) PUnit
  | 0, _, _ => pure ⟨⟩
  | k + 1, h, hk => do
    blk arg8 arg9 arg13 8 (by omega) spread8 (11 + 8 * (h / 2)) (128 * (h % 2)) 3 (6 + 32 * (h / 2) + 2 * (h % 2) + bi)
      (by omega) (by omega) (by omega) (by omega)
    blks bi hb k (h + 1) (by omega)
end Blk

/-- Rows of a 1024-row array, 64 at a time, -/
theorem sp_inb {R : Nat} (hR : R + 64 ≤ 1024) :
    ∀ a, (![R, 0] : Fin 2 → Nat) a + S64x1026.size a ≤ S1024x1026.size a :=
  Fin.forall_fin_two.mpr ⟨hR, show 0 + 1026 ≤ 1026 by decide⟩

/-- and 512 at a time. -/
theorem sp512_inb {R : Nat} (hR : R + 512 ≤ 1024) :
    ∀ a, (![R, 0] : Fin 2 → Nat) a + S512x1026.size a ≤ S1024x1026.size a :=
  Fin.forall_fin_two.mpr ⟨hR, show 0 + 1026 ≤ 1026 by decide⟩

theorem sp_packed {R : Nat} (hR : R + 64 ≤ 1024) (h2 : 2 ∣ R) :
    (Rect.unit (s := S1024x1026) ![R, 0] S64x1026.size (sp_inb hR)).PackedRows (EltTy.packing .bf16) :=
  Or.inr ⟨Nat.le_refl 2, rfl, Or.inl ⟨h2, show 2 ∣ 64 by decide⟩⟩

theorem xs_inb {b l : Nat} (hb : b < 2) (hl : l + 128 ≤ 512) :
    ∀ a, (![b, l] : Fin 2 → Nat) a + S1x128.size a ≤ S2x512.size a :=
  Fin.forall_fin_two.mpr ⟨hb, hl⟩

/-- The 64 rows of the spectrum stored for the accumulator's 64 rows `a`: scaled by column 0 of `s` from row `o` and by the
    weights' scales `w`, offset by `b`, and turned into magnitude times cosine and sine, rounded. -/
def specPay (o : Nat) (ho : S128x128.Slices ![o, 0] S64x1) (w b : FVec F S1x1026 .f32) (s : FVec F S128x128 .f32)
    (a : Vec F S64x1026 .f32) : FVec F S64x1026 .bf16 :=
  let h : FVec F S64x1026 .f32 := addf (mulf (mulf a (broadcastTo S64x1026 (extractStridedSlice S64x1 ![o, 0] s ho) broadcasts_S64x1_S64x1026))
    (broadcastTo S64x1026 w broadcasts_S1x1026_S64x1026)) (broadcastTo S64x1026 b broadcasts_S1x1026_S64x1026)
  let mag : FVec F S64x513 .f32 := minimumf (exp (extractStridedSlice S64x513 ![0, 0] h slices_S64x1026_o0_0_S64x513))
    (broadcast S64x513 (Scalar.ofBits .f32 0x42C80000#32))
  let ph : FVec F S64x513 .f32 := extractStridedSlice S64x513 ![0, 513] h slices_S64x1026_o0_513_S64x513
  truncf .bf16 (concatenate S64x1026 1 [⟨S64x513, mulf mag (cos ph)⟩, ⟨S64x513, mulf mag (sin ph)⟩]
    concatenates_S64x513_S64x513_S64x1026_d1) bitsLt_bf16_f32

section Spec
variable (arg3 : Memref sig .tc .vmem S2x512 .f32) (arg11 : Memref sig .tc .vmem S1024x1026 .bf16) (harg11 : arg11.IsWhole)
  (arg12 : Memref sig .tc .vmem S1024x1026 .f32)

/-- 64 rows of the spectrum, from row `R`. -/
def specHalf (R o : Nat) (hR : R + 64 ≤ 1024) (h2 : 2 ∣ R) (ho : S128x128.Slices ![o, 0] S64x1) (w b : FVec F S1x1026 .f32) (s : FVec F S128x128 .f32) :
    Prog (TpuEff nD τ sig (Elt F) Λ₀ .tc) PUnit := do
  let a : Vec F S64x1026 .f32 ← Prog.lift (.load arg12 (Rect.unit (s := S1024x1026) ![R, 0] S64x1026.size (sp_inb hR)).toLoadRect (View.loadsAt_vmem h_S64x1026))
  let _ : Vec F S64x1026 .bf16 ← Prog.lift (.load arg11 (Rect.unit (s := S1024x1026) ![R, 0] S64x1026.size (sp_inb hR)).toLoadRect (View.loadsAt_vmem h_S64x1026))
  Prog.lift (.store arg11 (Rect.unit (s := S1024x1026) ![R, 0] S64x1026.size (sp_inb hR)) (specPay o ho w b s a) Finset.univ (View.stores_vmem h_S64x1026 (harg11.storeExact_slice rfl _ (sp_packed hR h2)) (fun _ => rfl)) (.inl rfl))

/-- 128 rows of the spectrum: chunk `ch` of batch `bi`. -/
def specChunk (bi ch : Nat) (hb : bi < 2) (hc : ch < 4) (w b : FVec F S1x1026 .f32) :
    Prog (TpuEff nD τ sig (Elt F) Λ₀ .tc) PUnit := do
  let x : Vec F S1x128 .f32 ← Prog.lift (.load arg3 (Rect.unit (s := S2x512) ![bi, 128 * ch] S1x128.size (xs_inb hb (by omega))).toLoadRect (View.loadsAt_vmem h_S1x128))
  specHalf arg11 harg11 arg12 (512 * bi + 128 * ch) 0 (by omega) (by omega) slices_S128x128_o0_0_S64x1 w b (k0_pay13 x)
  specHalf arg11 harg11 arg12 (512 * bi + 128 * ch + 64) 64 (by omega) (by omega) slices_S128x128_o64_0_S64x1 w b (k0_pay13 x)
end Spec

section Whole
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

/-- The last point's spectrum and frames of batch `bi`: the frames lie between eight zero rows above and below. -/
def batchA (bi : Nat) (hb : bi < 2) (w b : FVec F S1x1026 .f32) (g : FVec F S1x1024 .f32) :
    Prog (TpuEff nD τ sig (Elt F) Λ₀ .tc) PUnit := do
  let _ : Vec F S8x1024 .f32 ← Prog.lift (.load arg13 (Rect.unit (s := S528x1024) ![0, 0] S8x1024.size inb_S528x1024_S8x1024_0_0).toLoadRect (View.loadsAt_vmem h_S8x1024))
  Prog.lift (.store arg13 (Rect.unit (s := S528x1024) ![0, 0] S8x1024.size inb_S528x1024_S8x1024_0_0) (k0_pay11 (F := F)) Finset.univ (View.stores_vmem_bits_univ h_S8x1024 rfl) (.inl rfl))
  let _ : Vec F S8x1024 .f32 ← Prog.lift (.load arg13 (Rect.unit (s := S528x1024) ![520, 0] S8x1024.size inb_S528x1024_S8x1024_520_0).toLoadRect (View.loadsAt_vmem h_S8x1024))
  Prog.lift (.store arg13 (Rect.unit (s := S528x1024) ![520, 0] S8x1024.size inb_S528x1024_S8x1024_520_0) (k0_pay11 (F := F)) Finset.univ (View.stores_vmem_bits_univ h_S8x1024 rfl) (.inl rfl))
  specChunk arg3 arg11 harg11 arg12 bi 0 hb (by decide) w b
  specChunk arg3 arg11 harg11 arg12 bi 1 hb (by decide) w b
  specChunk arg3 arg11 harg11 arg12 bi 2 hb (by decide) w b
  specChunk arg3 arg11 harg11 arg12 bi 3 hb (by decide) w b
  let z : Vec F S512x1026 .bf16 ← Prog.lift (.load arg11 (Rect.unit (s := S1024x1026) ![512 * bi, 0] S512x1026.size (sp512_inb (by omega))).toLoadRect (View.loadsAt_vmem h_S512x1026))
  let m : Vec F S1026x1024 .bf16 ← Prog.lift (.load arg6 (Rect.unit (s := S1026x1024) ![0, 0] S1026x1024.size inb_S1026x1024_S1026x1024_0_0).toLoadRect (View.loadsAt_vmem h_S1026x1024))
  let _ : Vec F S512x1024 .f32 ← Prog.lift (.load arg13 (Rect.unit (s := S528x1024) ![8, 0] S512x1024.size inb_S528x1024_S512x1024_8_0).toLoadRect (View.loadsAt_vmem h_S512x1024))
  Prog.lift (.store arg13 (Rect.unit (s := S528x1024) ![8, 0] S512x1024.size inb_S528x1024_S512x1024_8_0) (k0_pay28 g z m) Finset.univ (View.stores_vmem_bits_univ h_S512x1024 rfl) (.inl rfl))

/-- The last point's waveform of batch `bi`. -/
def batchY (bi : Nat) (hb : bi < 2) : Prog (TpuEff nD τ sig (Elt F) Λ₀ .tc) PUnit := do
  blk arg8 arg9 arg13 1 (by decide) spread1 9 128 1 (0 + bi) (by decide) (by decide) (by decide) (by omega)
  blk arg8 arg9 arg13 1 (by decide) spread1 10 0 2 (2 + bi) (by decide) (by decide) (by decide) (by omega)
  blk arg8 arg9 arg13 1 (by decide) spread1 10 128 2 (4 + bi) (by decide) (by decide) (by decide) (by omega)
  blks arg8 arg9 arg13 bi hb 126 0 (by decide)
  blk arg8 arg9 arg13 5 (by decide) spread5 515 0 3 (2022 + bi) (by decide) (by decide) (by decide) (by omega)
  blk arg8 arg9 arg13 5 (by decide) spread5 515 128 3 (2024 + bi) (by decide) (by decide) (by decide) (by omega)
  blk arg8 arg9 arg13 1 (by decide) spread1 520 0 4 (2042 + bi) (by decide) (by decide) (by decide) (by omega)
  blk arg8 arg9 arg13 1 (by decide) spread1 520 128 4 (2044 + bi) (by decide) (by decide) (by decide) (by omega)
  blk arg8 arg9 arg13 1 (by decide) spread1 521 0 5 (2046 + bi) (by decide) (by decide) (by decide) (by omega)

/-- The first and the last sixteen rows of the waveform, copied. -/
def endsStep : Prog (TpuEff nD τ sig (Elt F) Λ₀ .tc) PUnit := do
  let u : Vec F S16x128 .f32 ← Prog.lift (.load arg9 (Rect.unit (s := S2048x128) ![0, 0] S16x128.size inb_S2048x128_S16x128_0_0).toLoadRect (View.loadsAt_vmem h_S16x128))
  let _ : Vec F S16x128 .f32 ← Prog.lift (.load arg10 (Rect.unit (s := S32x128) ![0, 0] S16x128.size inb_S32x128_S16x128_0_0).toLoadRect (View.loadsAt_vmem h_S16x128))
  Prog.lift (.store arg10 (Rect.unit (s := S32x128) ![0, 0] S16x128.size inb_S32x128_S16x128_0_0) (k0_pay5 u) Finset.univ (View.stores_vmem_bits_univ h_S16x128 rfl) (.inl rfl))
  let u : Vec F S16x128 .f32 ← Prog.lift (.load arg9 (Rect.unit (s := S2048x128) ![2032, 0] S16x128.size inb_S2048x128_S16x128_2032_0).toLoadRect (View.loadsAt_vmem h_S16x128))
  let _ : Vec F S16x128 .f32 ← Prog.lift (.load arg10 (Rect.unit (s := S32x128) ![16, 0] S16x128.size inb_S32x128_S16x128_16_0).toLoadRect (View.loadsAt_vmem h_S16x128))
  Prog.lift (.store arg10 (Rect.unit (s := S32x128) ![16, 0] S16x128.size inb_S32x128_S16x128_16_0) (k0_pay6 u) Finset.univ (View.stores_vmem_bits_univ h_S16x128 rfl) (.inl rfl))

/-- The last point's work after the accumulator is complete. -/
def lastStep : Prog (TpuEff nD τ sig (Elt F) Λ₀ .tc) PUnit := do
  let w : Vec F S1x1026 .f32 ← Prog.lift (.load arg4 (Rect.unit (s := S1x1026) ![0, 0] S1x1026.size inb_S1x1026_S1x1026_0_0).toLoadRect (View.loadsAt_vmem h_S1x1026))
  let b : Vec F S1x1026 .f32 ← Prog.lift (.load arg5 (Rect.unit (s := S1x1026) ![0, 0] S1x1026.size inb_S1x1026_S1x1026_0_0).toLoadRect (View.loadsAt_vmem h_S1x1026))
  let g : Vec F S1x1024 .f32 ← Prog.lift (.load arg7 (Rect.unit (s := S1x1024) ![0, 0] S1x1024.size inb_S1x1024_S1x1024_0_0).toLoadRect (View.loadsAt_vmem h_S1x1024))
  batchA arg3 arg6 arg11 harg11 arg12 arg13 0 (by decide) (k0_pay7 w) (k0_pay8 b) (k0_pay9 g)
  batchY arg8 arg9 arg13 0 (by decide)
  batchA arg3 arg6 arg11 harg11 arg12 arg13 1 (by decide) (k0_pay7 w) (k0_pay8 b) (k0_pay9 g)
  batchY arg8 arg9 arg13 1 (by decide)
  endsStep arg9 arg10

/-- Every point's work: the point's product, put in the accumulator at the first point and added to it later. -/
def accStep : Prog (TpuEff nD τ sig (Elt F) Λ₀ .tc) PUnit := do
  let arg0 : BitVec 32 := BitVec.ofNat 32 (i 0).val
  let v0 : Vec F S1024x512 .fp8e4m3 ← Prog.lift (.load arg1 (Rect.unit (s := S1024x512) ![0, 0] S1024x512.size inb_S1024x512_S1024x512_0_0).toLoadRect (View.loadsAt_vmem h_S1024x512))
  let v2 : Vec F S512x1026 .fp8e4m3 ← Prog.lift (.load arg2 (Rect.unit (s := S512x1026) ![0, 0] S512x1026.size inb_S512x1026_S512x1026_0_0).toLoadRect (View.loadsAt_vmem h_S512x1026))
  if k0_h1 : Scalar.cmpi .ne (Scalar.extui (Scalar.cmpi .eq arg0 0#32)) 0#32 = 1#1 then do
    let _ : Vec F S1024x1026 .f32 ← Prog.lift (.load arg12 (Rect.unit (s := S1024x1026) ![0, 0] S1024x1026.size inb_S1024x1026_S1024x1026_0_0).toLoadRect (View.loadsAt_vmem h_S1024x1026))
    Prog.lift (.store arg12 (Rect.unit (s := S1024x1026) ![0, 0] S1024x1026.size inb_S1024x1026_S1024x1026_0_0) (k0_pay2 v0 v2) Finset.univ (View.stores_vmem_bits_univ h_S1024x1026 rfl) (.inl rfl))
    pure ⟨⟩
  else do
    pure ⟨⟩
  if k0_h2 : Scalar.cmpi .ne (Scalar.extui (Scalar.cmpi .sgt arg0 0#32)) 0#32 = 1#1 then do
    let v13 : Vec F S1024x1026 .f32 ← Prog.lift (.load arg12 (Rect.unit (s := S1024x1026) ![0, 0] S1024x1026.size inb_S1024x1026_S1024x1026_0_0).toLoadRect (View.loadsAt_vmem h_S1024x1026))
    let _ : Vec F S1024x1026 .f32 ← Prog.lift (.load arg12 (Rect.unit (s := S1024x1026) ![0, 0] S1024x1026.size inb_S1024x1026_S1024x1026_0_0).toLoadRect (View.loadsAt_vmem h_S1024x1026))
    Prog.lift (.store arg12 (Rect.unit (s := S1024x1026) ![0, 0] S1024x1026.size inb_S1024x1026_S1024x1026_0_0) (k0_pay3 v0 v2 v13) Finset.univ (View.stores_vmem_bits_univ h_S1024x1026 rfl) (.inl rfl))
    pure ⟨⟩
  else do
    pure ⟨⟩

/-- The last point's work as the program prints it, part after part. -/
def lastPrinted : Prog (TpuEff nD τ sig (Elt F) Λ₀ .tc) PUnit := do
  let ⟨v14, v16, v18, v19, v1803⟩ : Σ' (v14 : FVec F S1x1026 .f32) (v16 : FVec F S1x1026 .f32) (v18 : FVec F S1x1024 .f32) (v19 : FVec F S8x1024 .f32), Vec F S1x128 .f32 ← k0_part121 i arg1 harg1 arg2 harg2 arg3 harg3 arg4 harg4 arg5 harg5 arg6 harg6 arg7 harg7 arg8 harg8 arg9 harg9 arg10 harg10 arg11 harg11 arg12 harg12 arg13 harg13
  let v3595 : FVec F S1x128 .f32 ← k0_part122 i arg1 harg1 arg2 harg2 arg3 harg3 arg4 harg4 arg5 harg5 arg6 harg6 arg7 harg7 arg8 harg8 arg9 harg9 arg10 harg10 arg11 harg11 arg12 harg12 arg13 harg13 v14 v16 v18 v19 v1803
  let v3596 : Vec F S1x128 .f32 ← Prog.lift (.load arg9 (⟨![2045, 0], S1x128.size, ![4, 1], inb_S2048x128_S1x128_2045_0_s_4_1⟩ : LoadRect S2048x128) (View.loadsAt_vmem h_S1x128))
  Prog.lift (.store arg9 ⟨(⟨![2045, 0], S1x128.size, ![4, 1], inb_S2048x128_S1x128_2045_0_s_4_1⟩ : LoadRect S2048x128), spos_4_1⟩ v3595 Finset.univ (View.stores_vmem_bits_univ h_S1x128 rfl) (.inl rfl))
  let v3597 : Vec F S1x128 .f32 ← Prog.lift (.load arg13 (Rect.unit (s := S528x1024) ![521, 0] S1x128.size inb_S528x1024_S1x128_521_0).toLoadRect (View.loadsAt_vmem h_S1x128))
  let v3598 : Vec F S1x128 .f32 ← Prog.lift (.load arg13 (Rect.unit (s := S528x1024) ![520, 256] S1x128.size inb_S528x1024_S1x128_520_256).toLoadRect (View.loadsAt_vmem h_S1x128))
  let v3600 : Vec F S1x128 .f32 ← Prog.lift (.load arg13 (Rect.unit (s := S528x1024) ![519, 512] S1x128.size inb_S528x1024_S1x128_519_512).toLoadRect (View.loadsAt_vmem h_S1x128))
  let v3602 : Vec F S1x128 .f32 ← Prog.lift (.load arg13 (Rect.unit (s := S528x1024) ![518, 768] S1x128.size inb_S528x1024_S1x128_518_768).toLoadRect (View.loadsAt_vmem h_S1x128))
  let v3604 : Vec F S1x128 .f32 ← Prog.lift (.load arg8 (Rect.unit (s := S8x256) ![5, 0] S1x128.size inb_S8x256_S1x128_5_0).toLoadRect (View.loadsAt_vmem h_S1x128))
  let v3607 : Vec F S1x128 .f32 ← Prog.lift (.load arg9 (⟨![2047, 0], S1x128.size, ![4, 1], inb_S2048x128_S1x128_2047_0_s_4_1⟩ : LoadRect S2048x128) (View.loadsAt_vmem h_S1x128))
  Prog.lift (.store arg9 ⟨(⟨![2047, 0], S1x128.size, ![4, 1], inb_S2048x128_S1x128_2047_0_s_4_1⟩ : LoadRect S2048x128), spos_4_1⟩ (k0_pay4 v3597 v3598 v3600 v3602 v3604) Finset.univ (View.stores_vmem_bits_univ h_S1x128 rfl) (.inl rfl))
  let v3608 : Vec F S16x128 .f32 ← Prog.lift (.load arg9 (Rect.unit (s := S2048x128) ![0, 0] S16x128.size inb_S2048x128_S16x128_0_0).toLoadRect (View.loadsAt_vmem h_S16x128))
  let v3610 : Vec F S16x128 .f32 ← Prog.lift (.load arg10 (Rect.unit (s := S32x128) ![0, 0] S16x128.size inb_S32x128_S16x128_0_0).toLoadRect (View.loadsAt_vmem h_S16x128))
  Prog.lift (.store arg10 (Rect.unit (s := S32x128) ![0, 0] S16x128.size inb_S32x128_S16x128_0_0) (k0_pay5 v3608) Finset.univ (View.stores_vmem_bits_univ h_S16x128 rfl) (.inl rfl))
  let v3611 : Vec F S16x128 .f32 ← Prog.lift (.load arg9 (Rect.unit (s := S2048x128) ![2032, 0] S16x128.size inb_S2048x128_S16x128_2032_0).toLoadRect (View.loadsAt_vmem h_S16x128))
  let v3613 : Vec F S16x128 .f32 ← Prog.lift (.load arg10 (Rect.unit (s := S32x128) ![16, 0] S16x128.size inb_S32x128_S16x128_16_0).toLoadRect (View.loadsAt_vmem h_S16x128))
  Prog.lift (.store arg10 (Rect.unit (s := S32x128) ![16, 0] S16x128.size inb_S32x128_S16x128_16_0) (k0_pay6 v3611) Finset.univ (View.stores_vmem_bits_univ h_S16x128 rfl) (.inl rfl))
  pure ⟨⟩

end Whole

/-- Consecutive runs of half-blocks are one run. -/
theorem blks_append (arg8 : Memref sig .tc .vmem S8x256 .f32) (arg9 : Memref sig .tc .vmem S2048x128 .f32)
    (arg13 : Memref sig .tc .vmem S528x1024 .f32) (bi : Nat) (hb : bi < 2) : ∀ (k h k' h' : Nat) (hk : h + k ≤ 126) (hk' : h' + k' ≤ 126)
    (_ : h' = h + k) (n : Nat) (hn : h + n ≤ 126) (_ : n = k + k'),
    (blks (F := F) arg8 arg9 arg13 bi hb k h hk >>= fun _ => blks arg8 arg9 arg13 bi hb k' h' hk') = blks arg8 arg9 arg13 bi hb n h hn
  | 0, h, k', h', hk, hk', e, n, hn, en => by
    obtain rfl : h' = h := by omega
    obtain rfl : n = k' := by omega
    rfl
  | k + 1, h, k', h', hk, hk', e, n, hn, en => by
    obtain ⟨n, rfl⟩ : ∃ n', n = n' + 1 := ⟨n - 1, by omega⟩
    rw [blks, blks, Prog.bind_assoc]
    simp only [blks_append arg8 arg9 arg13 bi hb k (h + 1) k' h' (by omega) hk' (by omega) n (by omega) (by omega)]

end Cert.KernelIdeal

end
-- ==== Proof.KI.Own.lean ====
module

public import proofs.«01_k».proof.Proof.KI.Steps
public import Idealize.ShloMosaic.Lib.Ring
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

/-! ## Arrays read and overwritten at a rectangle -/

/-- The array `X` read at the coordinates `r`. -/
def ld {s : Shape} {A : Type} (X : s.Idx → A) (r : LoadRect s) : r.shape.Idx → A := fun x => X (r.idx x)

/-- The array `X` with `w` written at the rectangle `r`. -/
def upd {s : Shape} {A : Type} (X : s.Idx → A) (r : Rect s) (w : r.shape.Idx → A) : s.Idx → A := fun y =>
  match preimage? r.emb y with
  | some x => w x
  | none => X y

theorem upd_emb {s : Shape} {A : Type} (X : s.Idx → A) (r : Rect s) (w : r.shape.Idx → A) (x : r.shape.Idx) :
    upd X r w (r.emb x) = w x := by
  unfold upd; rw [preimage?_emb]

theorem upd_hit {s : Shape} {A : Type} (X : s.Idx → A) (r : Rect s) (w : r.shape.Idx → A) (x : r.shape.Idx) (y : s.Idx)
    (h : ∀ a, (y a).val = r.off a + r.stride a * (x a).val) : upd X r w y = w x := by
  obtain rfl := r.emb_eq_of_coords x y h
  exact upd_emb X r w x

theorem upd_miss {s : Shape} {A : Type} (X : s.Idx → A) (r : Rect s) (w : r.shape.Idx → A) (y : s.Idx)
    (h : y ∉ r.set) : upd X r w y = X y := by
  unfold upd
  rw [preimage?_eq_none (emb := r.emb) (y := y) fun x hx => h (by rw [← hx]; exact r.idx_mem x)]

/-! ## Whole arrays -/

/-- Read at all of its coordinates an array is itself; -/
theorem ld_whole {s : Shape} {A : Type} (X : s.Idx → A) {off : Fin s.rank → ℕ} (h : ∀ a, off a + s.size a ≤ s.size a) :
    ld X (Rect.unit (s := s) off s.size h).toLoadRect = X := by
  funext x
  show X ((Rect.unit (s := s) off s.size h).toLoadRect.idx x) = X x
  refine congrArg X (funext fun a => Fin.ext ?_)
  show off a + 1 * (x a).val = (x a).val
  have := h a
  omega

/-- overwritten at all of them it is what was written. -/
theorem upd_whole {s : Shape} {A : Type} (X w : s.Idx → A) {off : Fin s.rank → ℕ} (h : ∀ a, off a + s.size a ≤ s.size a) :
    upd X (Rect.unit (s := s) off s.size h) w = w := by
  funext x
  refine upd_hit X (Rect.unit (s := s) off s.size h) w x x fun a => ?_
  show (x a).val = off a + 1 * (x a).val
  have := h a
  omega

variable {F : FTy → Type} [FloatOps F]

theorem read_write_upd {sp : Space} {s : Shape} {e : EltTy} (v : View sig .tc sp s e) (f : v.ty.Contents (Elt F)) (r : Rect s)
    (w : r.shape.Idx → Elt F e) :
    v.read (Elt F) ((v.slice r).write (Elt F) f w Finset.univ) = upd (v.read (Elt F) f) r w := by
  funext y
  by_cases hy : y ∈ r.set
  · obtain ⟨x, rfl⟩ := r.exists_idx_of_mem hy
    refine Eq.trans ?_ (upd_emb _ r w x).symm
    exact View.read_slice_write_emb r f w (Finset.mem_univ x)
  · rw [upd_miss _ _ _ _ hy]
    exact View.read_slice_write_of_not_mem r f w _ (by rwa [Rect.map_emb_univ])

local notation "𝕄" => MT nD τ sig Unit (Elt F) ℕ (UR sig nD τ) ℕ

variable (c : Dev nD) (E : Set ℕ)

/-- A load hands its continuation the array read at its coordinates. -/
theorem wp_ld {s : Shape} {e : EltTy} (m : Memref sig .tc .vmem s e) (X : s.Idx → Elt F e) (r : LoadRect s)
    (hl : m.view.LoadsAt r) (Φ : (r.shape.Idx → Elt F e) → sProp 𝕄) :
    iprop(owns (c : Thread nD τ) m fullShare X ∗ (owns (c : Thread nD τ) m fullShare X -∗ Φ (ld X r)))
      ⊢ wp frame (wpE (defs₀ (F := F)) Variants.none c none) E (Prog.lift (.load m r hl)) Φ := by
  unfold owns Prog.lift
  iintro ⟨⟨%f, %hf, H⟩, Hk⟩
  subst hf
  have e : ld (m.view.read (Elt F) f) r = m.view.readAt (Elt F) r f := rfl
  rw [e]
  sl_step
  sl_step
  iapply Hk
  iexists f
  isplitr
  · ipureintro; rfl
  iexact H

/-- Nothing to do. -/
theorem wp_nop (Φ : PUnit → sProp 𝕄) :
    Φ ⟨⟩ ⊢ wp frame (wpE (defs₀ (F := F)) Variants.none c none) E (pure ⟨⟩) Φ := by
  iintro H
  sl_step
  iexact H

/-- A store leaves the array overwritten at its rectangle. -/
theorem wp_st {s : Shape} {e : EltTy} (m : Memref sig .tc .vmem s e) (X : s.Idx → Elt F e) (r : Rect s) (w : r.shape.Idx → Elt F e)
    (hx : (m.access r).Stores Finset.univ) (hm : Finset.univ = Finset.univ ∨ ∀ a, r.stride a = 1) (Φ : PUnit → sProp 𝕄) :
    iprop(owns (c : Thread nD τ) m fullShare X ∗ (owns (c : Thread nD τ) m fullShare (upd X r w) -∗ Φ ⟨⟩))
      ⊢ wp frame (wpE (defs₀ (F := F)) Variants.none c none) E (Prog.lift (.store m r w Finset.univ hx hm)) Φ := by
  unfold owns Prog.lift
  iintro ⟨⟨%f, %hf, H⟩, Hk⟩
  subst hf
  sl_step
  sl_step
  iapply Hk
  iexists _
  isplitr
  swap; · iexact H
  ipureintro
  exact read_write_upd m.view f r w

end Cert.KernelIdeal

end
-- ==== Proof.KI.Triples.lean ====
module

public import proofs.«01_k».proof.Proof.KI.Own
public import Idealize.ShloMosaic.Lib.Ring
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-! ## What the steps leave -/

/-- The rectangle of the frame scratch a half-block of `n` rows reads. -/
abbrev frR (n r l : Nat) (hr : r + n ≤ 528) (hl : l + 128 ≤ 1024) : Rect S528x1024 :=
  Rect.unit (s := S528x1024) ![r, l] (Rw n).size (fr_inb hr hl)

/-- The rows of the waveform a half-block of `n` rows writes: from `o`, every fourth. -/
abbrev yR (n o : Nat) (ho : o + 4 * (n - 1) < 2048) : Rect S2048x128 :=
  ⟨(⟨![o, 0], (Rw n).size, ![4, 1], y_inb ho⟩ : LoadRect S2048x128), spos_4_1⟩

/-- The waveform after one half-block. -/
def blkS (n : Nat) (spread : FVec F S1x128 .f32 → FVec F (Rw n) .f32) (r l q o : Nat)
    (hr : 3 ≤ r ∧ r + n ≤ 528) (hl : l + 896 ≤ 1024) (hq : q < 8) (ho : o + 4 * (n - 1) < 2048)
    (N : Vec F S8x256 .f32) (Z : Vec F S528x1024 .f32) (Y : Vec F S2048x128 .f32) : Vec F S2048x128 .f32 :=
  upd Y (yR n o ho) (quot n spread (ld Z (frR n r l (by omega) (by omega)).toLoadRect)
    (ld Z (frR n (r - 1) (l + 256) (by omega) (by omega)).toLoadRect) (ld Z (frR n (r - 2) (l + 512) (by omega) (by omega)).toLoadRect)
    (ld Z (frR n (r - 3) (l + 768) (by omega) (by omega)).toLoadRect)
    (ld N (Rect.unit (s := S8x256) ![q, l] S1x128.size (env_inb hq (by omega))).toLoadRect))

/-- The waveform after `k` half-blocks of eight rows, from the `h`-th. -/
def blksS (bi : Nat) (hb : bi < 2) (N : Vec F S8x256 .f32) (Z : Vec F S528x1024 .f32) :
    (k h : Nat) → h + k ≤ 126 → Vec F S2048x128 .f32 → Vec F S2048x128 .f32
  | 0, _, _, Y => Y
  | k + 1, h, hk, Y => blksS bi hb N Z k (h + 1) (by omega)
      (blkS 8 spread8 (11 + 8 * (h / 2)) (128 * (h % 2)) 3 (6 + 32 * (h / 2) + 2 * (h % 2) + bi)
        (by omega) (by omega) (by omega) (by omega) N Z Y)

/-- The waveform after a batch. -/
def batchYS (bi : Nat) (hb : bi < 2) (N : Vec F S8x256 .f32) (Z : Vec F S528x1024 .f32) (Y : Vec F S2048x128 .f32) : Vec F S2048x128 .f32 :=
  blkS 1 spread1 521 0 5 (2046 + bi) (by decide) (by decide) (by decide) (by omega) N Z
    (blkS 1 spread1 520 128 4 (2044 + bi) (by decide) (by decide) (by decide) (by omega) N Z
    (blkS 1 spread1 520 0 4 (2042 + bi) (by decide) (by decide) (by decide) (by omega) N Z
    (blkS 5 spread5 515 128 3 (2024 + bi) (by decide) (by decide) (by decide) (by omega) N Z
    (blkS 5 spread5 515 0 3 (2022 + bi) (by decide) (by decide) (by decide) (by omega) N Z
    (blksS bi hb N Z 126 0 (by decide)
    (blkS 1 spread1 10 128 2 (4 + bi) (by decide) (by decide) (by decide) (by omega) N Z
    (blkS 1 spread1 10 0 2 (2 + bi) (by decide) (by decide) (by decide) (by omega) N Z
    (blkS 1 spread1 9 128 1 (0 + bi) (by decide) (by decide) (by decide) (by omega) N Z
    Y))))))))

/-- 64 rows of the spectrum, from row `R`. -/
abbrev spR (R : Nat) (hR : R + 64 ≤ 1024) : Rect S1024x1026 := Rect.unit (s := S1024x1026) ![R, 0] S64x1026.size (sp_inb hR)

/-- The spectrum after 64 rows, -/
def specHalfS (R o : Nat) (hR : R + 64 ≤ 1024) (ho : S128x128.Slices ![o, 0] S64x1) (w b : FVec F S1x1026 .f32) (s : FVec F S128x128 .f32)
    (A : Vec F S1024x1026 .f32) (S : Vec F S1024x1026 .bf16) : Vec F S1024x1026 .bf16 :=
  upd S (spR R hR) (specPay o ho w b s (ld A (spR R hR).toLoadRect))

/-- after 128 rows, -/
def specChunkS (bi ch : Nat) (hb : bi < 2) (hc : ch < 4) (w b : FVec F S1x1026 .f32) (X : Vec F S2x512 .f32)
    (A : Vec F S1024x1026 .f32) (S : Vec F S1024x1026 .bf16) : Vec F S1024x1026 .bf16 :=
  specHalfS (512 * bi + 128 * ch + 64) 64 (by omega) slices_S128x128_o64_0_S64x1 w b
    (k0_pay13 (ld X (Rect.unit (s := S2x512) ![bi, 128 * ch] S1x128.size (xs_inb hb (by omega))).toLoadRect)) A
    (specHalfS (512 * bi + 128 * ch) 0 (by omega) slices_S128x128_o0_0_S64x1 w b
      (k0_pay13 (ld X (Rect.unit (s := S2x512) ![bi, 128 * ch] S1x128.size (xs_inb hb (by omega))).toLoadRect)) A S)

/-- after a batch. -/
def specS (bi : Nat) (hb : bi < 2) (w b : FVec F S1x1026 .f32) (X : Vec F S2x512 .f32)
    (A : Vec F S1024x1026 .f32) (S : Vec F S1024x1026 .bf16) : Vec F S1024x1026 .bf16 :=
  specChunkS bi 3 hb (by decide) w b X A (specChunkS bi 2 hb (by decide) w b X A
    (specChunkS bi 1 hb (by decide) w b X A (specChunkS bi 0 hb (by decide) w b X A S)))

/-- The frame scratch after a batch's spectrum `S`. -/
def frS (bi : Nat) (hb : bi < 2) (g : FVec F S1x1024 .f32) (M : Vec F S1026x1024 .bf16) (S : Vec F S1024x1026 .bf16)
    (Z : Vec F S528x1024 .f32) : Vec F S528x1024 .f32 :=
  upd (upd (upd Z (Rect.unit (s := S528x1024) ![0, 0] S8x1024.size inb_S528x1024_S8x1024_0_0) (k0_pay11 (F := F)))
      (Rect.unit (s := S528x1024) ![520, 0] S8x1024.size inb_S528x1024_S8x1024_520_0) (k0_pay11 (F := F)))
    (Rect.unit (s := S528x1024) ![8, 0] S512x1024.size inb_S528x1024_S512x1024_8_0)
    (k0_pay28 g (ld S (Rect.unit (s := S1024x1026) ![512 * bi, 0] S512x1026.size (sp512_inb (by omega))).toLoadRect)
      (ld M (Rect.unit (s := S1026x1024) ![0, 0] S1026x1024.size inb_S1026x1024_S1026x1024_0_0).toLoadRect))

/-- The ends of the waveform. -/
def endsS (Y : Vec F S2048x128 .f32) (e : Vec F S32x128 .f32) : Vec F S32x128 .f32 :=
  upd (upd e (Rect.unit (s := S32x128) ![0, 0] S16x128.size inb_S32x128_S16x128_0_0)
      (k0_pay5 (ld Y (Rect.unit (s := S2048x128) ![0, 0] S16x128.size inb_S2048x128_S16x128_0_0).toLoadRect)))
    (Rect.unit (s := S32x128) ![16, 0] S16x128.size inb_S32x128_S16x128_16_0)
    (k0_pay6 (ld Y (Rect.unit (s := S2048x128) ![2032, 0] S16x128.size inb_S2048x128_S16x128_2032_0).toLoadRect))

/-- The row of `W` read whole. -/
abbrev row1 (W : Vec F S1x1026 .f32) : Vec F S1x1026 .f32 := ld W (Rect.unit (s := S1x1026) ![0, 0] S1x1026.size inb_S1x1026_S1x1026_0_0).toLoadRect
abbrev rowG (G : Vec F S1x1024 .f32) : Vec F S1x1024 .f32 := ld G (Rect.unit (s := S1x1024) ![0, 0] S1x1024.size inb_S1x1024_S1x1024_0_0).toLoadRect

/-- The spectrum after batch 0, -/
def lastS0 (X : Vec F S2x512 .f32) (W B : Vec F S1x1026 .f32) (A : Vec F S1024x1026 .f32) (S : Vec F S1024x1026 .bf16) : Vec F S1024x1026 .bf16 :=
  specS 0 (by decide) (k0_pay7 (row1 W)) (k0_pay8 (row1 B)) X A S
/-- after both; -/
def lastS (X : Vec F S2x512 .f32) (W B : Vec F S1x1026 .f32) (A : Vec F S1024x1026 .f32) (S : Vec F S1024x1026 .bf16) : Vec F S1024x1026 .bf16 :=
  specS 1 (by decide) (k0_pay7 (row1 W)) (k0_pay8 (row1 B)) X A (lastS0 X W B A S)
/-- the frames of batch 0, -/
def lastZ0 (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) : Vec F S528x1024 .f32 :=
  frS 0 (by decide) (k0_pay9 (rowG G)) M (lastS0 X W B A S) Z
/-- of batch 1; -/
def lastZ (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) : Vec F S528x1024 .f32 :=
  frS 1 (by decide) (k0_pay9 (rowG G)) M (lastS X W B A S) (lastZ0 X W B M G A S Z)
/-- the waveform. -/
def lastY (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) : Vec F S2048x128 .f32 :=
  batchYS 1 (by decide) N (lastZ X W B M G A S Z) (batchYS 0 (by decide) N (lastZ0 X W B M G A S Z) Y)

/-! ## The steps leave it -/

section
variable (c : Dev nD) (E : Set ℕ)

/-- A half-block. -/
theorem wp_blk (arg8 : Memref sig .tc .vmem S8x256 .f32) (arg9 : Memref sig .tc .vmem S2048x128 .f32) (arg13 : Memref sig .tc .vmem S528x1024 .f32) (n : Nat) (hn : 0 < n) (spread : FVec F S1x128 .f32 → FVec F (Rw n) .f32) (r l q o : Nat)
    (hr : 3 ≤ r ∧ r + n ≤ 528) (hl : l + 128 ≤ 256) (hq : q < 8) (ho : o + 4 * (n - 1) < 2048)
    (N : Vec F S8x256 .f32) (Z : Vec F S528x1024 .f32) (Y : Vec F S2048x128 .f32) (Φ : PUnit → sProp 𝕄) :
    iprop(owns (c : Thread nD τ) arg8 fullShare N ∗ owns (c : Thread nD τ) arg9 fullShare Y ∗ owns (c : Thread nD τ) arg13 fullShare Z ∗ (iprop(owns (c : Thread nD τ) arg8 fullShare N ∗ owns (c : Thread nD τ) arg9 fullShare (blkS n spread r l q o hr (by omega) hq ho N Z Y) ∗ owns (c : Thread nD τ) arg13 fullShare Z) -∗ Φ ⟨⟩))
      ⊢ wp frame (wpE (defs₀ (F := F)) Variants.none c none) E (blk arg8 arg9 arg13 n hn spread r l q o hr hl hq ho) Φ := by
  unfold blk
  iintro ⟨H8, H9, H13, Hk⟩
  rw [wp_bind]
  iapply (wp_ld c E arg13 _ _ _ _)
  isplitl [H13]; · iexact H13
  iintro H13
  rw [wp_bind]
  iapply (wp_ld c E arg13 _ _ _ _)
  isplitl [H13]; · iexact H13
  iintro H13
  rw [wp_bind]
  iapply (wp_ld c E arg13 _ _ _ _)
  isplitl [H13]; · iexact H13
  iintro H13
  rw [wp_bind]
  iapply (wp_ld c E arg13 _ _ _ _)
  isplitl [H13]; · iexact H13
  iintro H13
  rw [wp_bind]
  iapply (wp_ld c E arg8 _ _ _ _)
  isplitl [H8]; · iexact H8
  iintro H8
  rw [wp_bind]
  iapply (wp_ld c E arg9 _ _ _ _)
  isplitl [H9]; · iexact H9
  iintro H9
  iapply (wp_st c E arg9 _ _ _ _ _ _)
  isplitl [H9]; · iexact H9
  iintro H9
  iapply Hk
  isplitl [H8]; · iexact H8
  isplitl [H9]; · iexact H9
  iexact H13

/-- A run of half-blocks. -/
theorem wp_blks (arg8 : Memref sig .tc .vmem S8x256 .f32) (arg9 : Memref sig .tc .vmem S2048x128 .f32) (arg13 : Memref sig .tc .vmem S528x1024 .f32) (bi : Nat) (hb : bi < 2) (N : Vec F S8x256 .f32) (Z : Vec F S528x1024 .f32) (k h : Nat) (hk : h + k ≤ 126) (Y : Vec F S2048x128 .f32) (Φ : PUnit → sProp 𝕄) :
    iprop(owns (c : Thread nD τ) arg8 fullShare N ∗ owns (c : Thread nD τ) arg9 fullShare Y ∗ owns (c : Thread nD τ) arg13 fullShare Z ∗ (iprop(owns (c : Thread nD τ) arg8 fullShare N ∗ owns (c : Thread nD τ) arg9 fullShare (blksS bi hb N Z k h hk Y) ∗ owns (c : Thread nD τ) arg13 fullShare Z) -∗ Φ ⟨⟩))
      ⊢ wp frame (wpE (defs₀ (F := F)) Variants.none c none) E (blks arg8 arg9 arg13 bi hb k h hk) Φ := by
  induction k generalizing h Y with
  | zero =>
    unfold blks blksS
    iintro ⟨H8, H9, H13, Hk⟩
    iapply (wp_nop c E _)
    iapply Hk
    isplitl [H8]; · iexact H8
    isplitl [H9]; · iexact H9
    iexact H13
  | succ k ih =>
    unfold blks blksS
    iintro ⟨H8, H9, H13, Hk⟩
    rw [wp_bind]
    iapply (wp_blk c E arg8 arg9 arg13 8 _ spread8 _ _ _ _ _ _ _ _ N Z Y _)
    isplitl [H8]; · iexact H8
    isplitl [H9]; · iexact H9
    isplitl [H13]; · iexact H13
    iintro ⟨H8, H9, H13⟩
    iapply (ih (h + 1) _ _)
    isplitl [H8]; · iexact H8
    isplitl [H9]; · iexact H9
    isplitl [H13]; · iexact H13
    iintro ⟨H8, H9, H13⟩
    iapply Hk
    isplitl [H8]; · iexact H8
    isplitl [H9]; · iexact H9
    iexact H13

/-- A batch's waveform. -/
theorem wp_batchY (arg8 : Memref sig .tc .vmem S8x256 .f32) (arg9 : Memref sig .tc .vmem S2048x128 .f32) (arg13 : Memref sig .tc .vmem S528x1024 .f32) (bi : Nat) (hb : bi < 2) (N : Vec F S8x256 .f32) (Z : Vec F S528x1024 .f32) (Y : Vec F S2048x128 .f32) (Φ : PUnit → sProp 𝕄) :
    iprop(owns (c : Thread nD τ) arg8 fullShare N ∗ owns (c : Thread nD τ) arg9 fullShare Y ∗ owns (c : Thread nD τ) arg13 fullShare Z ∗ (iprop(owns (c : Thread nD τ) arg8 fullShare N ∗ owns (c : Thread nD τ) arg9 fullShare (batchYS bi hb N Z Y) ∗ owns (c : Thread nD τ) arg13 fullShare Z) -∗ Φ ⟨⟩))
      ⊢ wp frame (wpE (defs₀ (F := F)) Variants.none c none) E (batchY arg8 arg9 arg13 bi hb) Φ := by
  unfold batchY batchYS
  iintro ⟨H8, H9, H13, Hk⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blks c E arg8 arg9 arg13 bi hb N Z _ _ _ _ _)
  isplitl [H8]; · iexact H8
  isplitl [H9]; · iexact H9
  isplitl [H13]; · iexact H13
  iintro ⟨H8, H9, H13⟩
  rw [wp_bind]
  iapply (wp_blk c E arg8 arg9 arg13 5 _ spread5 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 5 _ spread5 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  iapply Hk
  isplitl [H8]; · iexact H8
  isplitl [H9]; · iexact H9
  iexact H13

/-- 64 rows of the spectrum. -/
theorem wp_specHalf (arg11 : Memref sig .tc .vmem S1024x1026 .bf16) (harg11 : arg11.IsWhole)
    (arg12 : Memref sig .tc .vmem S1024x1026 .f32) (R o : Nat) (hR : R + 64 ≤ 1024) (h2 : 2 ∣ R) (ho : S128x128.Slices ![o, 0] S64x1)
    (w b : FVec F S1x1026 .f32) (s : FVec F S128x128 .f32) (A : Vec F S1024x1026 .f32) (S : Vec F S1024x1026 .bf16) (Φ : PUnit → sProp 𝕄) :
    iprop(owns (c : Thread nD τ) arg11 fullShare S ∗ owns (c : Thread nD τ) arg12 fullShare A ∗ (iprop(owns (c : Thread nD τ) arg11 fullShare (specHalfS R o hR ho w b s A S) ∗ owns (c : Thread nD τ) arg12 fullShare A) -∗ Φ ⟨⟩))
      ⊢ wp frame (wpE (defs₀ (F := F)) Variants.none c none) E (specHalf arg11 harg11 arg12 R o hR h2 ho w b s) Φ := by
  unfold specHalf
  iintro ⟨H11, H12, Hk⟩
  rw [wp_bind]
  iapply (wp_ld c E arg12 _ _ _ _)
  isplitl [H12]; · iexact H12
  iintro H12
  rw [wp_bind]
  iapply (wp_ld c E arg11 _ _ _ _)
  isplitl [H11]; · iexact H11
  iintro H11
  iapply (wp_st c E arg11 _ _ _ _ _ _)
  isplitl [H11]; · iexact H11
  iintro H11
  iapply Hk
  isplitl [H11]; · iexact H11
  iexact H12

/-- 128 rows of the spectrum. -/
theorem wp_specChunk (arg3 : Memref sig .tc .vmem S2x512 .f32) (arg11 : Memref sig .tc .vmem S1024x1026 .bf16) (harg11 : arg11.IsWhole)
    (arg12 : Memref sig .tc .vmem S1024x1026 .f32) (bi ch : Nat) (hb : bi < 2) (hc : ch < 4)
    (w b : FVec F S1x1026 .f32) (X : Vec F S2x512 .f32) (A : Vec F S1024x1026 .f32) (S : Vec F S1024x1026 .bf16) (Φ : PUnit → sProp 𝕄) :
    iprop(owns (c : Thread nD τ) arg3 fullShare X ∗ owns (c : Thread nD τ) arg11 fullShare S ∗ owns (c : Thread nD τ) arg12 fullShare A ∗ (iprop(owns (c : Thread nD τ) arg3 fullShare X ∗ owns (c : Thread nD τ) arg11 fullShare (specChunkS bi ch hb hc w b X A S) ∗ owns (c : Thread nD τ) arg12 fullShare A) -∗ Φ ⟨⟩))
      ⊢ wp frame (wpE (defs₀ (F := F)) Variants.none c none) E (specChunk arg3 arg11 harg11 arg12 bi ch hb hc w b) Φ := by
  unfold specChunk
  iintro ⟨H3, H11, H12, Hk⟩
  rw [wp_bind]
  iapply (wp_ld c E arg3 _ _ _ _)
  isplitl [H3]; · iexact H3
  iintro H3
  rw [wp_bind]
  iapply (wp_specHalf c E arg11 harg11 arg12 _ _ _ _ _ w b _ A _ _)
  isplitl [H11]; · iexact H11
  isplitl [H12]; · iexact H12
  iintro ⟨H11, H12⟩
  iapply (wp_specHalf c E arg11 harg11 arg12 _ _ _ _ _ w b _ A _ _)
  isplitl [H11]; · iexact H11
  isplitl [H12]; · iexact H12
  iintro ⟨H11, H12⟩
  iapply Hk
  isplitl [H3]; · iexact H3
  isplitl [H11]; · iexact H11
  iexact H12

/-- A batch's spectrum and frames. -/
theorem wp_batchA (arg3 : Memref sig .tc .vmem S2x512 .f32) (arg11 : Memref sig .tc .vmem S1024x1026 .bf16) (harg11 : arg11.IsWhole)
    (arg12 : Memref sig .tc .vmem S1024x1026 .f32) (arg6 : Memref sig .tc .vmem S1026x1024 .bf16) (arg13 : Memref sig .tc .vmem S528x1024 .f32) (bi : Nat) (hb : bi < 2)
    (w b : FVec F S1x1026 .f32) (X : Vec F S2x512 .f32) (A : Vec F S1024x1026 .f32) (S : Vec F S1024x1026 .bf16) (g : FVec F S1x1024 .f32) (M : Vec F S1026x1024 .bf16) (Z : Vec F S528x1024 .f32) (Φ : PUnit → sProp 𝕄) :
    iprop(owns (c : Thread nD τ) arg3 fullShare X ∗ owns (c : Thread nD τ) arg6 fullShare M ∗ owns (c : Thread nD τ) arg11 fullShare S ∗ owns (c : Thread nD τ) arg12 fullShare A ∗ owns (c : Thread nD τ) arg13 fullShare Z ∗ (iprop(owns (c : Thread nD τ) arg3 fullShare X ∗ owns (c : Thread nD τ) arg6 fullShare M ∗ owns (c : Thread nD τ) arg11 fullShare (specS bi hb w b X A S) ∗ owns (c : Thread nD τ) arg12 fullShare A ∗ owns (c : Thread nD τ) arg13 fullShare (frS bi hb g M (specS bi hb w b X A S) Z)) -∗ Φ ⟨⟩))
      ⊢ wp frame (wpE (defs₀ (F := F)) Variants.none c none) E (batchA arg3 arg6 arg11 harg11 arg12 arg13 bi hb w b g) Φ := by
  unfold batchA frS specS
  iintro ⟨H3, H6, H11, H12, H13, Hk⟩
  rw [wp_bind]
  iapply (wp_ld c E arg13 _ _ _ _)
  isplitl [H13]; · iexact H13
  iintro H13
  rw [wp_bind]
  iapply (wp_st c E arg13 _ _ _ _ _ _)
  isplitl [H13]; · iexact H13
  iintro H13
  rw [wp_bind]
  iapply (wp_ld c E arg13 _ _ _ _)
  isplitl [H13]; · iexact H13
  iintro H13
  rw [wp_bind]
  iapply (wp_st c E arg13 _ _ _ _ _ _)
  isplitl [H13]; · iexact H13
  iintro H13
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_ld c E arg11 _ _ _ _)
  isplitl [H11]; · iexact H11
  iintro H11
  rw [wp_bind]
  iapply (wp_ld c E arg6 _ _ _ _)
  isplitl [H6]; · iexact H6
  iintro H6
  rw [wp_bind]
  iapply (wp_ld c E arg13 _ _ _ _)
  isplitl [H13]; · iexact H13
  iintro H13
  iapply (wp_st c E arg13 _ _ _ _ _ _)
  isplitl [H13]; · iexact H13
  iintro H13
  iapply Hk
  isplitl [H3]; · iexact H3
  isplitl [H6]; · iexact H6
  isplitl [H11]; · iexact H11
  isplitl [H12]; · iexact H12
  iexact H13

/-- The ends. -/
theorem wp_endsStep (arg9 : Memref sig .tc .vmem S2048x128 .f32) (arg10 : Memref sig .tc .vmem S32x128 .f32) (Y : Vec F S2048x128 .f32) (e : Vec F S32x128 .f32) (Φ : PUnit → sProp 𝕄) :
    iprop(owns (c : Thread nD τ) arg9 fullShare Y ∗ owns (c : Thread nD τ) arg10 fullShare e ∗ (iprop(owns (c : Thread nD τ) arg9 fullShare Y ∗ owns (c : Thread nD τ) arg10 fullShare (endsS Y e)) -∗ Φ ⟨⟩))
      ⊢ wp frame (wpE (defs₀ (F := F)) Variants.none c none) E (endsStep arg9 arg10) Φ := by
  unfold endsStep endsS
  iintro ⟨H9, H10, Hk⟩
  rw [wp_bind]
  iapply (wp_ld c E arg9 _ _ _ _)
  isplitl [H9]; · iexact H9
  iintro H9
  rw [wp_bind]
  iapply (wp_ld c E arg10 _ _ _ _)
  isplitl [H10]; · iexact H10
  iintro H10
  rw [wp_bind]
  iapply (wp_st c E arg10 _ _ _ _ _ _)
  isplitl [H10]; · iexact H10
  iintro H10
  rw [wp_bind]
  iapply (wp_ld c E arg9 _ _ _ _)
  isplitl [H9]; · iexact H9
  iintro H9
  rw [wp_bind]
  iapply (wp_ld c E arg10 _ _ _ _)
  isplitl [H10]; · iexact H10
  iintro H10
  iapply (wp_st c E arg10 _ _ _ _ _ _)
  isplitl [H10]; · iexact H10
  iintro H10
  iapply Hk
  isplitl [H9]; · iexact H9
  iexact H10

/-- The last step. -/
theorem wp_lastStep (arg3 : Memref sig .tc .vmem S2x512 .f32) (arg4 arg5 : Memref sig .tc .vmem S1x1026 .f32) (arg6 : Memref sig .tc .vmem S1026x1024 .bf16)
    (arg7 : Memref sig .tc .vmem S1x1024 .f32) (arg8 : Memref sig .tc .vmem S8x256 .f32) (arg9 : Memref sig .tc .vmem S2048x128 .f32)
    (arg10 : Memref sig .tc .vmem S32x128 .f32) (arg11 : Memref sig .tc .vmem S1024x1026 .bf16) (harg11 : arg11.IsWhole)
    (arg12 : Memref sig .tc .vmem S1024x1026 .f32) (arg13 : Memref sig .tc .vmem S528x1024 .f32)
    (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) (e : Vec F S32x128 .f32) (Φ : PUnit → sProp 𝕄) :
    iprop(owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare Y ∗ owns (c : Thread nD τ) arg10 fullShare e ∗ owns (c : Thread nD τ) arg11 fullShare S ∗ owns (c : Thread nD τ) arg12 fullShare A ∗ owns (c : Thread nD τ) arg13 fullShare Z ∗ (iprop(owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare (lastY X W B M G N A S Z Y) ∗ owns (c : Thread nD τ) arg10 fullShare (endsS (lastY X W B M G N A S Z Y) e) ∗ owns (c : Thread nD τ) arg11 fullShare (lastS X W B A S) ∗ owns (c : Thread nD τ) arg12 fullShare A ∗ owns (c : Thread nD τ) arg13 fullShare (lastZ X W B M G A S Z)) -∗ Φ ⟨⟩))
      ⊢ wp frame (wpE (defs₀ (F := F)) Variants.none c none) E (lastStep arg3 arg4 arg5 arg6 arg7 arg8 arg9 arg10 arg11 harg11 arg12 arg13) Φ := by
  unfold lastStep
  iintro ⟨H3, H4, H5, H6, H7, H8, H9, H10, H11, H12, H13, Hk⟩
  rw [wp_bind]
  iapply (wp_ld c E arg4 _ _ _ _)
  isplitl [H4]; · iexact H4
  iintro H4
  rw [wp_bind]
  iapply (wp_ld c E arg5 _ _ _ _)
  isplitl [H5]; · iexact H5
  iintro H5
  rw [wp_bind]
  iapply (wp_ld c E arg7 _ _ _ _)
  isplitl [H7]; · iexact H7
  iintro H7
  rw [wp_bind]
  iapply (wp_batchA c E arg3 arg11 harg11 arg12 arg6 arg13 _ _ _ _ X A _ _ M _ _)
  isplitl [H3]; · iexact H3
  isplitl [H6]; · iexact H6
  isplitl [H11]; · iexact H11
  isplitl [H12]; · iexact H12
  isplitl [H13]; · iexact H13
  iintro ⟨H3, H6, H11, H12, H13⟩
  rw [wp_bind]
  iapply (wp_batchY c E arg8 arg9 arg13 _ _ N _ _ _)
  isplitl [H8]; · iexact H8
  isplitl [H9]; · iexact H9
  isplitl [H13]; · iexact H13
  iintro ⟨H8, H9, H13⟩
  rw [wp_bind]
  iapply (wp_batchA c E arg3 arg11 harg11 arg12 arg6 arg13 _ _ _ _ X A _ _ M _ _)
  isplitl [H3]; · iexact H3
  isplitl [H6]; · iexact H6
  isplitl [H11]; · iexact H11
  isplitl [H12]; · iexact H12
  isplitl [H13]; · iexact H13
  iintro ⟨H3, H6, H11, H12, H13⟩
  rw [wp_bind]
  iapply (wp_batchY c E arg8 arg9 arg13 _ _ N _ _ _)
  isplitl [H8]; · iexact H8
  isplitl [H9]; · iexact H9
  isplitl [H13]; · iexact H13
  iintro ⟨H8, H9, H13⟩
  iapply (wp_endsStep c E arg9 arg10 _ _ _)
  isplitl [H9]; · iexact H9
  isplitl [H10]; · iexact H10
  iintro ⟨H9, H10⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end

end Cert.KernelIdeal

end
-- ==== Proof.KI.ChB.lean ====
module

public import proofs.«01_k».proof.Proof.KI.Steps

@[expose] public section

set_option maxRecDepth 65536

noncomputable section

namespace Cert.KernelIdeal

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_0_46 {β : Type} (k : Prog (TpuEff nD τ sig (Elt F) Λ₀ .tc) β) : (do
    let v825 : FVec F S8x128 .f32 ← k0_part26 (F := F) i arg1 harg1 arg2 harg2 arg3 harg3 arg4 harg4 arg5 harg5 arg6 harg6 arg7 harg7 arg8 harg8 arg9 harg9 arg10 harg10 arg11 harg11 arg12 harg12 arg13 harg13
    let v855 : FVec F S8x128 .f32 ← k0_part27 i arg1 harg1 arg2 harg2 arg3 harg3 arg4 harg4 arg5 harg5 arg6 harg6 arg7 harg7 arg8 harg8 arg9 harg9 arg10 harg10 arg11 harg11 arg12 harg12 arg13 harg13 v825
    let v883 : FVec F S8x128 .f32 ← k0_part28 i arg1 harg1 arg2 harg2 arg3 harg3 arg4 harg4 arg5 harg5 arg6 harg6 arg7 harg7 arg8 harg8 arg9 harg9 arg10 harg10 arg11 harg11 arg12 harg12 arg13 harg13 v855
    let v911 : FVec F S8x128 .f32 ← k0_part29 i arg1 harg1 arg2 harg2 arg3 harg3 arg4 harg4 arg5 harg5 arg6 harg6 arg7 harg7 arg8 harg8 arg9 harg9 arg10 harg10 arg11 harg11 arg12 harg12 arg13 harg13 v883
    k0_part30 i arg1 harg1 arg2 harg2 arg3 harg3 arg4 harg4 arg5 harg5 arg6 harg6 arg7 harg7 arg8 harg8 arg9 harg9 arg10 harg10 arg11 harg11 arg12 harg12 arg13 harg13 v911
    k) = (do
    blks arg8 arg9 arg13 0 (by decide) 12 46 (by decide)
    k) := rfl

/-- Printed parts, chained, are structured steps. -/
theorem chunk_0_58 {β : Type} (k : Prog (TpuEff nD τ sig (Elt F) Λ₀ .tc) β) : (do
    let v969 : FVec F S8x128 .f32 ← k0_part31 (F := F) i arg1 harg1 arg2 harg2 arg3 harg3 arg4 harg4 arg5 harg5 arg6 harg6 arg7 harg7 arg8 harg8 arg9 harg9 arg10 harg10 arg11 harg11 arg12 harg12 arg13 harg13
    let v999 : FVec F S8x128 .f32 ← k0_part32 i arg1 harg1 arg2 harg2 arg3 harg3 arg4 harg4 arg5 harg5 arg6 harg6 arg7 harg7 arg8 harg8 arg9 harg9 arg10 harg10 arg11 harg11 arg12 harg12 arg13 harg13 v969
    let v1027 : FVec F S8x128 .f32 ← k0_part33 i arg1 harg1 arg2 harg2 arg3 harg3 arg4 harg4 arg5 harg5 arg6 harg6 arg7 harg7 arg8 harg8 arg9 harg9 arg10 harg10 arg11 harg11 arg12 harg12 arg13 harg13 v999
    let v1055 : FVec F S8x128 .f32 ← k0_part34 i arg1 harg1 arg2 harg2 arg3 harg3 arg4 harg4 arg5 harg5 arg6 harg6 arg7 harg7 arg8 harg8 arg9 harg9 arg10 harg10 arg11 harg11 arg12 harg12 arg13 harg13 v1027
    k0_part35 i arg1 harg1 arg2 harg2 arg3 harg3 arg4 harg4 arg5 harg5 arg6 harg6 arg7 harg7 arg8 harg8 arg9 harg9 arg10 harg10 arg11 harg11 arg12 harg12 arg13 harg13 v1055
    k) = (do
    blks arg8 arg9 arg13 0 (by decide) 12 58 (by decide)
    k) := rfl

/-- Printed parts, chained, are structured steps. -/
theorem chunk_0_70 {β : Type} (k : Prog (TpuEff nD τ sig (Elt F) Λ₀ .tc) β) : (do
    let v1113 : FVec F S8x128 .f32 ← k0_part36 (F := F) i arg1 harg1 arg2 harg2 arg3 harg3 arg4 harg4 arg5 harg5 arg6 harg6 arg7 harg7 arg8 harg8 arg9 harg9 arg10 harg10 arg11 harg11 arg12 harg12 arg13 harg13
    let v1143 : FVec F S8x128 .f32 ← k0_part37 i arg1 harg1 arg2 harg2 arg3 harg3 arg4 harg4 arg5 harg5 arg6 harg6 arg7 harg7 arg8 harg8 arg9 harg9 arg10 harg10 arg11 harg11 arg12 harg12 arg13 harg13 v1113
    let v1171 : FVec F S8x128 .f32 ← k0_part38 i arg1 harg1 arg2 harg2 arg3 harg3 arg4 harg4 arg5 harg5 arg6 harg6 arg7 harg7 arg8 harg8 arg9 harg9 arg10 harg10 arg11 harg11 arg12 harg12 arg13 harg13 v1143
    let v1199 : FVec F S8x128 .f32 ← k0_part39 i arg1 harg1 arg2 harg2 arg3 harg3 arg4 harg4 arg5 harg5 arg6 harg6 arg7 harg7 arg8 harg8 arg9 harg9 arg10 harg10 arg11 harg11 arg12 harg12 arg13 harg13 v1171
    k0_part40 i arg1 harg1 arg2 harg2 arg3 harg3 arg4 harg4 arg5 harg5 arg6 harg6 arg7 harg7 arg8 harg8 arg9 harg9 arg10 harg10 arg11 harg11 arg12 harg12 arg13 harg13 v1199
    k) = (do
    blks arg8 arg9 arg13 0 (by decide) 12 70 (by decide)
    k) := rfl

/-- Printed parts, chained, are structured steps. -/
theorem chunk_0_82 {β : Type} (k : Prog (TpuEff nD τ sig (Elt F) Λ₀ .tc) β) : (do
    let v1257 : FVec F S8x128 .f32 ← k0_part41 (F := F) i arg1 harg1 arg2 harg2 arg3 harg3 arg4 harg4 arg5 harg5 arg6 harg6 arg7 harg7 arg8 harg8 arg9 harg9 arg10 harg10 arg11 harg11 arg12 harg12 arg13 harg13
    let v1287 : FVec F S8x128 .f32 ← k0_part42 i arg1 harg1 arg2 harg2 arg3 harg3 arg4 harg4 arg5 harg5 arg6 harg6 arg7 harg7 arg8 harg8 arg9 harg9 arg10 harg10 arg11 harg11 arg12 harg12 arg13 harg13 v1257
    let v1315 : FVec F S8x128 .f32 ← k0_part43 i arg1 harg1 arg2 harg2 arg3 harg3 arg4 harg4 arg5 harg5 arg6 harg6 arg7 harg7 arg8 harg8 arg9 harg9 arg10 harg10 arg11 harg11 arg12 harg12 arg13 harg13 v1287
    let v1343 : FVec F S8x128 .f32 ← k0_part44 i arg1 harg1 arg2 harg2 arg3 harg3 arg4 harg4 arg5 harg5 arg6 harg6 arg7 harg7 arg8 harg8 arg9 harg9 arg10 harg10 arg11 harg11 arg12 harg12 arg13 harg13 v1315
    k0_part45 i arg1 harg1 arg2 harg2 arg3 harg3 arg4 harg4 arg5 harg5 arg6 harg6 arg7 harg7 arg8 harg8 arg9 harg9 arg10 harg10 arg11 harg11 arg12 harg12 arg13 harg13 v1343
    k) = (do
    blks arg8 arg9 arg13 0 (by decide) 12 82 (by decide)
    k) := rfl

/-- Printed parts, chained, are structured steps. -/
theorem chunk_0_94 {β : Type} (k : Prog (TpuEff nD τ sig (Elt F) Λ₀ .tc) β) : (do
    let v1401 : FVec F S8x128 .f32 ← k0_part46 (F := F) i arg1 harg1 arg2 harg2 arg3 harg3 arg4 harg4 arg5 harg5 arg6 harg6 arg7 harg7 arg8 harg8 arg9 harg9 arg10 harg10 arg11 harg11 arg12 harg12 arg13 harg13
    let v1431 : FVec F S8x128 .f32 ← k0_part47 i arg1 harg1 arg2 harg2 arg3 harg3 arg4 harg4 arg5 harg5 arg6 harg6 arg7 harg7 arg8 harg8 arg9 harg9 arg10 harg10 arg11 harg11 arg12 harg12 arg13 harg13 v1401
    let v1459 : FVec F S8x128 .f32 ← k0_part48 i arg1 harg1 arg2 harg2 arg3 harg3 arg4 harg4 arg5 harg5 arg6 harg6 arg7 harg7 arg8 harg8 arg9 harg9 arg10 harg10 arg11 harg11 arg12 harg12 arg13 harg13 v1431
    let v1487 : FVec F S8x128 .f32 ← k0_part49 i arg1 harg1 arg2 harg2 arg3 harg3 arg4 harg4 arg5 harg5 arg6 harg6 arg7 harg7 arg8 harg8 arg9 harg9 arg10 harg10 arg11 harg11 arg12 harg12 arg13 harg13 v1459
    k0_part50 i arg1 harg1 arg2 harg2 arg3 harg3 arg4 harg4 arg5 harg5 arg6 harg6 arg7 harg7 arg8 harg8 arg9 harg9 arg10 harg10 arg11 harg11 arg12 harg12 arg13 harg13 v1487
    k) = (do
    blks arg8 arg9 arg13 0 (by decide) 12 94 (by decide)
    k) := rfl

/-- Printed parts, chained, are structured steps. -/
theorem chunk_0_106 {β : Type} (k : Prog (TpuEff nD τ sig (Elt F) Λ₀ .tc) β) : (do
    let v1545 : FVec F S8x128 .f32 ← k0_part51 (F := F) i arg1 harg1 arg2 harg2 arg3 harg3 arg4 harg4 arg5 harg5 arg6 harg6 arg7 harg7 arg8 harg8 arg9 harg9 arg10 harg10 arg11 harg11 arg12 harg12 arg13 harg13
    let v1575 : FVec F S8x128 .f32 ← k0_part52 i arg1 harg1 arg2 harg2 arg3 harg3 arg4 harg4 arg5 harg5 arg6 harg6 arg7 harg7 arg8 harg8 arg9 harg9 arg10 harg10 arg11 harg11 arg12 harg12 arg13 harg13 v1545
    let v1603 : FVec F S8x128 .f32 ← k0_part53 i arg1 harg1 arg2 harg2 arg3 harg3 arg4 harg4 arg5 harg5 arg6 harg6 arg7 harg7 arg8 harg8 arg9 harg9 arg10 harg10 arg11 harg11 arg12 harg12 arg13 harg13 v1575
    let v1631 : FVec F S8x128 .f32 ← k0_part54 i arg1 harg1 arg2 harg2 arg3 harg3 arg4 harg4 arg5 harg5 arg6 harg6 arg7 harg7 arg8 harg8 arg9 harg9 arg10 harg10 arg11 harg11 arg12 harg12 arg13 harg13 v1603
    k0_part55 i arg1 harg1 arg2 harg2 arg3 harg3 arg4 harg4 arg5 harg5 arg6 harg6 arg7 harg7 arg8 harg8 arg9 harg9 arg10 harg10 arg11 harg11 arg12 harg12 arg13 harg13 v1631
    k) = (do
    blks arg8 arg9 arg13 0 (by decide) 12 106 (by decide)
    k) := rfl

end

end Cert.KernelIdeal

end
-- ==== Proof.KI.ChC.lean ====
module

public import proofs.«01_k».proof.Proof.KI.Steps

@[expose] public section

set_option maxRecDepth 65536

noncomputable section

namespace Cert.KernelIdeal

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_1_5 {β : Type} (k : Prog (TpuEff nD τ sig (Elt F) Λ₀ .tc) β) : (do
    let v2127 : FVec F S8x128 .f32 ← k0_part69 (F := F) i arg1 harg1 arg2 harg2 arg3 harg3 arg4 harg4 arg5 harg5 arg6 harg6 arg7 harg7 arg8 harg8 arg9 harg9 arg10 harg10 arg11 harg11 arg12 harg12 arg13 harg13
    let v2157 : FVec F S8x128 .f32 ← k0_part70 i arg1 harg1 arg2 harg2 arg3 harg3 arg4 harg4 arg5 harg5 arg6 harg6 arg7 harg7 arg8 harg8 arg9 harg9 arg10 harg10 arg11 harg11 arg12 harg12 arg13 harg13 v2127
    let p71 ← k0_part71 i arg1 harg1 arg2 harg2 arg3 harg3 arg4 harg4 arg5 harg5 arg6 harg6 arg7 harg7 arg8 harg8 arg9 harg9 arg10 harg10 arg11 harg11 arg12 harg12 arg13 harg13 v2157
    let v2213 : FVec F S8x128 .f32 ← k0_part72 i arg1 harg1 arg2 harg2 arg3 harg3 arg4 harg4 arg5 harg5 arg6 harg6 arg7 harg7 arg8 harg8 arg9 harg9 arg10 harg10 arg11 harg11 arg12 harg12 arg13 harg13 p71.1 p71.2
    k0_part73 i arg1 harg1 arg2 harg2 arg3 harg3 arg4 harg4 arg5 harg5 arg6 harg6 arg7 harg7 arg8 harg8 arg9 harg9 arg10 harg10 arg11 harg11 arg12 harg12 arg13 harg13 v2213
    k) = (do
    blks arg8 arg9 arg13 1 (by decide) 12 5 (by decide)
    k) := rfl

/-- Printed parts, chained, are structured steps. -/
theorem chunk_1_17 {β : Type} (k : Prog (TpuEff nD τ sig (Elt F) Λ₀ .tc) β) : (do
    let v2271 : FVec F S8x128 .f32 ← k0_part74 (F := F) i arg1 harg1 arg2 harg2 arg3 harg3 arg4 harg4 arg5 harg5 arg6 harg6 arg7 harg7 arg8 harg8 arg9 harg9 arg10 harg10 arg11 harg11 arg12 harg12 arg13 harg13
    let v2301 : FVec F S8x128 .f32 ← k0_part75 i arg1 harg1 arg2 harg2 arg3 harg3 arg4 harg4 arg5 harg5 arg6 harg6 arg7 harg7 arg8 harg8 arg9 harg9 arg10 harg10 arg11 harg11 arg12 harg12 arg13 harg13 v2271
    let p76 ← k0_part76 i arg1 harg1 arg2 harg2 arg3 harg3 arg4 harg4 arg5 harg5 arg6 harg6 arg7 harg7 arg8 harg8 arg9 harg9 arg10 harg10 arg11 harg11 arg12 harg12 arg13 harg13 v2301
    let v2357 : FVec F S8x128 .f32 ← k0_part77 i arg1 harg1 arg2 harg2 arg3 harg3 arg4 harg4 arg5 harg5 arg6 harg6 arg7 harg7 arg8 harg8 arg9 harg9 arg10 harg10 arg11 harg11 arg12 harg12 arg13 harg13 p76.1 p76.2
    k0_part78 i arg1 harg1 arg2 harg2 arg3 harg3 arg4 harg4 arg5 harg5 arg6 harg6 arg7 harg7 arg8 harg8 arg9 harg9 arg10 harg10 arg11 harg11 arg12 harg12 arg13 harg13 v2357
    k) = (do
    blks arg8 arg9 arg13 1 (by decide) 12 17 (by decide)
    k) := rfl

/-- Printed parts, chained, are structured steps. -/
theorem chunk_1_29 {β : Type} (k : Prog (TpuEff nD τ sig (Elt F) Λ₀ .tc) β) : (do
    let v2415 : FVec F S8x128 .f32 ← k0_part79 (F := F) i arg1 harg1 arg2 harg2 arg3 harg3 arg4 harg4 arg5 harg5 arg6 harg6 arg7 harg7 arg8 harg8 arg9 harg9 arg10 harg10 arg11 harg11 arg12 harg12 arg13 harg13
    let v2445 : FVec F S8x128 .f32 ← k0_part80 i arg1 harg1 arg2 harg2 arg3 harg3 arg4 harg4 arg5 harg5 arg6 harg6 arg7 harg7 arg8 harg8 arg9 harg9 arg10 harg10 arg11 harg11 arg12 harg12 arg13 harg13 v2415
    let p81 ← k0_part81 i arg1 harg1 arg2 harg2 arg3 harg3 arg4 harg4 arg5 harg5 arg6 harg6 arg7 harg7 arg8 harg8 arg9 harg9 arg10 harg10 arg11 harg11 arg12 harg12 arg13 harg13 v2445
    let v2501 : FVec F S8x128 .f32 ← k0_part82 i arg1 harg1 arg2 harg2 arg3 harg3 arg4 harg4 arg5 harg5 arg6 harg6 arg7 harg7 arg8 harg8 arg9 harg9 arg10 harg10 arg11 harg11 arg12 harg12 arg13 harg13 p81.1 p81.2
    k0_part83 i arg1 harg1 arg2 harg2 arg3 harg3 arg4 harg4 arg5 harg5 arg6 harg6 arg7 harg7 arg8 harg8 arg9 harg9 arg10 harg10 arg11 harg11 arg12 harg12 arg13 harg13 v2501
    k) = (do
    blks arg8 arg9 arg13 1 (by decide) 12 29 (by decide)
    k) := rfl

/-- Printed parts, chained, are structured steps. -/
theorem chunk_1_41 {β : Type} (k : Prog (TpuEff nD τ sig (Elt F) Λ₀ .tc) β) : (do
    let v2559 : FVec F S8x128 .f32 ← k0_part84 (F := F) i arg1 harg1 arg2 harg2 arg3 harg3 arg4 harg4 arg5 harg5 arg6 harg6 arg7 harg7 arg8 harg8 arg9 harg9 arg10 harg10 arg11 harg11 arg12 harg12 arg13 harg13
    let v2589 : FVec F S8x128 .f32 ← k0_part85 i arg1 harg1 arg2 harg2 arg3 harg3 arg4 harg4 arg5 harg5 arg6 harg6 arg7 harg7 arg8 harg8 arg9 harg9 arg10 harg10 arg11 harg11 arg12 harg12 arg13 harg13 v2559
    let p86 ← k0_part86 i arg1 harg1 arg2 harg2 arg3 harg3 arg4 harg4 arg5 harg5 arg6 harg6 arg7 harg7 arg8 harg8 arg9 harg9 arg10 harg10 arg11 harg11 arg12 harg12 arg13 harg13 v2589
    let v2645 : FVec F S8x128 .f32 ← k0_part87 i arg1 harg1 arg2 harg2 arg3 harg3 arg4 harg4 arg5 harg5 arg6 harg6 arg7 harg7 arg8 harg8 arg9 harg9 arg10 harg10 arg11 harg11 arg12 harg12 arg13 harg13 p86.1 p86.2
    k0_part88 i arg1 harg1 arg2 harg2 arg3 harg3 arg4 harg4 arg5 harg5 arg6 harg6 arg7 harg7 arg8 harg8 arg9 harg9 arg10 harg10 arg11 harg11 arg12 harg12 arg13 harg13 v2645
    k) = (do
    blks arg8 arg9 arg13 1 (by decide) 12 41 (by decide)
    k) := rfl

/-- Printed parts, chained, are structured steps. -/
theorem chunk_1_53 {β : Type} (k : Prog (TpuEff nD τ sig (Elt F) Λ₀ .tc) β) : (do
    let v2703 : FVec F S8x128 .f32 ← k0_part89 (F := F) i arg1 harg1 arg2 harg2 arg3 harg3 arg4 harg4 arg5 harg5 arg6 harg6 arg7 harg7 arg8 harg8 arg9 harg9 arg10 harg10 arg11 harg11 arg12 harg12 arg13 harg13
    let v2733 : FVec F S8x128 .f32 ← k0_part90 i arg1 harg1 arg2 harg2 arg3 harg3 arg4 harg4 arg5 harg5 arg6 harg6 arg7 harg7 arg8 harg8 arg9 harg9 arg10 harg10 arg11 harg11 arg12 harg12 arg13 harg13 v2703
    let p91 ← k0_part91 i arg1 harg1 arg2 harg2 arg3 harg3 arg4 harg4 arg5 harg5 arg6 harg6 arg7 harg7 arg8 harg8 arg9 harg9 arg10 harg10 arg11 harg11 arg12 harg12 arg13 harg13 v2733
    let v2789 : FVec F S8x128 .f32 ← k0_part92 i arg1 harg1 arg2 harg2 arg3 harg3 arg4 harg4 arg5 harg5 arg6 harg6 arg7 harg7 arg8 harg8 arg9 harg9 arg10 harg10 arg11 harg11 arg12 harg12 arg13 harg13 p91.1 p91.2
    k0_part93 i arg1 harg1 arg2 harg2 arg3 harg3 arg4 harg4 arg5 harg5 arg6 harg6 arg7 harg7 arg8 harg8 arg9 harg9 arg10 harg10 arg11 harg11 arg12 harg12 arg13 harg13 v2789
    k) = (do
    blks arg8 arg9 arg13 1 (by decide) 12 53 (by decide)
    k) := rfl

end

end Cert.KernelIdeal

end
-- ==== Proof.KI.ChD.lean ====
module

public import proofs.«01_k».proof.Proof.KI.Steps

@[expose] public section

set_option maxRecDepth 65536

noncomputable section

namespace Cert.KernelIdeal

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_1_65 {β : Type} (k : Prog (TpuEff nD τ sig (Elt F) Λ₀ .tc) β) : (do
    let v2847 : FVec F S8x128 .f32 ← k0_part94 (F := F) i arg1 harg1 arg2 harg2 arg3 harg3 arg4 harg4 arg5 harg5 arg6 harg6 arg7 harg7 arg8 harg8 arg9 harg9 arg10 harg10 arg11 harg11 arg12 harg12 arg13 harg13
    let v2877 : FVec F S8x128 .f32 ← k0_part95 i arg1 harg1 arg2 harg2 arg3 harg3 arg4 harg4 arg5 harg5 arg6 harg6 arg7 harg7 arg8 harg8 arg9 harg9 arg10 harg10 arg11 harg11 arg12 harg12 arg13 harg13 v2847
    let p96 ← k0_part96 i arg1 harg1 arg2 harg2 arg3 harg3 arg4 harg4 arg5 harg5 arg6 harg6 arg7 harg7 arg8 harg8 arg9 harg9 arg10 harg10 arg11 harg11 arg12 harg12 arg13 harg13 v2877
    let v2933 : FVec F S8x128 .f32 ← k0_part97 i arg1 harg1 arg2 harg2 arg3 harg3 arg4 harg4 arg5 harg5 arg6 harg6 arg7 harg7 arg8 harg8 arg9 harg9 arg10 harg10 arg11 harg11 arg12 harg12 arg13 harg13 p96.1 p96.2
    k0_part98 i arg1 harg1 arg2 harg2 arg3 harg3 arg4 harg4 arg5 harg5 arg6 harg6 arg7 harg7 arg8 harg8 arg9 harg9 arg10 harg10 arg11 harg11 arg12 harg12 arg13 harg13 v2933
    k) = (do
    blks arg8 arg9 arg13 1 (by decide) 12 65 (by decide)
    k) := rfl

/-- Printed parts, chained, are structured steps. -/
theorem chunk_1_77 {β : Type} (k : Prog (TpuEff nD τ sig (Elt F) Λ₀ .tc) β) : (do
    let v2991 : FVec F S8x128 .f32 ← k0_part99 (F := F) i arg1 harg1 arg2 harg2 arg3 harg3 arg4 harg4 arg5 harg5 arg6 harg6 arg7 harg7 arg8 harg8 arg9 harg9 arg10 harg10 arg11 harg11 arg12 harg12 arg13 harg13
    let v3021 : FVec F S8x128 .f32 ← k0_part100 i arg1 harg1 arg2 harg2 arg3 harg3 arg4 harg4 arg5 harg5 arg6 harg6 arg7 harg7 arg8 harg8 arg9 harg9 arg10 harg10 arg11 harg11 arg12 harg12 arg13 harg13 v2991
    let p101 ← k0_part101 i arg1 harg1 arg2 harg2 arg3 harg3 arg4 harg4 arg5 harg5 arg6 harg6 arg7 harg7 arg8 harg8 arg9 harg9 arg10 harg10 arg11 harg11 arg12 harg12 arg13 harg13 v3021
    let v3077 : FVec F S8x128 .f32 ← k0_part102 i arg1 harg1 arg2 harg2 arg3 harg3 arg4 harg4 arg5 harg5 arg6 harg6 arg7 harg7 arg8 harg8 arg9 harg9 arg10 harg10 arg11 harg11 arg12 harg12 arg13 harg13 p101.1 p101.2
    k0_part103 i arg1 harg1 arg2 harg2 arg3 harg3 arg4 harg4 arg5 harg5 arg6 harg6 arg7 harg7 arg8 harg8 arg9 harg9 arg10 harg10 arg11 harg11 arg12 harg12 arg13 harg13 v3077
    k) = (do
    blks arg8 arg9 arg13 1 (by decide) 12 77 (by decide)
    k) := rfl

/-- Printed parts, chained, are structured steps. -/
theorem chunk_1_89 {β : Type} (k : Prog (TpuEff nD τ sig (Elt F) Λ₀ .tc) β) : (do
    let v3135 : FVec F S8x128 .f32 ← k0_part104 (F := F) i arg1 harg1 arg2 harg2 arg3 harg3 arg4 harg4 arg5 harg5 arg6 harg6 arg7 harg7 arg8 harg8 arg9 harg9 arg10 harg10 arg11 harg11 arg12 harg12 arg13 harg13
    let v3165 : FVec F S8x128 .f32 ← k0_part105 i arg1 harg1 arg2 harg2 arg3 harg3 arg4 harg4 arg5 harg5 arg6 harg6 arg7 harg7 arg8 harg8 arg9 harg9 arg10 harg10 arg11 harg11 arg12 harg12 arg13 harg13 v3135
    let p106 ← k0_part106 i arg1 harg1 arg2 harg2 arg3 harg3 arg4 harg4 arg5 harg5 arg6 harg6 arg7 harg7 arg8 harg8 arg9 harg9 arg10 harg10 arg11 harg11 arg12 harg12 arg13 harg13 v3165
    let v3221 : FVec F S8x128 .f32 ← k0_part107 i arg1 harg1 arg2 harg2 arg3 harg3 arg4 harg4 arg5 harg5 arg6 harg6 arg7 harg7 arg8 harg8 arg9 harg9 arg10 harg10 arg11 harg11 arg12 harg12 arg13 harg13 p106.1 p106.2
    k0_part108 i arg1 harg1 arg2 harg2 arg3 harg3 arg4 harg4 arg5 harg5 arg6 harg6 arg7 harg7 arg8 harg8 arg9 harg9 arg10 harg10 arg11 harg11 arg12 harg12 arg13 harg13 v3221
    k) = (do
    blks arg8 arg9 arg13 1 (by decide) 12 89 (by decide)
    k) := rfl

/-- Printed parts, chained, are structured steps. -/
theorem chunk_1_101 {β : Type} (k : Prog (TpuEff nD τ sig (Elt F) Λ₀ .tc) β) : (do
    let v3279 : FVec F S8x128 .f32 ← k0_part109 (F := F) i arg1 harg1 arg2 harg2 arg3 harg3 arg4 harg4 arg5 harg5 arg6 harg6 arg7 harg7 arg8 harg8 arg9 harg9 arg10 harg10 arg11 harg11 arg12 harg12 arg13 harg13
    let v3309 : FVec F S8x128 .f32 ← k0_part110 i arg1 harg1 arg2 harg2 arg3 harg3 arg4 harg4 arg5 harg5 arg6 harg6 arg7 harg7 arg8 harg8 arg9 harg9 arg10 harg10 arg11 harg11 arg12 harg12 arg13 harg13 v3279
    let p111 ← k0_part111 i arg1 harg1 arg2 harg2 arg3 harg3 arg4 harg4 arg5 harg5 arg6 harg6 arg7 harg7 arg8 harg8 arg9 harg9 arg10 harg10 arg11 harg11 arg12 harg12 arg13 harg13 v3309
    let v3365 : FVec F S8x128 .f32 ← k0_part112 i arg1 harg1 arg2 harg2 arg3 harg3 arg4 harg4 arg5 harg5 arg6 harg6 arg7 harg7 arg8 harg8 arg9 harg9 arg10 harg10 arg11 harg11 arg12 harg12 arg13 harg13 p111.1 p111.2
    k0_part113 i arg1 harg1 arg2 harg2 arg3 harg3 arg4 harg4 arg5 harg5 arg6 harg6 arg7 harg7 arg8 harg8 arg9 harg9 arg10 harg10 arg11 harg11 arg12 harg12 arg13 harg13 v3365
    k) = (do
    blks arg8 arg9 arg13 1 (by decide) 12 101 (by decide)
    k) := rfl

/-- Printed parts, chained, are structured steps. -/
theorem chunk_1_113 {β : Type} (k : Prog (TpuEff nD τ sig (Elt F) Λ₀ .tc) β) : (do
    let v3423 : FVec F S8x128 .f32 ← k0_part114 (F := F) i arg1 harg1 arg2 harg2 arg3 harg3 arg4 harg4 arg5 harg5 arg6 harg6 arg7 harg7 arg8 harg8 arg9 harg9 arg10 harg10 arg11 harg11 arg12 harg12 arg13 harg13
    let v3453 : FVec F S8x128 .f32 ← k0_part115 i arg1 harg1 arg2 harg2 arg3 harg3 arg4 harg4 arg5 harg5 arg6 harg6 arg7 harg7 arg8 harg8 arg9 harg9 arg10 harg10 arg11 harg11 arg12 harg12 arg13 harg13 v3423
    let p116 ← k0_part116 i arg1 harg1 arg2 harg2 arg3 harg3 arg4 harg4 arg5 harg5 arg6 harg6 arg7 harg7 arg8 harg8 arg9 harg9 arg10 harg10 arg11 harg11 arg12 harg12 arg13 harg13 v3453
    let v3509 : FVec F S8x128 .f32 ← k0_part117 i arg1 harg1 arg2 harg2 arg3 harg3 arg4 harg4 arg5 harg5 arg6 harg6 arg7 harg7 arg8 harg8 arg9 harg9 arg10 harg10 arg11 harg11 arg12 harg12 arg13 harg13 p116.1 p116.2
    k0_part118 i arg1 harg1 arg2 harg2 arg3 harg3 arg4 harg4 arg5 harg5 arg6 harg6 arg7 harg7 arg8 harg8 arg9 harg9 arg10 harg10 arg11 harg11 arg12 harg12 arg13 harg13 v3509
    k) = (do
    blks arg8 arg9 arg13 1 (by decide) 12 113 (by decide)
    k) := rfl

/-- Printed parts, chained, are structured steps. -/
theorem chunk_last  : (do
    let v3567 : FVec F S5x128 .f32 ← k0_part119 (F := F) i arg1 harg1 arg2 harg2 arg3 harg3 arg4 harg4 arg5 harg5 arg6 harg6 arg7 harg7 arg8 harg8 arg9 harg9 arg10 harg10 arg11 harg11 arg12 harg12 arg13 harg13
    let v3595 : FVec F S1x128 .f32 ← k0_part120 i arg1 harg1 arg2 harg2 arg3 harg3 arg4 harg4 arg5 harg5 arg6 harg6 arg7 harg7 arg8 harg8 arg9 harg9 arg10 harg10 arg11 harg11 arg12 harg12 arg13 harg13 v3567
    let v3596 : Vec F S1x128 .f32 ← Prog.lift (.load arg9 (⟨![2045, 0], S1x128.size, ![4, 1], inb_S2048x128_S1x128_2045_0_s_4_1⟩ : LoadRect S2048x128) (View.loadsAt_vmem h_S1x128))
    Prog.lift (.store arg9 ⟨(⟨![2045, 0], S1x128.size, ![4, 1], inb_S2048x128_S1x128_2045_0_s_4_1⟩ : LoadRect S2048x128), spos_4_1⟩ v3595 Finset.univ (View.stores_vmem_bits_univ h_S1x128 rfl) (.inl rfl))
    let v3597 : Vec F S1x128 .f32 ← Prog.lift (.load arg13 (Rect.unit (s := S528x1024) ![521, 0] S1x128.size inb_S528x1024_S1x128_521_0).toLoadRect (View.loadsAt_vmem h_S1x128))
    let v3598 : Vec F S1x128 .f32 ← Prog.lift (.load arg13 (Rect.unit (s := S528x1024) ![520, 256] S1x128.size inb_S528x1024_S1x128_520_256).toLoadRect (View.loadsAt_vmem h_S1x128))
    let v3600 : Vec F S1x128 .f32 ← Prog.lift (.load arg13 (Rect.unit (s := S528x1024) ![519, 512] S1x128.size inb_S528x1024_S1x128_519_512).toLoadRect (View.loadsAt_vmem h_S1x128))
    let v3602 : Vec F S1x128 .f32 ← Prog.lift (.load arg13 (Rect.unit (s := S528x1024) ![518, 768] S1x128.size inb_S528x1024_S1x128_518_768).toLoadRect (View.loadsAt_vmem h_S1x128))
    let v3604 : Vec F S1x128 .f32 ← Prog.lift (.load arg8 (Rect.unit (s := S8x256) ![5, 0] S1x128.size inb_S8x256_S1x128_5_0).toLoadRect (View.loadsAt_vmem h_S1x128))
    let v3607 : Vec F S1x128 .f32 ← Prog.lift (.load arg9 (⟨![2047, 0], S1x128.size, ![4, 1], inb_S2048x128_S1x128_2047_0_s_4_1⟩ : LoadRect S2048x128) (View.loadsAt_vmem h_S1x128))
    Prog.lift (.store arg9 ⟨(⟨![2047, 0], S1x128.size, ![4, 1], inb_S2048x128_S1x128_2047_0_s_4_1⟩ : LoadRect S2048x128), spos_4_1⟩ (k0_pay4 v3597 v3598 v3600 v3602 v3604) Finset.univ (View.stores_vmem_bits_univ h_S1x128 rfl) (.inl rfl))
    let v3608 : Vec F S16x128 .f32 ← Prog.lift (.load arg9 (Rect.unit (s := S2048x128) ![0, 0] S16x128.size inb_S2048x128_S16x128_0_0).toLoadRect (View.loadsAt_vmem h_S16x128))
    let v3610 : Vec F S16x128 .f32 ← Prog.lift (.load arg10 (Rect.unit (s := S32x128) ![0, 0] S16x128.size inb_S32x128_S16x128_0_0).toLoadRect (View.loadsAt_vmem h_S16x128))
    Prog.lift (.store arg10 (Rect.unit (s := S32x128) ![0, 0] S16x128.size inb_S32x128_S16x128_0_0) (k0_pay5 v3608) Finset.univ (View.stores_vmem_bits_univ h_S16x128 rfl) (.inl rfl))
    let v3611 : Vec F S16x128 .f32 ← Prog.lift (.load arg9 (Rect.unit (s := S2048x128) ![2032, 0] S16x128.size inb_S2048x128_S16x128_2032_0).toLoadRect (View.loadsAt_vmem h_S16x128))
    let v3613 : Vec F S16x128 .f32 ← Prog.lift (.load arg10 (Rect.unit (s := S32x128) ![16, 0] S16x128.size inb_S32x128_S16x128_16_0).toLoadRect (View.loadsAt_vmem h_S16x128))
    Prog.lift (.store arg10 (Rect.unit (s := S32x128) ![16, 0] S16x128.size inb_S32x128_S16x128_16_0) (k0_pay6 v3611) Finset.univ (View.stores_vmem_bits_univ h_S16x128 rfl) (.inl rfl))
    pure ⟨⟩) = (do
    blks arg8 arg9 arg13 1 (by decide) 1 125 (by decide)
    blk arg8 arg9 arg13 5 (by decide) spread5 515 0 3 (2022 + 1) (by decide) (by decide) (by decide) (by decide)
    blk arg8 arg9 arg13 5 (by decide) spread5 515 128 3 (2024 + 1) (by decide) (by decide) (by decide) (by decide)
    blk arg8 arg9 arg13 1 (by decide) spread1 520 0 4 (2042 + 1) (by decide) (by decide) (by decide) (by decide)
    blk arg8 arg9 arg13 1 (by decide) spread1 520 128 4 (2044 + 1) (by decide) (by decide) (by decide) (by decide)
    blk arg8 arg9 arg13 1 (by decide) spread1 521 0 5 (2046 + 1) (by decide) (by decide) (by decide) (by decide)
    endsStep arg9 arg10) := rfl

end

end Cert.KernelIdeal

end
-- ==== Proof.KI.ChM.lean ====
module

public import proofs.«01_k».proof.Proof.KI.Steps

@[expose] public section

set_option maxRecDepth 65536

noncomputable section

namespace Cert.KernelIdeal

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_mid {β : Type} (k : Prog (TpuEff nD τ sig (Elt F) Λ₀ .tc) β) (v14 v16 : FVec F S1x1026 .f32) (v18 : FVec F S1x1024 .f32) : (do
    let v1689 : FVec F S8x128 .f32 ← k0_part56 (F := F) i arg1 harg1 arg2 harg2 arg3 harg3 arg4 harg4 arg5 harg5 arg6 harg6 arg7 harg7 arg8 harg8 arg9 harg9 arg10 harg10 arg11 harg11 arg12 harg12 arg13 harg13
    let v1719 : FVec F S8x128 .f32 ← k0_part57 i arg1 harg1 arg2 harg2 arg3 harg3 arg4 harg4 arg5 harg5 arg6 harg6 arg7 harg7 arg8 harg8 arg9 harg9 arg10 harg10 arg11 harg11 arg12 harg12 arg13 harg13 v1689
    let v1747 : FVec F S8x128 .f32 ← k0_part58 i arg1 harg1 arg2 harg2 arg3 harg3 arg4 harg4 arg5 harg5 arg6 harg6 arg7 harg7 arg8 harg8 arg9 harg9 arg10 harg10 arg11 harg11 arg12 harg12 arg13 harg13 v1719
    let v1775 : FVec F S5x128 .f32 ← k0_part59 i arg1 harg1 arg2 harg2 arg3 harg3 arg4 harg4 arg5 harg5 arg6 harg6 arg7 harg7 arg8 harg8 arg9 harg9 arg10 harg10 arg11 harg11 arg12 harg12 arg13 harg13 v1747
    let v1803 : Vec F S1x128 .f32 ← k0_part60 i arg1 harg1 arg2 harg2 arg3 harg3 arg4 harg4 arg5 harg5 arg6 harg6 arg7 harg7 arg8 harg8 arg9 harg9 arg10 harg10 arg11 harg11 arg12 harg12 arg13 harg13 v1775
    let p61 ← k0_part61 i arg1 harg1 arg2 harg2 arg3 harg3 arg4 harg4 arg5 harg5 arg6 harg6 arg7 harg7 arg8 harg8 arg9 harg9 arg10 harg10 arg11 harg11 arg12 harg12 arg13 harg13 v14 v16 (k0_pay10 (F := F)) v1803
    let p62 ← k0_part62 i arg1 harg1 arg2 harg2 arg3 harg3 arg4 harg4 arg5 harg5 arg6 harg6 arg7 harg7 arg8 harg8 arg9 harg9 arg10 harg10 arg11 harg11 arg12 harg12 arg13 harg13 v14 v16 p61.1 p61.2
    let v1911 : FVec F S128x128 .f32 ← k0_part63 i arg1 harg1 arg2 harg2 arg3 harg3 arg4 harg4 arg5 harg5 arg6 harg6 arg7 harg7 arg8 harg8 arg9 harg9 arg10 harg10 arg11 harg11 arg12 harg12 arg13 harg13 v14 v16 p62.1 p62.2
    let v1955 : FVec F S128x128 .f32 ← k0_part64 i arg1 harg1 arg2 harg2 arg3 harg3 arg4 harg4 arg5 harg5 arg6 harg6 arg7 harg7 arg8 harg8 arg9 harg9 arg10 harg10 arg11 harg11 arg12 harg12 arg13 harg13 v14 v16 v1911
    let p65 ← k0_part65 i arg1 harg1 arg2 harg2 arg3 harg3 arg4 harg4 arg5 harg5 arg6 harg6 arg7 harg7 arg8 harg8 arg9 harg9 arg10 harg10 arg11 harg11 arg12 harg12 arg13 harg13 v14 v16 v18 v1955
    let p66 ← k0_part66 i arg1 harg1 arg2 harg2 arg3 harg3 arg4 harg4 arg5 harg5 arg6 harg6 arg7 harg7 arg8 harg8 arg9 harg9 arg10 harg10 arg11 harg11 arg12 harg12 arg13 harg13 p65.1 p65.2
    let v2069 : FVec F S8x128 .f32 ← k0_part67 i arg1 harg1 arg2 harg2 arg3 harg3 arg4 harg4 arg5 harg5 arg6 harg6 arg7 harg7 arg8 harg8 arg9 harg9 arg10 harg10 arg11 harg11 arg12 harg12 arg13 harg13 p66.1 p66.2
    k0_part68 i arg1 harg1 arg2 harg2 arg3 harg3 arg4 harg4 arg5 harg5 arg6 harg6 arg7 harg7 arg8 harg8 arg9 harg9 arg10 harg10 arg11 harg11 arg12 harg12 arg13 harg13 v2069
    k) = (do
    blks arg8 arg9 arg13 0 (by decide) 8 118 (by decide)
    blk arg8 arg9 arg13 5 (by decide) spread5 515 0 3 (2022 + 0) (by decide) (by decide) (by decide) (by decide)
    blk arg8 arg9 arg13 5 (by decide) spread5 515 128 3 (2024 + 0) (by decide) (by decide) (by decide) (by decide)
    blk arg8 arg9 arg13 1 (by decide) spread1 520 0 4 (2042 + 0) (by decide) (by decide) (by decide) (by decide)
    blk arg8 arg9 arg13 1 (by decide) spread1 520 128 4 (2044 + 0) (by decide) (by decide) (by decide) (by decide)
    blk arg8 arg9 arg13 1 (by decide) spread1 521 0 5 (2046 + 0) (by decide) (by decide) (by decide) (by decide)
    batchA arg3 arg6 arg11 harg11 arg12 arg13 1 (by decide) v14 v16 v18
    blk arg8 arg9 arg13 1 (by decide) spread1 9 128 1 (0 + 1) (by decide) (by decide) (by decide) (by decide)
    blk arg8 arg9 arg13 1 (by decide) spread1 10 0 2 (2 + 1) (by decide) (by decide) (by decide) (by decide)
    blk arg8 arg9 arg13 1 (by decide) spread1 10 128 2 (4 + 1) (by decide) (by decide) (by decide) (by decide)
    blks arg8 arg9 arg13 1 (by decide) 5 0 (by decide)
    k) := rfl

end

end Cert.KernelIdeal

end
-- ==== Proof.KI.ChA.lean ====
module

public import proofs.«01_k».proof.Proof.KI.Steps

@[expose] public section

set_option maxRecDepth 65536

noncomputable section

namespace Cert.KernelIdeal

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_first {β : Type} (k : FVec F S1x1026 .f32 → FVec F S1x1026 .f32 → FVec F S1x1024 .f32 → FVec F S8x1024 .f32 → Prog (TpuEff nD τ sig (Elt F) Λ₀ .tc) β) : (do
    let p1 ← k0_part1 (F := F) i arg1 harg1 arg2 harg2 arg3 harg3 arg4 harg4 arg5 harg5 arg6 harg6 arg7 harg7 arg8 harg8 arg9 harg9 arg10 harg10 arg11 harg11 arg12 harg12 arg13 harg13
    let p2 ← k0_part2 i arg1 harg1 arg2 harg2 arg3 harg3 arg4 harg4 arg5 harg5 arg6 harg6 arg7 harg7 arg8 harg8 arg9 harg9 arg10 harg10 arg11 harg11 arg12 harg12 arg13 harg13 p1.1 p1.2.1 p1.2.2.2.2
    let v141 : FVec F S64x1026 .f32 ← k0_part3 i arg1 harg1 arg2 harg2 arg3 harg3 arg4 harg4 arg5 harg5 arg6 harg6 arg7 harg7 arg8 harg8 arg9 harg9 arg10 harg10 arg11 harg11 arg12 harg12 arg13 harg13 p1.1 p1.2.1 p2.1 p2.2
    let v187 : FVec F S64x1026 .f32 ← k0_part4 i arg1 harg1 arg2 harg2 arg3 harg3 arg4 harg4 arg5 harg5 arg6 harg6 arg7 harg7 arg8 harg8 arg9 harg9 arg10 harg10 arg11 harg11 arg12 harg12 arg13 harg13 p1.1 p1.2.1 v141
    k0_part5 i arg1 harg1 arg2 harg2 arg3 harg3 arg4 harg4 arg5 harg5 arg6 harg6 arg7 harg7 arg8 harg8 arg9 harg9 arg10 harg10 arg11 harg11 arg12 harg12 arg13 harg13 p1.2.1 p1.2.2.1 v187
    k p1.1 p1.2.1 p1.2.2.1 p1.2.2.2.1) = (do
    let w : Vec F S1x1026 .f32 ← Prog.lift (.load arg4 (Rect.unit (s := S1x1026) ![0, 0] S1x1026.size inb_S1x1026_S1x1026_0_0).toLoadRect (View.loadsAt_vmem h_S1x1026))
    let b : Vec F S1x1026 .f32 ← Prog.lift (.load arg5 (Rect.unit (s := S1x1026) ![0, 0] S1x1026.size inb_S1x1026_S1x1026_0_0).toLoadRect (View.loadsAt_vmem h_S1x1026))
    let g : Vec F S1x1024 .f32 ← Prog.lift (.load arg7 (Rect.unit (s := S1x1024) ![0, 0] S1x1024.size inb_S1x1024_S1x1024_0_0).toLoadRect (View.loadsAt_vmem h_S1x1024))
    batchA arg3 arg6 arg11 harg11 arg12 arg13 0 (by decide) (k0_pay7 w) (k0_pay8 b) (k0_pay9 g)
    blk arg8 arg9 arg13 1 (by decide) spread1 9 128 1 (0 + 0) (by decide) (by decide) (by decide) (by decide)
    k (k0_pay7 w) (k0_pay8 b) (k0_pay9 g) (k0_pay10 (F := F))) := rfl

/-- The first printed parts, what follows them reading all they return but the last. -/
theorem chunk_first_of {β : Type} (k : (Σ' (_ : FVec F S1x1026 .f32) (_ : FVec F S1x1026 .f32) (_ : FVec F S1x1024 .f32) (_ : FVec F S8x1024 .f32), FVec F S128x128 .f32) → Prog (TpuEff nD τ sig (Elt F) Λ₀ .tc) β)
    (z : FVec F S128x128 .f32) (hk : ∀ p, k p = k ⟨p.1, p.2.1, p.2.2.1, p.2.2.2.1, z⟩) : (do
    let p1 ← k0_part1 (F := F) i arg1 harg1 arg2 harg2 arg3 harg3 arg4 harg4 arg5 harg5 arg6 harg6 arg7 harg7 arg8 harg8 arg9 harg9 arg10 harg10 arg11 harg11 arg12 harg12 arg13 harg13
    let p2 ← k0_part2 i arg1 harg1 arg2 harg2 arg3 harg3 arg4 harg4 arg5 harg5 arg6 harg6 arg7 harg7 arg8 harg8 arg9 harg9 arg10 harg10 arg11 harg11 arg12 harg12 arg13 harg13 p1.1 p1.2.1 p1.2.2.2.2
    let v141 : FVec F S64x1026 .f32 ← k0_part3 i arg1 harg1 arg2 harg2 arg3 harg3 arg4 harg4 arg5 harg5 arg6 harg6 arg7 harg7 arg8 harg8 arg9 harg9 arg10 harg10 arg11 harg11 arg12 harg12 arg13 harg13 p1.1 p1.2.1 p2.1 p2.2
    let v187 : FVec F S64x1026 .f32 ← k0_part4 i arg1 harg1 arg2 harg2 arg3 harg3 arg4 harg4 arg5 harg5 arg6 harg6 arg7 harg7 arg8 harg8 arg9 harg9 arg10 harg10 arg11 harg11 arg12 harg12 arg13 harg13 p1.1 p1.2.1 v141
    k0_part5 i arg1 harg1 arg2 harg2 arg3 harg3 arg4 harg4 arg5 harg5 arg6 harg6 arg7 harg7 arg8 harg8 arg9 harg9 arg10 harg10 arg11 harg11 arg12 harg12 arg13 harg13 p1.2.1 p1.2.2.1 v187
    k p1) = (do
    let w : Vec F S1x1026 .f32 ← Prog.lift (.load arg4 (Rect.unit (s := S1x1026) ![0, 0] S1x1026.size inb_S1x1026_S1x1026_0_0).toLoadRect (View.loadsAt_vmem h_S1x1026))
    let b : Vec F S1x1026 .f32 ← Prog.lift (.load arg5 (Rect.unit (s := S1x1026) ![0, 0] S1x1026.size inb_S1x1026_S1x1026_0_0).toLoadRect (View.loadsAt_vmem h_S1x1026))
    let g : Vec F S1x1024 .f32 ← Prog.lift (.load arg7 (Rect.unit (s := S1x1024) ![0, 0] S1x1024.size inb_S1x1024_S1x1024_0_0).toLoadRect (View.loadsAt_vmem h_S1x1024))
    batchA arg3 arg6 arg11 harg11 arg12 arg13 0 (by decide) (k0_pay7 w) (k0_pay8 b) (k0_pay9 g)
    blk arg8 arg9 arg13 1 (by decide) spread1 9 128 1 (0 + 0) (by decide) (by decide) (by decide) (by decide)
    k ⟨k0_pay7 w, k0_pay8 b, k0_pay9 g, k0_pay10 (F := F), z⟩) := by
  refine Eq.trans ?_ (chunk_first i arg1 harg1 arg2 harg2 arg3 harg3 arg4 harg4 arg5 harg5 arg6 harg6 arg7 harg7 arg8 harg8 arg9 harg9 arg10 harg10 arg11 harg11 arg12 harg12 arg13 harg13 (fun a b c d => k ⟨a, b, c, d, z⟩))
  exact congrArg _ (funext fun p => congrArg _ (funext fun _ => congrArg _ (funext fun _ => congrArg _ (funext fun _ => congrArg _ (funext fun _ => hk p)))))

/-- Printed parts, chained, are structured steps. -/
theorem chunk_0_0 {β : Type} (k : Prog (TpuEff nD τ sig (Elt F) Λ₀ .tc) β) : (do
    let v249 : FVec F S8x128 .f32 ← k0_part6 (F := F) i arg1 harg1 arg2 harg2 arg3 harg3 arg4 harg4 arg5 harg5 arg6 harg6 arg7 harg7 arg8 harg8 arg9 harg9 arg10 harg10 arg11 harg11 arg12 harg12 arg13 harg13
    let v279 : FVec F S8x128 .f32 ← k0_part7 i arg1 harg1 arg2 harg2 arg3 harg3 arg4 harg4 arg5 harg5 arg6 harg6 arg7 harg7 arg8 harg8 arg9 harg9 arg10 harg10 arg11 harg11 arg12 harg12 arg13 harg13 v249
    let v307 : FVec F S8x128 .f32 ← k0_part8 i arg1 harg1 arg2 harg2 arg3 harg3 arg4 harg4 arg5 harg5 arg6 harg6 arg7 harg7 arg8 harg8 arg9 harg9 arg10 harg10 arg11 harg11 arg12 harg12 arg13 harg13 v279
    let v335 : FVec F S8x128 .f32 ← k0_part9 i arg1 harg1 arg2 harg2 arg3 harg3 arg4 harg4 arg5 harg5 arg6 harg6 arg7 harg7 arg8 harg8 arg9 harg9 arg10 harg10 arg11 harg11 arg12 harg12 arg13 harg13 v307
    k0_part10 i arg1 harg1 arg2 harg2 arg3 harg3 arg4 harg4 arg5 harg5 arg6 harg6 arg7 harg7 arg8 harg8 arg9 harg9 arg10 harg10 arg11 harg11 arg12 harg12 arg13 harg13 v335
    k) = (do
    blk arg8 arg9 arg13 1 (by decide) spread1 10 0 2 (2 + 0) (by decide) (by decide) (by decide) (by decide)
    blk arg8 arg9 arg13 1 (by decide) spread1 10 128 2 (4 + 0) (by decide) (by decide) (by decide) (by decide)
    blks arg8 arg9 arg13 0 (by decide) 10 0 (by decide)
    k) := rfl

/-- Printed parts, chained, are structured steps. -/
theorem chunk_0_10 {β : Type} (k : Prog (TpuEff nD τ sig (Elt F) Λ₀ .tc) β) : (do
    let v393 : FVec F S8x128 .f32 ← k0_part11 (F := F) i arg1 harg1 arg2 harg2 arg3 harg3 arg4 harg4 arg5 harg5 arg6 harg6 arg7 harg7 arg8 harg8 arg9 harg9 arg10 harg10 arg11 harg11 arg12 harg12 arg13 harg13
    let v423 : FVec F S8x128 .f32 ← k0_part12 i arg1 harg1 arg2 harg2 arg3 harg3 arg4 harg4 arg5 harg5 arg6 harg6 arg7 harg7 arg8 harg8 arg9 harg9 arg10 harg10 arg11 harg11 arg12 harg12 arg13 harg13 v393
    let v451 : FVec F S8x128 .f32 ← k0_part13 i arg1 harg1 arg2 harg2 arg3 harg3 arg4 harg4 arg5 harg5 arg6 harg6 arg7 harg7 arg8 harg8 arg9 harg9 arg10 harg10 arg11 harg11 arg12 harg12 arg13 harg13 v423
    let v479 : FVec F S8x128 .f32 ← k0_part14 i arg1 harg1 arg2 harg2 arg3 harg3 arg4 harg4 arg5 harg5 arg6 harg6 arg7 harg7 arg8 harg8 arg9 harg9 arg10 harg10 arg11 harg11 arg12 harg12 arg13 harg13 v451
    k0_part15 i arg1 harg1 arg2 harg2 arg3 harg3 arg4 harg4 arg5 harg5 arg6 harg6 arg7 harg7 arg8 harg8 arg9 harg9 arg10 harg10 arg11 harg11 arg12 harg12 arg13 harg13 v479
    k) = (do
    blks arg8 arg9 arg13 0 (by decide) 12 10 (by decide)
    k) := rfl

/-- Printed parts, chained, are structured steps. -/
theorem chunk_0_22 {β : Type} (k : Prog (TpuEff nD τ sig (Elt F) Λ₀ .tc) β) : (do
    let v537 : FVec F S8x128 .f32 ← k0_part16 (F := F) i arg1 harg1 arg2 harg2 arg3 harg3 arg4 harg4 arg5 harg5 arg6 harg6 arg7 harg7 arg8 harg8 arg9 harg9 arg10 harg10 arg11 harg11 arg12 harg12 arg13 harg13
    let v567 : FVec F S8x128 .f32 ← k0_part17 i arg1 harg1 arg2 harg2 arg3 harg3 arg4 harg4 arg5 harg5 arg6 harg6 arg7 harg7 arg8 harg8 arg9 harg9 arg10 harg10 arg11 harg11 arg12 harg12 arg13 harg13 v537
    let v595 : FVec F S8x128 .f32 ← k0_part18 i arg1 harg1 arg2 harg2 arg3 harg3 arg4 harg4 arg5 harg5 arg6 harg6 arg7 harg7 arg8 harg8 arg9 harg9 arg10 harg10 arg11 harg11 arg12 harg12 arg13 harg13 v567
    let v623 : FVec F S8x128 .f32 ← k0_part19 i arg1 harg1 arg2 harg2 arg3 harg3 arg4 harg4 arg5 harg5 arg6 harg6 arg7 harg7 arg8 harg8 arg9 harg9 arg10 harg10 arg11 harg11 arg12 harg12 arg13 harg13 v595
    k0_part20 i arg1 harg1 arg2 harg2 arg3 harg3 arg4 harg4 arg5 harg5 arg6 harg6 arg7 harg7 arg8 harg8 arg9 harg9 arg10 harg10 arg11 harg11 arg12 harg12 arg13 harg13 v623
    k) = (do
    blks arg8 arg9 arg13 0 (by decide) 12 22 (by decide)
    k) := rfl

/-- Printed parts, chained, are structured steps. -/
theorem chunk_0_34 {β : Type} (k : Prog (TpuEff nD τ sig (Elt F) Λ₀ .tc) β) : (do
    let v681 : FVec F S8x128 .f32 ← k0_part21 (F := F) i arg1 harg1 arg2 harg2 arg3 harg3 arg4 harg4 arg5 harg5 arg6 harg6 arg7 harg7 arg8 harg8 arg9 harg9 arg10 harg10 arg11 harg11 arg12 harg12 arg13 harg13
    let v711 : FVec F S8x128 .f32 ← k0_part22 i arg1 harg1 arg2 harg2 arg3 harg3 arg4 harg4 arg5 harg5 arg6 harg6 arg7 harg7 arg8 harg8 arg9 harg9 arg10 harg10 arg11 harg11 arg12 harg12 arg13 harg13 v681
    let v739 : FVec F S8x128 .f32 ← k0_part23 i arg1 harg1 arg2 harg2 arg3 harg3 arg4 harg4 arg5 harg5 arg6 harg6 arg7 harg7 arg8 harg8 arg9 harg9 arg10 harg10 arg11 harg11 arg12 harg12 arg13 harg13 v711
    let v767 : FVec F S8x128 .f32 ← k0_part24 i arg1 harg1 arg2 harg2 arg3 harg3 arg4 harg4 arg5 harg5 arg6 harg6 arg7 harg7 arg8 harg8 arg9 harg9 arg10 harg10 arg11 harg11 arg12 harg12 arg13 harg13 v739
    k0_part25 i arg1 harg1 arg2 harg2 arg3 harg3 arg4 harg4 arg5 harg5 arg6 harg6 arg7 harg7 arg8 harg8 arg9 harg9 arg10 harg10 arg11 harg11 arg12 harg12 arg13 harg13 v767
    k) = (do
    blks arg8 arg9 arg13 0 (by decide) 12 34 (by decide)
    k) := rfl

end

end Cert.KernelIdeal

end
-- ==== Proof.KI.Whole.lean ====
module

public import proofs.«01_k».proof.Proof.KI.ChB
public import proofs.«01_k».proof.Proof.KI.ChC
public import proofs.«01_k».proof.Proof.KI.ChD
public import proofs.«01_k».proof.Proof.KI.ChM
public import proofs.«01_k».proof.Proof.KI.ChA

@[expose] public section

set_option maxRecDepth 65536

noncomputable section

namespace Cert.KernelIdeal

open Idealize.ShloMosaic Idealize.SL.Sem Gen

variable {F : FTy → Type} [FloatOps F]

theorem bind_cong {α β : Type} {p : Prog (TpuEff nD τ sig (Elt F) Λ₀ .tc) α} {f g : α → Prog (TpuEff nD τ sig (Elt F) Λ₀ .tc) β}
    (h : ∀ a, f a = g a) : (p >>= f) = (p >>= g) := congrArg (p >>= ·) (funext h)

/-- The first of a run of half-blocks, split off. -/
theorem blks_step {β : Type} {arg8 : Memref sig .tc .vmem S8x256 .f32} {arg9 : Memref sig .tc .vmem S2048x128 .f32}
    {arg13 : Memref sig .tc .vmem S528x1024 .f32} {bi : Nat} {hb : bi < 2} {k h n : Nat} {hk : h + k ≤ 126} {hn : h + n ≤ 126}
    (n' h' : Nat) (hn' : h' + n' ≤ 126) (e : h' = h + k) (e' : n = k + n')
    {K : Prog (TpuEff nD τ sig (Elt F) Λ₀ .tc) β} {K' : PUnit → Prog (TpuEff nD τ sig (Elt F) Λ₀ .tc) β}
    (H : K = (blks (F := F) arg8 arg9 arg13 bi hb n' h' hn' >>= K')) :
    (blks (F := F) arg8 arg9 arg13 bi hb k h hk >>= fun _ => K) = (blks arg8 arg9 arg13 bi hb n h hn >>= K') := by
  rw [← blks_append arg8 arg9 arg13 bi hb k h n' h' hk hn' e n hn e', Prog.bind_assoc]
  exact bind_cong fun _ => H

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

/-- The printed last step is the structured one. -/
theorem lastPrinted_eq : lastPrinted (F := F) i arg1 harg1 arg2 harg2 arg3 harg3 arg4 harg4 arg5 harg5 arg6 harg6 arg7 harg7 arg8 harg8 arg9 harg9 arg10 harg10 arg11 harg11 arg12 harg12 arg13 harg13 = lastStep arg3 arg4 arg5 arg6 arg7 arg8 arg9 arg10 arg11 harg11 arg12 arg13 := by
  unfold lastPrinted lastStep batchY
  rw [k0_part121_eq_skeleton, k0_part122_eq_skeleton]
  unfold k0_part121_skel k0_part122_skel
  simp only [Prog.bind_assoc, pure_bind]
  refine (chunk_first_of i arg1 harg1 arg2 harg2 arg3 harg3 arg4 harg4 arg5 harg5 arg6 harg6 arg7 harg7 arg8 harg8 arg9 harg9 arg10 harg10 arg11 harg11 arg12 harg12 arg13 harg13 _ (broadcast S128x128 (Scalar.ofBits .f32 0#32)) (fun _ => rfl)).trans ?_
  refine bind_cong fun w => bind_cong fun b => bind_cong fun g => bind_cong fun _ => bind_cong fun _ => ?_
  refine (chunk_0_0 i arg1 harg1 arg2 harg2 arg3 harg3 arg4 harg4 arg5 harg5 arg6 harg6 arg7 harg7 arg8 harg8 arg9 harg9 arg10 harg10 arg11 harg11 arg12 harg12 arg13 harg13 _).trans ?_
  refine bind_cong fun _ => bind_cong fun _ => blks_step 116 10 (by decide) (by decide) (by decide) ?_
  refine (chunk_0_10 i arg1 harg1 arg2 harg2 arg3 harg3 arg4 harg4 arg5 harg5 arg6 harg6 arg7 harg7 arg8 harg8 arg9 harg9 arg10 harg10 arg11 harg11 arg12 harg12 arg13 harg13 _).trans (blks_step 104 22 (by decide) (by decide) (by decide) ?_)
  refine (chunk_0_22 i arg1 harg1 arg2 harg2 arg3 harg3 arg4 harg4 arg5 harg5 arg6 harg6 arg7 harg7 arg8 harg8 arg9 harg9 arg10 harg10 arg11 harg11 arg12 harg12 arg13 harg13 _).trans (blks_step 92 34 (by decide) (by decide) (by decide) ?_)
  refine (chunk_0_34 i arg1 harg1 arg2 harg2 arg3 harg3 arg4 harg4 arg5 harg5 arg6 harg6 arg7 harg7 arg8 harg8 arg9 harg9 arg10 harg10 arg11 harg11 arg12 harg12 arg13 harg13 _).trans (blks_step 80 46 (by decide) (by decide) (by decide) ?_)
  refine (chunk_0_46 i arg1 harg1 arg2 harg2 arg3 harg3 arg4 harg4 arg5 harg5 arg6 harg6 arg7 harg7 arg8 harg8 arg9 harg9 arg10 harg10 arg11 harg11 arg12 harg12 arg13 harg13 _).trans (blks_step 68 58 (by decide) (by decide) (by decide) ?_)
  refine (chunk_0_58 i arg1 harg1 arg2 harg2 arg3 harg3 arg4 harg4 arg5 harg5 arg6 harg6 arg7 harg7 arg8 harg8 arg9 harg9 arg10 harg10 arg11 harg11 arg12 harg12 arg13 harg13 _).trans (blks_step 56 70 (by decide) (by decide) (by decide) ?_)
  refine (chunk_0_70 i arg1 harg1 arg2 harg2 arg3 harg3 arg4 harg4 arg5 harg5 arg6 harg6 arg7 harg7 arg8 harg8 arg9 harg9 arg10 harg10 arg11 harg11 arg12 harg12 arg13 harg13 _).trans (blks_step 44 82 (by decide) (by decide) (by decide) ?_)
  refine (chunk_0_82 i arg1 harg1 arg2 harg2 arg3 harg3 arg4 harg4 arg5 harg5 arg6 harg6 arg7 harg7 arg8 harg8 arg9 harg9 arg10 harg10 arg11 harg11 arg12 harg12 arg13 harg13 _).trans (blks_step 32 94 (by decide) (by decide) (by decide) ?_)
  refine (chunk_0_94 i arg1 harg1 arg2 harg2 arg3 harg3 arg4 harg4 arg5 harg5 arg6 harg6 arg7 harg7 arg8 harg8 arg9 harg9 arg10 harg10 arg11 harg11 arg12 harg12 arg13 harg13 _).trans (blks_step 20 106 (by decide) (by decide) (by decide) ?_)
  refine (chunk_0_106 i arg1 harg1 arg2 harg2 arg3 harg3 arg4 harg4 arg5 harg5 arg6 harg6 arg7 harg7 arg8 harg8 arg9 harg9 arg10 harg10 arg11 harg11 arg12 harg12 arg13 harg13 _).trans (blks_step 8 118 (by decide) (by decide) (by decide) ?_)
  refine (chunk_mid i arg1 harg1 arg2 harg2 arg3 harg3 arg4 harg4 arg5 harg5 arg6 harg6 arg7 harg7 arg8 harg8 arg9 harg9 arg10 harg10 arg11 harg11 arg12 harg12 arg13 harg13 _ _ _ _).trans ?_
  refine bind_cong fun _ => bind_cong fun _ => bind_cong fun _ => bind_cong fun _ => bind_cong fun _ => bind_cong fun _ => ?_
  refine bind_cong fun _ => bind_cong fun _ => bind_cong fun _ => bind_cong fun _ => blks_step 121 5 (by decide) (by decide) (by decide) ?_
  refine (chunk_1_5 i arg1 harg1 arg2 harg2 arg3 harg3 arg4 harg4 arg5 harg5 arg6 harg6 arg7 harg7 arg8 harg8 arg9 harg9 arg10 harg10 arg11 harg11 arg12 harg12 arg13 harg13 _).trans (blks_step 109 17 (by decide) (by decide) (by decide) ?_)
  refine (chunk_1_17 i arg1 harg1 arg2 harg2 arg3 harg3 arg4 harg4 arg5 harg5 arg6 harg6 arg7 harg7 arg8 harg8 arg9 harg9 arg10 harg10 arg11 harg11 arg12 harg12 arg13 harg13 _).trans (blks_step 97 29 (by decide) (by decide) (by decide) ?_)
  refine (chunk_1_29 i arg1 harg1 arg2 harg2 arg3 harg3 arg4 harg4 arg5 harg5 arg6 harg6 arg7 harg7 arg8 harg8 arg9 harg9 arg10 harg10 arg11 harg11 arg12 harg12 arg13 harg13 _).trans (blks_step 85 41 (by decide) (by decide) (by decide) ?_)
  refine (chunk_1_41 i arg1 harg1 arg2 harg2 arg3 harg3 arg4 harg4 arg5 harg5 arg6 harg6 arg7 harg7 arg8 harg8 arg9 harg9 arg10 harg10 arg11 harg11 arg12 harg12 arg13 harg13 _).trans (blks_step 73 53 (by decide) (by decide) (by decide) ?_)
  refine (chunk_1_53 i arg1 harg1 arg2 harg2 arg3 harg3 arg4 harg4 arg5 harg5 arg6 harg6 arg7 harg7 arg8 harg8 arg9 harg9 arg10 harg10 arg11 harg11 arg12 harg12 arg13 harg13 _).trans (blks_step 61 65 (by decide) (by decide) (by decide) ?_)
  refine (chunk_1_65 i arg1 harg1 arg2 harg2 arg3 harg3 arg4 harg4 arg5 harg5 arg6 harg6 arg7 harg7 arg8 harg8 arg9 harg9 arg10 harg10 arg11 harg11 arg12 harg12 arg13 harg13 _).trans (blks_step 49 77 (by decide) (by decide) (by decide) ?_)
  refine (chunk_1_77 i arg1 harg1 arg2 harg2 arg3 harg3 arg4 harg4 arg5 harg5 arg6 harg6 arg7 harg7 arg8 harg8 arg9 harg9 arg10 harg10 arg11 harg11 arg12 harg12 arg13 harg13 _).trans (blks_step 37 89 (by decide) (by decide) (by decide) ?_)
  refine (chunk_1_89 i arg1 harg1 arg2 harg2 arg3 harg3 arg4 harg4 arg5 harg5 arg6 harg6 arg7 harg7 arg8 harg8 arg9 harg9 arg10 harg10 arg11 harg11 arg12 harg12 arg13 harg13 _).trans (blks_step 25 101 (by decide) (by decide) (by decide) ?_)
  refine (chunk_1_101 i arg1 harg1 arg2 harg2 arg3 harg3 arg4 harg4 arg5 harg5 arg6 harg6 arg7 harg7 arg8 harg8 arg9 harg9 arg10 harg10 arg11 harg11 arg12 harg12 arg13 harg13 _).trans (blks_step 13 113 (by decide) (by decide) (by decide) ?_)
  refine (chunk_1_113 i arg1 harg1 arg2 harg2 arg3 harg3 arg4 harg4 arg5 harg5 arg6 harg6 arg7 harg7 arg8 harg8 arg9 harg9 arg10 harg10 arg11 harg11 arg12 harg12 arg13 harg13 _).trans (blks_step 1 125 (by decide) (by decide) (by decide) ?_)
  exact chunk_last i arg1 harg1 arg2 harg2 arg3 harg3 arg4 harg4 arg5 harg5 arg6 harg6 arg7 harg7 arg8 harg8 arg9 harg9 arg10 harg10 arg11 harg11 arg12 harg12 arg13 harg13

/-- The printed body is the accumulation, then at the last point the last step. -/
theorem body_eq : cc0_istft_head (F := F) i arg1 harg1 arg2 harg2 arg3 harg3 arg4 harg4 arg5 harg5 arg6 harg6 arg7 harg7 arg8 harg8 arg9 harg9 arg10 harg10 arg11 harg11 arg12 harg12 arg13 harg13 = (accStep i arg1 arg2 arg12 >>= fun _ =>
    if k0_h3 : k0_cond3 i = 1#1 then lastStep arg3 arg4 arg5 arg6 arg7 arg8 arg9 arg10 arg11 harg11 arg12 arg13 else pure ⟨⟩) := by
  rw [← lastPrinted_eq i arg1 harg1 arg2 harg2 arg3 harg3 arg4 harg4 arg5 harg5 arg6 harg6 arg7 harg7 arg8 harg8 arg9 harg9 arg10 harg10 arg11 harg11 arg12 harg12 arg13 harg13]
  rw [cc0_istft_head_eq_skeleton]
  unfold cc0_istft_head_skel accStep lastPrinted
  by_cases h1 : Scalar.cmpi .ne (Scalar.extui (Scalar.cmpi .eq (BitVec.ofNat 32 (i 0).val) 0#32)) 0#32 = 1#1 <;>
  by_cases h2 : Scalar.cmpi .ne (Scalar.extui (Scalar.cmpi .sgt (BitVec.ofNat 32 (i 0).val) 0#32)) 0#32 = 1#1 <;>
  by_cases h3 : k0_cond3 i = 1#1 <;>
  (simp only [h1, h2, h3, dite_true, dite_false, Prog.bind_assoc, pure_bind]; try rfl)

end

end Cert.KernelIdeal

end
-- ==== Proof.KI.Body.lean ====
module

public import proofs.«01_k».proof.Proof.KI.Triples
public import proofs.«01_k».proof.Proof.KI.Whole
public import Idealize.ShloMosaic.Lib.Ring
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-- The body's three conditions. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := (Scalar.cmpi .ne (Scalar.extui (Scalar.cmpi .sgt (BitVec.ofNat 32 (i 0).val) 0#32)) 0#32) = 1#1
abbrev cond0_2 (i : grid0.Coords) : Prop := k0_cond3 i = 1#1

section
variable (c : Dev nD) (E : Set ℕ)
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

/-- The first point's accumulation. -/
theorem wp_accFirst (h0 : cond0_0 i) (h1 : ¬cond0_1 i) (x0 : Vec F S1024x512 .fp8e4m3) (x1 : Vec F S512x1026 .fp8e4m3) (A : Vec F S1024x1026 .f32)
    (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay2 x0 x1)) -∗ Φ ⟨⟩))
      ⊢ wp frame (wpE (defs₀ (F := F)) Variants.none c none) E (accStep i arg1 arg2 arg12) Φ := by
  unfold accStep
  simp only [h0, h1, dite_true, dite_false, Prog.bind_assoc, pure_bind]
  iintro ⟨H1, H2, H12, Hk⟩
  rw [wp_bind]; iapply (wp_ld c E arg1 _ _ _ _); isplitl [H1]; · iexact H1
  iintro H1
  rw [wp_bind]; iapply (wp_ld c E arg2 _ _ _ _); isplitl [H2]; · iexact H2
  iintro H2
  rw [wp_bind]; iapply (wp_ld c E arg12 _ _ _ _); isplitl [H12]; · iexact H12
  iintro H12
  rw [wp_bind]; iapply (wp_st c E arg12 _ _ _ _ _ _); isplitl [H12]; · iexact H12
  iintro H12
  iapply (wp_nop c E _)
  rw [ld_whole x0, ld_whole x1, upd_whole A]
  iapply Hk
  isplitl [H1]; · iexact H1
  isplitl [H2]; · iexact H2
  iexact H12

/-- A later point's. -/
theorem wp_accNext (h0 : ¬cond0_0 i) (h1 : cond0_1 i) (x0 : Vec F S1024x512 .fp8e4m3) (x1 : Vec F S512x1026 .fp8e4m3) (A : Vec F S1024x1026 .f32)
    (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay3 x0 x1 A)) -∗ Φ ⟨⟩))
      ⊢ wp frame (wpE (defs₀ (F := F)) Variants.none c none) E (accStep i arg1 arg2 arg12) Φ := by
  unfold accStep
  simp only [h0, h1, dite_true, dite_false, Prog.bind_assoc, pure_bind]
  iintro ⟨H1, H2, H12, Hk⟩
  rw [wp_bind]; iapply (wp_ld c E arg1 _ _ _ _); isplitl [H1]; · iexact H1
  iintro H1
  rw [wp_bind]; iapply (wp_ld c E arg2 _ _ _ _); isplitl [H2]; · iexact H2
  iintro H2
  rw [wp_bind]; iapply (wp_ld c E arg12 _ _ _ _); isplitl [H12]; · iexact H12
  iintro H12
  rw [wp_bind]; iapply (wp_ld c E arg12 _ _ _ _); isplitl [H12]; · iexact H12
  iintro H12
  rw [wp_bind]; iapply (wp_st c E arg12 _ _ _ _ _ _); isplitl [H12]; · iexact H12
  iintro H12
  iapply (wp_nop c E _)
  rw [ld_whole x0, ld_whole x1, ld_whole A, upd_whole A]
  iapply Hk
  isplitl [H1]; · iexact H1
  isplitl [H2]; · iexact H2
  iexact H12

/-- The body at the first point, -/
theorem wp_bodyA (h0 : cond0_0 i) (h1 : ¬cond0_1 i) (h2 : ¬cond0_2 i) (x0 : Vec F S1024x512 .fp8e4m3) (x1 : Vec F S512x1026 .fp8e4m3)
    (A : Vec F S1024x1026 .f32) (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay2 x0 x1)) -∗ Φ ⟨⟩))
      ⊢ wp frame (wpE (defs₀ (F := F)) Variants.none c none) E (cc0_istft_head i arg1 harg1 arg2 harg2 arg3 harg3 arg4 harg4 arg5 harg5 arg6 harg6 arg7 harg7 arg8 harg8 arg9 harg9 arg10 harg10 arg11 harg11 arg12 harg12 arg13 harg13) Φ := by
  rw [body_eq, wp_bind]
  iintro ⟨H1, H2, H12, Hk⟩
  iapply (wp_accFirst c E i arg1 arg2 arg12 h0 h1 x0 x1 A _)
  isplitl [H1]; · iexact H1
  isplitl [H2]; · iexact H2
  isplitl [H12]; · iexact H12
  iintro H
  rw [dif_neg h2]
  iapply (wp_nop c E _)
  iapply Hk
  iexact H

/-- between, -/
theorem wp_bodyB (h0 : ¬cond0_0 i) (h1 : cond0_1 i) (h2 : ¬cond0_2 i) (x0 : Vec F S1024x512 .fp8e4m3) (x1 : Vec F S512x1026 .fp8e4m3)
    (A : Vec F S1024x1026 .f32) (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay3 x0 x1 A)) -∗ Φ ⟨⟩))
      ⊢ wp frame (wpE (defs₀ (F := F)) Variants.none c none) E (cc0_istft_head i arg1 harg1 arg2 harg2 arg3 harg3 arg4 harg4 arg5 harg5 arg6 harg6 arg7 harg7 arg8 harg8 arg9 harg9 arg10 harg10 arg11 harg11 arg12 harg12 arg13 harg13) Φ := by
  rw [body_eq, wp_bind]
  iintro ⟨H1, H2, H12, Hk⟩
  iapply (wp_accNext c E i arg1 arg2 arg12 h0 h1 x0 x1 A _)
  isplitl [H1]; · iexact H1
  isplitl [H2]; · iexact H2
  isplitl [H12]; · iexact H12
  iintro H
  rw [dif_neg h2]
  iapply (wp_nop c E _)
  iapply Hk
  iexact H

/-- and at the last. -/
theorem wp_bodyC (h0 : ¬cond0_0 i) (h1 : cond0_1 i) (h2 : cond0_2 i) (x0 : Vec F S1024x512 .fp8e4m3) (x1 : Vec F S512x1026 .fp8e4m3)
    (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) (e : Vec F S32x128 .f32)
    (Φ : PUnit → sProp 𝕄) :
    iprop(owns (c : Thread nD τ) arg1 fullShare x0 ∗ owns (c : Thread nD τ) arg2 fullShare x1 ∗ owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare Y ∗ owns (c : Thread nD τ) arg10 fullShare e ∗ owns (c : Thread nD τ) arg11 fullShare S ∗ owns (c : Thread nD τ) arg12 fullShare A ∗ owns (c : Thread nD τ) arg13 fullShare Z ∗ (iprop(owns (c : Thread nD τ) arg1 fullShare x0 ∗ owns (c : Thread nD τ) arg2 fullShare x1 ∗ owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare (lastY X W B M G N (k0_pay3 x0 x1 A) S Z Y) ∗ owns (c : Thread nD τ) arg10 fullShare (endsS (lastY X W B M G N (k0_pay3 x0 x1 A) S Z Y) e) ∗ owns (c : Thread nD τ) arg11 fullShare (lastS X W B (k0_pay3 x0 x1 A) S) ∗ owns (c : Thread nD τ) arg12 fullShare (k0_pay3 x0 x1 A) ∗ owns (c : Thread nD τ) arg13 fullShare (lastZ X W B M G (k0_pay3 x0 x1 A) S Z)) -∗ Φ ⟨⟩))
      ⊢ wp frame (wpE (defs₀ (F := F)) Variants.none c none) E (cc0_istft_head i arg1 harg1 arg2 harg2 arg3 harg3 arg4 harg4 arg5 harg5 arg6 harg6 arg7 harg7 arg8 harg8 arg9 harg9 arg10 harg10 arg11 harg11 arg12 harg12 arg13 harg13) Φ := by
  rw [body_eq, wp_bind]
  iintro ⟨H1, H2, H3, H4, H5, H6, H7, H8, H9, H10, H11, H12, H13, Hk⟩
  iapply (wp_accNext c E i arg1 arg2 arg12 h0 h1 x0 x1 A _)
  isplitl [H1]; · iexact H1
  isplitl [H2]; · iexact H2
  isplitl [H12]; · iexact H12
  iintro ⟨H1, H2, H12⟩
  rw [dif_pos h2]
  iapply (wp_lastStep c E arg3 arg4 arg5 arg6 arg7 arg8 arg9 arg10 arg11 harg11 arg12 arg13 X W B M G N (k0_pay3 x0 x1 A) S Z Y e _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end

end Cert.KernelIdeal

end
-- ==== Proof.KI.Closed.lean ====
module

public import proofs.«01_k».proof.Proof.KI.Triples
public import Idealize.ShloMosaic.Lib.Pointwise

@[expose] public section

set_option maxRecDepth 16384

noncomputable section

namespace Cert.KernelIdeal

open Idealize.ShloMosaic Idealize.ShloMosaic.TcCoe Idealize.SL.Sem
open Gen

variable {F : FTy → Type} [FloatOps F]

/-! ## An array known on a part of its indices -/

/-- On `D` the array `X` is `G`. -/
def On {s : Shape} {A : Type} (D : s.Idx → Prop) (G X : s.Idx → A) : Prop := ∀ y, D y → X y = G y

theorem On.upd {s : Shape} {A : Type} {D : s.Idx → Prop} {G X : s.Idx → A} (h : On D G X) (D' : s.Idx → Prop) (r : Rect s)
    (w : r.shape.Idx → A) (hw : ∀ x, w x = G (r.emb x))
    (hD : ∀ y, D' y → D y ∨ ∃ x : r.shape.Idx, ∀ a, (y a).val = r.off a + r.stride a * (x a).val) :
    On D' G (upd X r w) := by
  intro y hy
  by_cases hr : y ∈ r.set
  · obtain ⟨x, rfl⟩ := r.exists_idx_of_mem hr
    exact (upd_emb X r w x).trans (hw x)
  · rw [upd_miss _ _ _ _ hr]
    rcases hD y hy with h' | ⟨x, hx⟩
    · exact h y h'
    · exact absurd (by rw [← r.emb_eq_of_coords x y hx]; exact r.idx_mem x) hr

theorem On.mono {s : Shape} {A : Type} {D D' : s.Idx → Prop} {G X : s.Idx → A} (h : On D G X) (hD : ∀ y, D' y → D y) : On D' G X :=
  fun y hy => h y (hD y hy)

theorem On.none {s : Shape} {A : Type} (G X : s.Idx → A) : On (fun _ => False) G X := fun _ h => h.elim

theorem On.eq {s : Shape} {A : Type} {G X : s.Idx → A} {D : s.Idx → Prop} (h : On D G X) (hD : ∀ y, D y) : X = G := funext fun y => h y (hD y)

/-! ## The spectrum -/

/-- The accumulator's entry, scaled and offset; -/
def hAt (X : Vec F S2x512 .f32) (W B : Vec F S1x1026 .f32) (A : Vec F S1024x1026 .f32) (R : Fin 1024) (j : Fin 1026) : F .f32 :=
  FloatOps.addf (FloatOps.mulf (FloatOps.mulf (A (ix2 R j)) (X (ix2 (⟨R.val / 512, by omega⟩ : Fin 2) (⟨R.val % 512, by omega⟩ : Fin 512))))
    (W (ix2 (0 : Fin 1) j))) (B (ix2 (0 : Fin 1) j))

/-- its magnitude, capped. -/
def magAt (X : Vec F S2x512 .f32) (W B : Vec F S1x1026 .f32) (A : Vec F S1024x1026 .f32) (R : Fin 1024) (j : Fin 1026) : F .f32 :=
  FloatOps.minimumf (FloatOps.exp (hAt X W B A R j)) (FloatOps.ofBits .f32 0x42C80000#32)

/-- The spectrum: real parts, then imaginary parts, rounded. -/
def specAt (X : Vec F S2x512 .f32) (W B : Vec F S1x1026 .f32) (A : Vec F S1024x1026 .f32) (R : Fin 1024) (j : Fin 1026) : F .bf16 :=
  FloatOps.truncf .bf16 bitsLt_bf16_f32
    (if h : j.val < 513 then FloatOps.mulf (magAt X W B A R j) (FloatOps.cos (hAt X W B A R ⟨513 + j.val, by omega⟩))
     else FloatOps.mulf (magAt X W B A R ⟨j.val - 513, by omega⟩) (FloatOps.sin (hAt X W B A R j)))

/-- The same as an array. -/
def specV (X : Vec F S2x512 .f32) (W B : Vec F S1x1026 .f32) (A : Vec F S1024x1026 .f32) : Vec F S1024x1026 .bf16 := fun y =>
  specAt X W B A (y 0) (y 1)

theorem specPay_at (X : Vec F S2x512 .f32) (W B : Vec F S1x1026 .f32) (A : Vec F S1024x1026 .f32) (o : Nat) (ho : S128x128.Slices ![o, 0] S64x1)
    (x : Vec F S1x128 .f32) (a : Vec F S64x1026 .f32) (R : Fin 1024) (i : Fin 64) (j : Fin 1026) (hoi : o + i.val < 128)
    (hx : x (ix2 (0 : Fin 1) (⟨o + i.val, hoi⟩ : Fin 128)) = X (ix2 (⟨R.val / 512, by omega⟩ : Fin 2) (⟨R.val % 512, by omega⟩ : Fin 512)))
    (ha : ∀ j : Fin 1026, a (ix2 i j) = A (ix2 R j)) :
    specPay o ho W B (k0_pay13 x) a (ix2 i j) = specAt X W B A R j := by
  pointwise [specPay, k0_pay13]
  have key : ∀ j : Fin 1026, FloatOps.addf (FloatOps.mulf (FloatOps.mulf (a (ix2 i j)) (x (ix2 (0 : Fin 1) (⟨o + i.val, hoi⟩ : Fin 128))))
      (W (ix2 (0 : Fin 1) j))) (B (ix2 (0 : Fin 1) j)) = hAt X W B A R j := fun j => by unfold hAt; rw [ha, hx]
  unfold specAt magAt
  refine congrArg _ ?_
  by_cases h : j.val < 513
  · refine (dif_pos h).trans (Eq.trans ?_ (dif_pos h).symm)
    exact congrArg₂ FloatOps.mulf (congrArg (fun z => FloatOps.minimumf (FloatOps.exp z) _) (key _)) (congrArg FloatOps.cos (key _))
  · have e : (⟨513 + (j.val - 513), by omega⟩ : Fin 1026) = j := Fin.ext (by show 513 + (j.val - 513) = j.val; omega)
    refine (dif_neg h).trans (Eq.trans ?_ (dif_neg h).symm)
    exact congrArg₂ FloatOps.mulf (congrArg (fun z => FloatOps.minimumf (FloatOps.exp z) _) (key _))
      (congrArg FloatOps.sin ((key _).trans (congrArg (hAt X W B A R) e)))

/-- 64 more rows. -/
theorem specHalfS_on (X : Vec F S2x512 .f32) (W B : Vec F S1x1026 .f32) (A : Vec F S1024x1026 .f32) (S : Vec F S1024x1026 .bf16)
    (bi ch o lo : Nat) (hb : bi < 2) (hc : ch < 4) (ho' : o = 0 ∨ o = 64) (hR : 512 * bi + 128 * ch + o + 64 ≤ 1024)
    (ho : S128x128.Slices ![o, 0] S64x1)
    (h : On (fun y => lo ≤ (y 0).val ∧ (y 0).val < 512 * bi + 128 * ch + o) (specV X W B A) S) :
    On (fun y => lo ≤ (y 0).val ∧ (y 0).val < 512 * bi + 128 * ch + o + 64) (specV X W B A)
      (specHalfS (512 * bi + 128 * ch + o) o hR ho W B
        (k0_pay13 (ld X (Rect.unit (s := S2x512) ![bi, 128 * ch] S1x128.size (xs_inb hb (by omega))).toLoadRect)) A S) := by
  unfold specHalfS
  refine h.upd _ (spR (512 * bi + 128 * ch + o) hR) _ (fun x => ?_) (fun y hy => ?_)
  · obtain ⟨i, j, rfl⟩ : ∃ (i : Fin 64) (j : Fin 1026), x = (ix2 i j : S64x1026.Idx) := ⟨x 0, x 1, eq_ix2 x⟩
    have hR' : 512 * bi + 128 * ch + o + i.val < 1024 := by omega
    have e : (spR (512 * bi + 128 * ch + o) hR).emb (ix2 i j : S64x1026.Idx) = ix2 (⟨512 * bi + 128 * ch + o + i.val, hR'⟩ : Fin 1024) j := by
      refine funext (Fin.forall_fin_two.mpr ⟨Fin.ext ?_, Fin.ext ?_⟩)
      · show 512 * bi + 128 * ch + o + 1 * i.val = _; rw [Nat.one_mul]; rfl
      · show 0 + 1 * j.val = j.val; omega
    rw [e]
    have hi := i.isLt
    refine specPay_at X W B A o ho _ _ (⟨512 * bi + 128 * ch + o + i.val, hR'⟩ : Fin 1024) i j (by omega) ?_ (fun j => ?_)
    · refine congrArg X (funext (Fin.forall_fin_two.mpr ⟨Fin.ext ?_, Fin.ext ?_⟩))
      · show bi + 1 * 0 = (512 * bi + 128 * ch + o + i.val) / 512; omega
      · show 128 * ch + 1 * (o + i.val) = (512 * bi + 128 * ch + o + i.val) % 512; omega
    · refine congrArg A (funext (Fin.forall_fin_two.mpr ⟨Fin.ext ?_, Fin.ext ?_⟩))
      · show 512 * bi + 128 * ch + o + 1 * i.val = 512 * bi + 128 * ch + o + i.val; omega
      · show 0 + 1 * j.val = j.val; omega
  · by_cases hlt : (y 0).val < 512 * bi + 128 * ch + o
    · exact Or.inl ⟨hy.1, hlt⟩
    · refine Or.inr ⟨(ix2 (⟨(y 0).val - (512 * bi + 128 * ch + o), by have := hy.2; omega⟩ : Fin 64) (y 1) : S64x1026.Idx), Fin.forall_fin_two.mpr ⟨?_, ?_⟩⟩
      · show (y 0).val = 512 * bi + 128 * ch + o + 1 * ((y 0).val - (512 * bi + 128 * ch + o)); omega
      · show (y 1).val = 0 + 1 * (y 1).val; omega

/-- A batch's rows. -/
theorem specS_on (X : Vec F S2x512 .f32) (W B : Vec F S1x1026 .f32) (A : Vec F S1024x1026 .f32) (S : Vec F S1024x1026 .bf16)
    (bi lo : Nat) (hb : bi < 2) (h : On (fun y => lo ≤ (y 0).val ∧ (y 0).val < 512 * bi) (specV X W B A) S) :
    On (fun y => lo ≤ (y 0).val ∧ (y 0).val < 512 * bi + 512) (specV X W B A) (specS bi hb W B X A S) := by
  have step (ch : Nat) (hc : ch < 4) (S : Vec F S1024x1026 .bf16)
      (h : On (fun y => lo ≤ (y 0).val ∧ (y 0).val < 512 * bi + 128 * ch) (specV X W B A) S) :
      On (fun y => lo ≤ (y 0).val ∧ (y 0).val < 512 * bi + 128 * (ch + 1)) (specV X W B A) (specChunkS bi ch hb hc W B X A S) :=
    (specHalfS_on X W B A _ bi ch 64 lo hb hc (Or.inr rfl) (by omega) slices_S128x128_o64_0_S64x1
      (specHalfS_on X W B A S bi ch 0 lo hb hc (Or.inl rfl) (by omega) slices_S128x128_o0_0_S64x1 h)).mono
      fun y hy => ⟨hy.1, by have := hy.2; omega⟩
  exact step 3 (by decide) _ (step 2 (by decide) _ (step 1 (by decide) _ (step 0 (by decide) S h)))

theorem k0_pay7_id (W : Vec F S1x1026 .f32) : k0_pay7 (row1 W) = W := by
  have : row1 W = W := ld_whole W _
  rw [this]; funext y; pointwise [k0_pay7]
theorem k0_pay8_id (W : Vec F S1x1026 .f32) : k0_pay8 (row1 W) = W := by
  have : row1 W = W := ld_whole W _
  rw [this]; funext y; pointwise [k0_pay8]
theorem k0_pay9_id (G : Vec F S1x1024 .f32) : k0_pay9 (rowG G) = G := by
  have : rowG G = G := ld_whole G _
  rw [this]; funext y; pointwise [k0_pay9]

/-- The first batch's rows after it; -/
theorem lastS0_on (X : Vec F S2x512 .f32) (W B : Vec F S1x1026 .f32) (A : Vec F S1024x1026 .f32) (S : Vec F S1024x1026 .bf16) :
    On (fun y => (y 0).val < 512) (specV X W B A) (lastS0 X W B A S) := by
  unfold lastS0
  rw [k0_pay7_id, k0_pay8_id]
  exact (specS_on X W B A S 0 0 (by decide) fun y hy => absurd hy.2 (by omega)).mono fun y hy => ⟨Nat.zero_le _, by omega⟩

/-- all rows after both. -/
theorem lastS_eq (X : Vec F S2x512 .f32) (W B : Vec F S1x1026 .f32) (A : Vec F S1024x1026 .f32) (S : Vec F S1024x1026 .bf16) :
    lastS X W B A S = specV X W B A := by
  unfold lastS
  rw [k0_pay7_id, k0_pay8_id]
  exact (specS_on X W B A _ 1 0 (by decide) ((lastS0_on X W B A S).mono fun y hy => by have := hy.2; omega)).eq
    fun y => ⟨Nat.zero_le _, (y 0).isLt⟩

/-! ## The frames -/

/-- Batch `bi`'s 512 rows of the spectrum. -/
def specOf (bi : Nat) (hb : bi < 2) (T : Vec F S1024x1026 .bf16) : Vec F S512x1026 .bf16 := fun x =>
  T (ix2 (⟨512 * bi + (x 0).val, by have : (x 0).val < 512 := (x 0).isLt; omega⟩ : Fin 1024) (x 1))

/-- A batch's frames between eight rows of zeros above and below. -/
def frV (bi : Nat) (hb : bi < 2) (G : Vec F S1x1024 .f32) (M : Vec F S1026x1024 .bf16) (T : Vec F S1024x1026 .bf16) : Vec F S528x1024 .f32 := fun y =>
  if h : 8 ≤ (y 0).val ∧ (y 0).val < 520 then
    k0_pay28 G (specOf bi hb T) M (ix2 (⟨(y 0).val - 8, by omega⟩ : Fin 512) (y 1))
  else FloatOps.ofBits .f32 0x00000000#32

theorem k0_pay11_at (x : S8x1024.Idx) : k0_pay11 (F := F) x = FloatOps.ofBits .f32 0x00000000#32 := by
  idx_vars x
  pointwise [k0_pay11, k0_pay10]

theorem frS_eq (bi : Nat) (hb : bi < 2) (G : Vec F S1x1024 .f32) (M : Vec F S1026x1024 .bf16) (T S : Vec F S1024x1026 .bf16)
    (Z : Vec F S528x1024 .f32) (h : On (fun y => 512 * bi ≤ (y 0).val ∧ (y 0).val < 512 * bi + 512) T S) :
    frS bi hb G M S Z = frV bi hb G M T := by
  have e1 : ld S (Rect.unit (s := S1024x1026) ![512 * bi, 0] S512x1026.size (sp512_inb (by omega))).toLoadRect = specOf bi hb T := by
    funext x
    have hx : (x 0).val < 512 := (x 0).isLt
    refine (h _ ?_).trans (congrArg T (funext (Fin.forall_fin_two.mpr ⟨Fin.ext ?_, Fin.ext ?_⟩)))
    · show 512 * bi ≤ 512 * bi + 1 * (x 0).val ∧ 512 * bi + 1 * (x 0).val < 512 * bi + 512; omega
    · show 512 * bi + 1 * (x 0).val = 512 * bi + (x 0).val; omega
    · show 0 + 1 * (x 1).val = (x 1).val; omega
  have e2 : ld M (Rect.unit (s := S1026x1024) ![0, 0] S1026x1024.size inb_S1026x1024_S1026x1024_0_0).toLoadRect = M := ld_whole M _
  unfold frS
  rw [e1, e2]
  refine On.eq (D := fun _ => True) ?_ (fun _ => trivial)
  refine (((On.none (frV bi hb G M T) Z).upd (fun y => (y 0).val < 8) _ _ (fun x => ?_) (fun y hy => Or.inr ?_)).upd
    (fun y => (y 0).val < 8 ∨ 520 ≤ (y 0).val) _ _ (fun x => ?_) (fun y hy => ?_)).upd _ _ _ (fun x => ?_) (fun y _ => ?_)
  · have hx : (x 0).val < 8 := (x 0).isLt
    refine (k0_pay11_at x).trans (Eq.symm (dif_neg ?_))
    show ¬(8 ≤ 0 + 1 * (x 0).val ∧ 0 + 1 * (x 0).val < 520); omega
  · refine ⟨(ix2 (⟨(y 0).val, hy⟩ : Fin 8) (y 1) : S8x1024.Idx), Fin.forall_fin_two.mpr ⟨?_, ?_⟩⟩
    · show (y 0).val = 0 + 1 * (y 0).val; omega
    · show (y 1).val = 0 + 1 * (y 1).val; omega
  · refine (k0_pay11_at x).trans (Eq.symm (dif_neg ?_))
    show ¬(8 ≤ 520 + 1 * (x 0).val ∧ 520 + 1 * (x 0).val < 520); omega
  · rcases hy with hy | hy
    · exact Or.inl hy
    · have hy' : (y 0).val < 528 := (y 0).isLt
      refine Or.inr ⟨(ix2 (⟨(y 0).val - 520, by omega⟩ : Fin 8) (y 1) : S8x1024.Idx), Fin.forall_fin_two.mpr ⟨?_, ?_⟩⟩
      · show (y 0).val = 520 + 1 * ((y 0).val - 520); omega
      · show (y 1).val = 0 + 1 * (y 1).val; omega
  · have hx : (x 0).val < 512 := (x 0).isLt
    refine Eq.symm ((dif_pos (show 8 ≤ 8 + 1 * (x 0).val ∧ 8 + 1 * (x 0).val < 520 by omega)).trans
      (congrArg _ (funext (Fin.forall_fin_two.mpr ⟨Fin.ext ?_, Fin.ext ?_⟩))))
    · show 8 + 1 * (x 0).val - 8 = (x 0).val; omega
    · show 0 + 1 * (x 1).val = (x 1).val; omega
  · by_cases h8 : (y 0).val < 8 ∨ 520 ≤ (y 0).val
    · exact Or.inl h8
    · refine Or.inr ⟨(ix2 (⟨(y 0).val - 8, by omega⟩ : Fin 512) (y 1) : S512x1024.Idx), Fin.forall_fin_two.mpr ⟨?_, ?_⟩⟩
      · show (y 0).val = 8 + 1 * ((y 0).val - 8); omega
      · show (y 1).val = 0 + 1 * (y 1).val; omega

theorem lastZ0_eq (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) :
    lastZ0 X W B M G A S Z = frV 0 (by decide) G M (specV X W B A) := by
  unfold lastZ0
  rw [k0_pay9_id]
  exact frS_eq 0 _ G M _ _ Z ((lastS0_on X W B A S).mono fun y hy => by have := hy.2; omega)

theorem lastZ_eq (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) :
    lastZ X W B M G A S Z = frV 1 (by decide) G M (specV X W B A) := by
  unfold lastZ
  rw [k0_pay9_id, lastS_eq]
  exact frS_eq 1 _ G M _ _ _ fun _ _ => rfl

/-! ## The waveform -/

/-- The row of the envelope for the frame `j`. -/
def envRow (j : Nat) : Nat := if j = 1 then 1 else if j = 2 then 2 else if j = 512 then 4 else if j = 513 then 5 else 3

theorem envRow_lt (j : Nat) : envRow j < 8 := by
  unfold envRow; split_ifs <;> omega

/-- The sum of the four frames that meet in the half-block `t`, over the envelope. -/
def yAt (Z : Vec F S528x1024 .f32) (N : Vec F S8x256 .f32) (t : Nat) (ht : t < 1024) (l : Fin 128) : F .f32 :=
  FloatOps.divf (FloatOps.addf (FloatOps.addf (FloatOps.addf
      (Z (ix2 (⟨8 + (t + 3) / 2, by omega⟩ : Fin 528) (⟨128 * ((t + 3) % 2) + l.val, by omega⟩ : Fin 1024)))
      (Z (ix2 (⟨8 + (t + 3) / 2 - 1, by omega⟩ : Fin 528) (⟨128 * ((t + 3) % 2) + 256 + l.val, by omega⟩ : Fin 1024))))
      (Z (ix2 (⟨8 + (t + 3) / 2 - 2, by omega⟩ : Fin 528) (⟨128 * ((t + 3) % 2) + 512 + l.val, by omega⟩ : Fin 1024))))
      (Z (ix2 (⟨8 + (t + 3) / 2 - 3, by omega⟩ : Fin 528) (⟨128 * ((t + 3) % 2) + 768 + l.val, by omega⟩ : Fin 1024))))
    (N (ix2 (⟨envRow ((t + 3) / 2), envRow_lt _⟩ : Fin 8) (⟨128 * ((t + 3) % 2) + l.val, by omega⟩ : Fin 256)))

/-- The waveform: the two batches' half-blocks alternate. -/
def yV (Z0 Z1 : Vec F S528x1024 .f32) (N : Vec F S8x256 .f32) : Vec F S2048x128 .f32 := fun y =>
  yAt (if (y 0).val % 2 = 0 then Z0 else Z1) N ((y 0).val / 2) (by have : (y 0).val < 2048 := (y 0).isLt; omega) (y 1)

/-- One half-block. -/
theorem blkS_on (Z0 Z1 : Vec F S528x1024 .f32) (N : Vec F S8x256 .f32) (D : S2048x128.Idx → Prop) (Y : Vec F S2048x128 .f32)
    (h : On D (yV Z0 Z1 N) Y) (Z : Vec F S528x1024 .f32) (bi t n : Nat) (hn : 0 < n) (hb : bi < 2) (hZ : (if bi % 2 = 0 then Z0 else Z1) = Z)
    (spread : FVec F S1x128 .f32 → FVec F (Rw n) .f32) (hs : ∀ e i l, spread e (ix2 i l) = e (ix2 (0 : Fin 1) l)) (r l q o : Nat)
    (hr : 3 ≤ r ∧ r + n ≤ 528) (hl : l + 896 ≤ 1024) (hq : q < 8) (ho : o + 4 * (n - 1) < 2048)
    (hro : r = 8 + (t + 3) / 2) (hlo : l = 128 * ((t + 3) % 2)) (hoo : o = 2 * t + bi) (hqo : ∀ i, i < n → envRow ((t + 3) / 2 + i) = q) :
    On (fun y => D y ∨ ∃ i, i < n ∧ (y 0).val = 2 * t + bi + 4 * i) (yV Z0 Z1 N) (blkS n spread r l q o hr hl hq ho N Z Y) := by
  subst hro hlo hoo hZ
  unfold blkS
  refine h.upd _ (yR n (2 * t + bi) ho) _ (fun x => ?_) (fun y hy => ?_)
  · obtain ⟨i, k, rfl⟩ : ∃ (i : Fin n) (k : Fin 128), x = (ix2 i k : (Rw n).Idx) := ⟨x 0, x 1, eq_ix2 x⟩
    have hi := i.isLt
    have e : (yR n (2 * t + bi) ho).emb (ix2 i k : (Rw n).Idx) = (ix2 (⟨2 * (t + 2 * i.val) + bi, by omega⟩ : Fin 2048) k : S2048x128.Idx) := by
      refine funext (Fin.forall_fin_two.mpr ⟨Fin.ext ?_, Fin.ext ?_⟩)
      · show 2 * t + bi + 4 * i.val = 2 * (t + 2 * i.val) + bi; omega
      · show 0 + 1 * k.val = k.val; omega
    rw [e]
    have ez : ∀ (s d : Nat) (hs' : d ≤ 3) (h1 : 8 + (t + 3) / 2 - d + n ≤ 528) (h2 : 128 * ((t + 3) % 2) + s + 128 ≤ 1024) (Z : Vec F S528x1024 .f32),
        ld Z (frR n (8 + (t + 3) / 2 - d) (128 * ((t + 3) % 2) + s) h1 h2).toLoadRect (ix2 i k : (Rw n).Idx)
          = Z (ix2 (⟨8 + (t + 2 * i.val + 3) / 2 - d, by omega⟩ : Fin 528) (⟨128 * ((t + 2 * i.val + 3) % 2) + s + k.val, by omega⟩ : Fin 1024)) := by
      intro s d hs' h1 h2 Z
      refine congrArg Z (funext (Fin.forall_fin_two.mpr ⟨Fin.ext ?_, Fin.ext ?_⟩))
      · show 8 + (t + 3) / 2 - d + 1 * i.val = 8 + (t + 2 * i.val + 3) / 2 - d; omega
      · show 128 * ((t + 3) % 2) + s + 1 * k.val = 128 * ((t + 2 * i.val + 3) % 2) + s + k.val; omega
    have hp : (2 * (t + 2 * i.val) + bi) % 2 = bi % 2 := by omega
    have hd : (2 * (t + 2 * i.val) + bi) / 2 = t + 2 * i.val := by omega
    have ey : yV Z0 Z1 N (ix2 (⟨2 * (t + 2 * i.val) + bi, by omega⟩ : Fin 2048) k : S2048x128.Idx)
        = yAt (if bi % 2 = 0 then Z0 else Z1) N (t + 2 * i.val) (by omega) k := by
      show yAt (if (2 * (t + 2 * i.val) + bi) % 2 = 0 then Z0 else Z1) N ((2 * (t + 2 * i.val) + bi) / 2) _ k = _
      simp only [hp, hd]
    rw [ey]
    unfold yAt quot
    refine congrArg₂ FloatOps.divf (congrArg₂ FloatOps.addf (congrArg₂ FloatOps.addf (congrArg₂ FloatOps.addf ?_ ?_) ?_) ?_) ?_
    · exact ez 0 0 (by omega) (by omega) (by omega) _
    · exact ez 256 1 (by omega) (by omega) (by omega) _
    · exact ez 512 2 (by omega) (by omega) (by omega) _
    · exact ez 768 3 (by omega) (by omega) (by omega) _
    · refine (hs _ i k).trans ?_
      have hq' := hqo i.val hi
      pointwise
      refine congrArg N (funext (Fin.forall_fin_two.mpr ⟨Fin.ext ?_, Fin.ext ?_⟩))
      · show q + 1 * 0 = envRow ((t + 2 * i.val + 3) / 2)
        rw [show (t + 2 * i.val + 3) / 2 = (t + 3) / 2 + i.val from by omega, hq']
        omega
      · show 128 * ((t + 3) % 2) + 1 * k.val = 128 * ((t + 2 * i.val + 3) % 2) + k.val; omega
  · rcases hy with hy | ⟨i, hi, hy⟩
    · exact Or.inl hy
    · refine Or.inr ⟨(ix2 (⟨i, hi⟩ : Fin n) (y 1) : (Rw n).Idx), Fin.forall_fin_two.mpr ⟨?_, ?_⟩⟩
      · show (y 0).val = 2 * t + bi + 4 * i; omega
      · show (y 1).val = 0 + 1 * (y 1).val; omega

theorem spread1_at (e : FVec F S1x128 .f32) (i : Fin 1) (l : Fin 128) : spread1 e (ix2 i l) = e (ix2 (0 : Fin 1) l) := by
  obtain rfl : i = 0 := Subsingleton.elim _ _
  rfl
theorem spread5_at (e : FVec F S1x128 .f32) (i : Fin 5) (l : Fin 128) : spread5 e (ix2 i l) = e (ix2 (0 : Fin 1) l) := by
  pointwise [spread5]
theorem spread8_at (e : FVec F S1x128 .f32) (i : Fin 8) (l : Fin 128) : spread8 e (ix2 i l) = e (ix2 (0 : Fin 1) l) := by
  pointwise [spread8]

/-- The half-blocks of eight rows. -/
theorem blksS_on (Z0 Z1 : Vec F S528x1024 .f32) (N : Vec F S8x256 .f32) (bi : Nat) (hb : bi < 2) (Z : Vec F S528x1024 .f32)
    (hZ : (if bi % 2 = 0 then Z0 else Z1) = Z) : ∀ (k h : Nat) (hk : h + k ≤ 126) (D : S2048x128.Idx → Prop) (Y : Vec F S2048x128 .f32),
    On D (yV Z0 Z1 N) Y →
    On (fun y => D y ∨ ∃ g i, h ≤ g ∧ g < h + k ∧ i < 8 ∧ (y 0).val = 6 + 32 * (g / 2) + 2 * (g % 2) + bi + 4 * i) (yV Z0 Z1 N)
      (blksS bi hb N Z k h hk Y)
  | 0, h, hk, D, Y, H => H.mono fun y hy => by
      rcases hy with hy | ⟨g, i, h1, h2, _⟩
      · exact hy
      · omega
  | k + 1, h, hk, D, Y, H => by
      unfold blksS
      refine (blksS_on Z0 Z1 N bi hb Z hZ k (h + 1) (by omega) _ _
        (blkS_on Z0 Z1 N D Y H Z bi (3 + 16 * (h / 2) + h % 2) 8 (by omega) hb hZ spread8 spread8_at _ _ _ _ _ _ _ _
          (by omega) (by omega) (by omega) (fun i hi => ?_))).mono fun y hy => ?_
      · unfold envRow
        rw [if_neg (by omega), if_neg (by omega), if_neg (by omega), if_neg (by omega)]
      · rcases hy with hy | ⟨g, i, h1, h2, h3, h4⟩
        · exact Or.inl (Or.inl hy)
        · by_cases hg : g = h
          · subst hg
            exact Or.inl (Or.inr ⟨i, h3, by omega⟩)
          · exact Or.inr ⟨g, i, by omega, by omega, h3, h4⟩

/-- A batch's half-blocks. -/
theorem batchYS_on (Z0 Z1 : Vec F S528x1024 .f32) (N : Vec F S8x256 .f32) (bi : Nat) (hb : bi < 2) (Z : Vec F S528x1024 .f32)
    (hZ : (if bi % 2 = 0 then Z0 else Z1) = Z) (D : S2048x128.Idx → Prop) (Y : Vec F S2048x128 .f32) (H : On D (yV Z0 Z1 N) Y) :
    On (fun y => D y ∨ (y 0).val % 2 = bi) (yV Z0 Z1 N) (batchYS bi hb N Z Y) := by
  have e (n j q : Nat) (hj : ∀ i, i < n → envRow (j + i) = q) := hj
  have H1 := blkS_on Z0 Z1 N D Y H Z bi 0 1 (by decide) hb hZ spread1 spread1_at 9 128 1 (0 + bi) (by decide) (by decide) (by decide) (by omega)
    (by decide) (by decide) (by omega) (by decide)
  have H2 := blkS_on Z0 Z1 N _ _ H1 Z bi 1 1 (by decide) hb hZ spread1 spread1_at 10 0 2 (2 + bi) (by decide) (by decide) (by decide) (by omega)
    (by decide) (by decide) (by omega) (by decide)
  have H3 := blkS_on Z0 Z1 N _ _ H2 Z bi 2 1 (by decide) hb hZ spread1 spread1_at 10 128 2 (4 + bi) (by decide) (by decide) (by decide) (by omega)
    (by decide) (by decide) (by omega) (by decide)
  have H4 := blksS_on Z0 Z1 N bi hb Z hZ 126 0 (by decide) _ _ H3
  have H5 := blkS_on Z0 Z1 N _ _ H4 Z bi 1011 5 (by decide) hb hZ spread5 spread5_at 515 0 3 (2022 + bi) (by decide) (by decide) (by decide) (by omega)
    (by decide) (by decide) (by omega) (by decide)
  have H6 := blkS_on Z0 Z1 N _ _ H5 Z bi 1012 5 (by decide) hb hZ spread5 spread5_at 515 128 3 (2024 + bi) (by decide) (by decide) (by decide) (by omega)
    (by decide) (by decide) (by omega) (by decide)
  have H7 := blkS_on Z0 Z1 N _ _ H6 Z bi 1021 1 (by decide) hb hZ spread1 spread1_at 520 0 4 (2042 + bi) (by decide) (by decide) (by decide) (by omega)
    (by decide) (by decide) (by omega) (by decide)
  have H8 := blkS_on Z0 Z1 N _ _ H7 Z bi 1022 1 (by decide) hb hZ spread1 spread1_at 520 128 4 (2044 + bi) (by decide) (by decide) (by decide) (by omega)
    (by decide) (by decide) (by omega) (by decide)
  have H9 := blkS_on Z0 Z1 N _ _ H8 Z bi 1023 1 (by decide) hb hZ spread1 spread1_at 521 0 5 (2046 + bi) (by decide) (by decide) (by decide) (by omega)
    (by decide) (by decide) (by omega) (by decide)
  refine H9.mono fun y hy => ?_
  have hlt : (y 0).val < 2048 := (y 0).isLt
  rcases hy with hy | hy
  · exact Or.inl (Or.inl (Or.inl (Or.inl (Or.inl (Or.inl (Or.inl (Or.inl (Or.inl hy))))))))
  · have c (t n : Nat) (i : Nat) (hi : i < n) (h : (y 0).val = 2 * t + bi + 4 * i) : ∃ i, i < n ∧ (y 0).val = 2 * t + bi + 4 * i := ⟨i, hi, h⟩
    by_cases h1 : (y 0).val < 2
    · exact Or.inl (Or.inl (Or.inl (Or.inl (Or.inl (Or.inl (Or.inl (Or.inl (Or.inr (c 0 1 0 (by omega) (by omega))))))))))
    by_cases h2 : (y 0).val < 4
    · exact Or.inl (Or.inl (Or.inl (Or.inl (Or.inl (Or.inl (Or.inl (Or.inr (c 1 1 0 (by omega) (by omega)))))))))
    by_cases h3 : (y 0).val < 6
    · exact Or.inl (Or.inl (Or.inl (Or.inl (Or.inl (Or.inl (Or.inr (c 2 1 0 (by omega) (by omega))))))))
    by_cases h4 : (y 0).val < 2022
    · exact Or.inl (Or.inl (Or.inl (Or.inl (Or.inl (Or.inr ⟨2 * (((y 0).val - 6) / 32) + ((y 0).val - 6) / 2 % 2, ((y 0).val - 6) % 32 / 4,
        by omega, by omega, by omega, by omega⟩)))))
    by_cases h5 : (y 0).val < 2042
    · by_cases h6 : (y 0).val / 2 % 2 = 1
      · exact Or.inl (Or.inl (Or.inl (Or.inl (Or.inr (c 1011 5 (((y 0).val - 2022) / 4) (by omega) (by omega))))))
      · exact Or.inl (Or.inl (Or.inl (Or.inr (c 1012 5 (((y 0).val - 2022) / 4) (by omega) (by omega)))))
    by_cases h7 : (y 0).val < 2044
    · exact Or.inl (Or.inl (Or.inr (c 1021 1 0 (by omega) (by omega))))
    by_cases h8 : (y 0).val < 2046
    · exact Or.inl (Or.inr (c 1022 1 0 (by omega) (by omega)))
    · exact Or.inr (c 1023 1 0 (by omega) (by omega))

/-- The waveform the last point leaves. -/
def outY (X : Vec F S2x512 .f32) (W B : Vec F S1x1026 .f32) (M : Vec F S1026x1024 .bf16) (G : Vec F S1x1024 .f32) (N : Vec F S8x256 .f32)
    (A : Vec F S1024x1026 .f32) : Vec F S2048x128 .f32 :=
  yV (frV 0 (by decide) G M (specV X W B A)) (frV 1 (by decide) G M (specV X W B A)) N

theorem lastY_eq (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) :
    lastY X W B M G N A S Z Y = outY X W B M G N A := by
  unfold lastY outY
  rw [lastZ_eq, lastZ0_eq]
  refine (batchYS_on _ _ N 1 _ _ rfl _ _ (batchYS_on _ _ N 0 _ _ rfl _ _ (On.none _ Y))).eq fun y => ?_
  rcases Nat.mod_two_eq_zero_or_one (y 0).val with h | h
  · exact Or.inl (Or.inr h)
  · exact Or.inr h

/-- The ends of a waveform: its first and last sixteen rows. -/
def endsV (Y : Vec F S2048x128 .f32) : Vec F S32x128 .f32 := fun y =>
  Y (ix2 (⟨if (y 0).val < 16 then (y 0).val else 2016 + (y 0).val, by have : (y 0).val < 32 := (y 0).isLt; split_ifs <;> omega⟩ : Fin 2048) (y 1))

theorem endsS_eq (Y : Vec F S2048x128 .f32) (e : Vec F S32x128 .f32) : endsS Y e = endsV Y := by
  have h5 (v : Vec F S16x128 .f32) : k0_pay5 v = v := by funext y; pointwise [k0_pay5]
  have h6 (v : Vec F S16x128 .f32) : k0_pay6 v = v := by funext y; pointwise [k0_pay6]
  unfold endsS
  rw [h5, h6]
  refine (((On.none (endsV Y) e).upd (fun y => (y 0).val < 16) _ _ (fun x => ?_) (fun y hy => Or.inr ?_)).upd
    (fun _ => True) _ _ (fun x => ?_) (fun y _ => ?_)).eq fun _ => trivial
  · have hx : (x 0).val < 16 := (x 0).isLt
    refine congrArg Y (funext (Fin.forall_fin_two.mpr ⟨Fin.ext ?_, Fin.ext ?_⟩))
    · show 0 + 1 * (x 0).val = if 0 + 1 * (x 0).val < 16 then 0 + 1 * (x 0).val else 2016 + (0 + 1 * (x 0).val)
      rw [if_pos (by omega)]
    · rfl
  · refine ⟨(ix2 (⟨(y 0).val, hy⟩ : Fin 16) (y 1) : S16x128.Idx), Fin.forall_fin_two.mpr ⟨?_, ?_⟩⟩
    · show (y 0).val = 0 + 1 * (y 0).val; omega
    · show (y 1).val = 0 + 1 * (y 1).val; omega
  · refine congrArg Y (funext (Fin.forall_fin_two.mpr ⟨Fin.ext ?_, Fin.ext ?_⟩))
    · show 2032 + 1 * (x 0).val = if 16 + 1 * (x 0).val < 16 then 16 + 1 * (x 0).val else 2016 + (16 + 1 * (x 0).val)
      rw [if_neg (by omega)]; omega
    · rfl
  · by_cases h : (y 0).val < 16
    · exact Or.inl h
    · have hy' : (y 0).val < 32 := (y 0).isLt
      refine Or.inr ⟨(ix2 (⟨(y 0).val - 16, by omega⟩ : Fin 16) (y 1) : S16x128.Idx), Fin.forall_fin_two.mpr ⟨?_, ?_⟩⟩
      · show (y 0).val = 16 + 1 * ((y 0).val - 16); omega
      · show (y 1).val = 0 + 1 * (y 1).val; omega

end Cert.KernelIdeal

end
-- ==== Proof.KI.Run.lean ====
module

public import proofs.«01_k».proof.Proof.KI.Body
public import proofs.«01_k».proof.Proof.KI.Closed
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- It holds at the last point only — by arithmetic of the point. -/
theorem hcond0_2 : ∀ t : Fin cfg0.N, cond0_2 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_2, k0_cond3, e0]
    word_cmp
   : ∀ t : Fin grid0.N, cond0_2 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cond0_2 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → ¬cond0_2 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → cond0_1 (grid0.coords t) → ¬cond0_2 (grid0.coords t) → cfg0.idle 9 (grid0.coords t) = true := by decide +kernel
/-- At the points of case B the pipeline does not write output 9's block back. -/
theorem noFlush0_9_B : ∀ t : Fin cfg0.N, ¬cond0_0 (grid0.coords t) → cond0_1 (grid0.coords t) → ¬cond0_2 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cond0_2 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → ¬cond0_2 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → cfg0.idle 10 (grid0.coords t) = true := by decide +kernel
/-- At the points of case B the pipeline does not write output 10's block back. -/
theorem noFlush0_10_B : ∀ t : Fin cfg0.N, ¬cond0_0 (grid0.coords t) → cond0_1 (grid0.coords t) → ¬cond0_2 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cond0_2 (grid0.coords t) → cfg0.idle 10 (grid0.coords t) = false := by decide +kernel

/-- Each window's current staging memref at point `t`, spelled as the pipeline passes it (`bodyAt0`), and its wholeness. -/
abbrev ms0_0 (t : Fin cfg0.N) : Memref sig .tc .vmem S1024x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1026 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1026 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1026 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1026x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1026 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1026 .f32 := Memref.whole cc0_scratch0
abbrev scM0_1 : Memref sig .tc .vmem S528x1024 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the points leave -/

/-- The accumulator after point `n`. -/
def accAt (c : Dev nD) : (n : ℕ) → n < cfg0.N → Vec F S1024x1026 .f32
  | 0, h => k0_pay2 (iblk m c 0 ⟨0, h⟩) (iblk m c 1 ⟨0, h⟩)
  | n + 1, h => k0_pay3 (iblk m c 0 ⟨n + 1, h⟩) (iblk m c 1 ⟨n + 1, h⟩) (accAt c n (Nat.lt_of_succ_lt h))

theorem accAt_zero (c : Dev nD) (t : Fin cfg0.N) (h : t.val = 0) : accAt m c t.val t.isLt = k0_pay2 (iblk m c 0 t) (iblk m c 1 t) := by
  obtain ⟨n, hn⟩ := t
  cases n with
  | zero => rfl
  | succ n => exact absurd h (Nat.succ_ne_zero n)

theorem accAt_pos (c : Dev nD) (t : Fin cfg0.N) (h : t.val ≠ 0) : accAt m c t.val t.isLt
    = k0_pay3 (iblk m c 0 t) (iblk m c 1 t) (accAt m c (t.val - 1) (Nat.lt_of_le_of_lt (Nat.sub_le _ _) t.isLt)) := by
  obtain ⟨n, hn⟩ := t
  cases n with
  | zero => exact absurd rfl h
  | succ n => rfl

/-- The spectrum, -/
def specOut (c : Dev nD) (t : Fin cfg0.N) : Vec F S1024x1026 .bf16 :=
  specV (iblk m c 2 t) (iblk m c 3 t) (iblk m c 4 t) (accAt m c t.val t.isLt)

/-- the waveform -/
def yOut (c : Dev nD) (t : Fin cfg0.N) : Vec F S2048x128 .f32 :=
  outY (iblk m c 2 t) (iblk m c 3 t) (iblk m c 4 t) (iblk m c 5 t) (iblk m c 6 t) (iblk m c 7 t) (accAt m c t.val t.isLt)

/-- and its ends, of the accumulator after point `t`. -/
def endsOut (c : Dev nD) (t : Fin cfg0.N) : Vec F S32x128 .f32 := endsV (yOut m c t)

/-- The region invariant before position `n` with the accumulator carried between points: before the first point
    every scratch at anything; afterwards the accumulator at what the point before left in it (`accAt`), the frame scratch at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at what the last point leaves; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yOut m c t
    | ⟨9, _⟩ => endsOut m c t
    | ⟨10, _⟩ => specOut m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yOut m c t := by dsimp only [dats]
theorem after0_9 (c : Dev nD) (t : Fin cfg0.N) : (dats m 0 c).after 9 t = endsOut m c t := by dsimp only [dats]
theorem after0_10 (c : Dev nD) (t : Fin cfg0.N) : (dats m 0 c).after 10 t = specOut m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point: at the first it leaves the accumulator at that point's product, at a later one at the sum; at the last it leaves the
    outputs as well, whatever they and the frame scratch held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [PhiS_castSucc m c t]
  by_cases hz : t.val = 0
  · have c0 : cond0_0 (grid0.coords t) := (hcond0_0 t).mpr (by omega)
    have c1 : ¬cond0_1 (grid0.coords t) := fun h => absurd ((hcond0_1 t).mp h) (by omega)
    have c2 : ¬cond0_2 (grid0.coords t) := fun h => absurd ((hcond0_2 t).mp h) (by omega)
    rw [Dat.leavesExact_idle (dats m 0 c) 8 t (idleAt0_8_A t c0 c1 c2) (noFlush0_8_A t c0 c1 c2)]
    rw [Dat.leavesExact_idle (dats m 0 c) 9 t (idleAt0_9_A t c0 c1 c2) (noFlush0_9_A t c0 c1 c2)]
    rw [Dat.leavesExact_idle (dats m 0 c) 10 t (idleAt0_10_A t c0 c1 c2) (noFlush0_10_A t c0 c1 c2)]
    rw [PhiS_zero m c _ _ hz, PhiA0_eq, accAt_zero m c t hz]
    iintro ⟨⟨⟨⟨%s0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (wp_bodyA c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) c0 c1 c2 (iblk m c 0 t) (iblk m c 1 t) s0 _)
    isplitl [H0]; · iexact H0
    isplitl [H1]; · iexact H1
    isplitl [HS0]; · iexact HS0
    iintro ⟨H0, H1, HS0⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
  · have c0 : ¬cond0_0 (grid0.coords t) := fun h => absurd ((hcond0_0 t).mp h) (by omega)
    have c1 : cond0_1 (grid0.coords t) := (hcond0_1 t).mpr (by omega)
    rw [PhiS_pos m c _ _ hz]
    by_cases hl : t.val = 31
    · have c2 : cond0_2 (grid0.coords t) := (hcond0_2 t).mpr (by omega)
      rw [show (dats m 0 c).leavesExact 8 t = owns (c : Thread nD τ) (ms0_8 t) fullShare ((dats m 0 c).after 8 t) from by
        unfold Dat.leavesExact; rw [liveAt0_8_C t c0 c1 c2], after0_8]
      rw [show (dats m 0 c).leavesExact 9 t = owns (c : Thread nD τ) (ms0_9 t) fullShare ((dats m 0 c).after 9 t) from by
        unfold Dat.leavesExact; rw [liveAt0_9_C t c0 c1 c2], after0_9]
      rw [show (dats m 0 c).leavesExact 10 t = owns (c : Thread nD τ) (ms0_10 t) fullShare ((dats m 0 c).after 10 t) from by
        unfold Dat.leavesExact; rw [liveAt0_10_C t c0 c1 c2], after0_10]
      unfold endsOut yOut specOut
      rw [accAt_pos m c t hz]
      iintro ⟨⟨⟨HS0, ⟨%z, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (wp_bodyC c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) c0 c1 c2 (iblk m c 0 t) (iblk m c 1 t) (iblk m c 2 t) (iblk m c 3 t) (iblk m c 4 t) (iblk m c 5 t) (iblk m c 6 t) (iblk m c 7 t) _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      rw [lastY_eq, endsS_eq, lastS_eq]
      iintro ⟨H0, H1, H2, H3, H4, H5, H6, H7, H8, H9, H10, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have c2 : ¬cond0_2 (grid0.coords t) := fun h => absurd ((hcond0_2 t).mp h) (by omega)
      rw [Dat.leavesExact_idle (dats m 0 c) 8 t (idleAt0_8_B t c0 c1 c2) (noFlush0_8_B t c0 c1 c2)]
      rw [Dat.leavesExact_idle (dats m 0 c) 9 t (idleAt0_9_B t c0 c1 c2) (noFlush0_9_B t c0 c1 c2)]
      rw [Dat.leavesExact_idle (dats m 0 c) 10 t (idleAt0_10_B t c0 c1 c2) (noFlush0_10_B t c0 c1 c2)]
      rw [accAt_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (wp_bodyB c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) c0 c1 c2 (iblk m c 0 t) (iblk m c 1 t) _ _)
      isplitl [H0]; · iexact H0
      isplitl [H1]; · iexact H1
      isplitl [HS0]; · iexact HS0
      iintro ⟨H0, H1, HS0⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal

end
-- ==== Proof.KB.Steps.lean ====
module

public import proofs.«01_k».proof.Proof.Gen.Kernel.Skeleton

@[expose] public section

set_option maxRecDepth 65536

noncomputable section

namespace Cert.Kernel

open Idealize.ShloMosaic Idealize.SL.Sem Gen

variable {F : FTy → Type} [FloatOps F]

/-- `n` rows of 128 lanes. -/
abbrev Rw (n : Nat) : Shape := ⟨2, ![n, 128]⟩

theorem Rw_pos {n : Nat} (hn : 0 < n) : 0 < (Rw n).numel := by
  show 0 < ∏ a : Fin 2, (![n, 128] : Fin 2 → Nat) a
  simp [Fin.prod_univ_two, hn]

theorem fr_inb {n r l : Nat} (hr : r + n ≤ 528) (hl : l + 128 ≤ 1024) :
    ∀ a, (![r, l] : Fin 2 → Nat) a + (Rw n).size a ≤ S528x1024.size a :=
  Fin.forall_fin_two.mpr ⟨hr, hl⟩

theorem env_inb {r l : Nat} (hr : r < 8) (hl : l + 128 ≤ 256) :
    ∀ a, (![r, l] : Fin 2 → Nat) a + S1x128.size a ≤ S8x256.size a :=
  Fin.forall_fin_two.mpr ⟨hr, hl⟩

theorem y_inb {n r : Nat} (hr : r + 4 * (n - 1) < 2048) :
    ∀ a, (Rw n).size a = 0 ∨ (![r, 0] : Fin 2 → Nat) a + (![4, 1] : Fin 2 → Nat) a * ((Rw n).size a - 1) < S2048x128.size a :=
  Fin.forall_fin_two.mpr ⟨Or.inr hr, Or.inr (show 0 + 1 * (128 - 1) < 128 by decide)⟩

/-- The quotient stored for `n` rows: the four frames' contributions summed, over the envelope's row. -/
def quot (n : Nat) (spread : FVec F S1x128 .f32 → FVec F (Rw n) .f32) (a b c d : FVec F (Rw n) .f32) (e : FVec F S1x128 .f32) :
    FVec F (Rw n) .f32 :=
  divf (addf (addf (addf a b) c) d) (spread (shapeCast S1x128 e shapeCasts_S1x128_S1x128))

/-- One row is its own spread; -/
def spread1 (e : FVec F S1x128 .f32) : FVec F (Rw 1) .f32 := e
/-- a row over five; -/
def spread5 (e : FVec F S1x128 .f32) : FVec F (Rw 5) .f32 := broadcastTo S5x128 e broadcasts_S1x128_S5x128
/-- a row over eight. -/
def spread8 (e : FVec F S1x128 .f32) : FVec F (Rw 8) .f32 := broadcastTo S8x128 e broadcasts_S1x128_S8x128

section Blk
variable (arg8 : Memref sig .tc .vmem S8x256 .f32) (arg9 : Memref sig .tc .vmem S2048x128 .f32) (arg13 : Memref sig .tc .vmem S528x1024 .f32)

/-- One half-block: `n` rows of the waveform, from frame rows `r … r + n - 1` and lanes `l …`, stored every fourth row from `o`. -/
def blk (n : Nat) (hn : 0 < n) (spread : FVec F S1x128 .f32 → FVec F (Rw n) .f32) (r l q o : Nat)
    (hr : 3 ≤ r ∧ r + n ≤ 528) (hl : l + 128 ≤ 256) (hq : q < 8) (ho : o + 4 * (n - 1) < 2048) :
    Prog (TpuEff nD τ sig (Elt F) Λ₀ .tc) PUnit := do
  let a : Vec F (Rw n) .f32 ← Prog.lift (.load arg13 (Rect.unit (s := S528x1024) ![r, l] (Rw n).size (fr_inb hr.2 (by omega))).toLoadRect (View.loadsAt_vmem (Rw_pos hn)))
  let b : Vec F (Rw n) .f32 ← Prog.lift (.load arg13 (Rect.unit (s := S528x1024) ![r - 1, l + 256] (Rw n).size (fr_inb (by omega) (by omega))).toLoadRect (View.loadsAt_vmem (Rw_pos hn)))
  let c : Vec F (Rw n) .f32 ← Prog.lift (.load arg13 (Rect.unit (s := S528x1024) ![r - 2, l + 512] (Rw n).size (fr_inb (by omega) (by omega))).toLoadRect (View.loadsAt_vmem (Rw_pos hn)))
  let d : Vec F (Rw n) .f32 ← Prog.lift (.load arg13 (Rect.unit (s := S528x1024) ![r - 3, l + 768] (Rw n).size (fr_inb (by omega) (by omega))).toLoadRect (View.loadsAt_vmem (Rw_pos hn)))
  let e : Vec F S1x128 .f32 ← Prog.lift (.load arg8 (Rect.unit (s := S8x256) ![q, l] S1x128.size (env_inb hq hl)).toLoadRect (View.loadsAt_vmem h_S1x128))
  let _ : Vec F (Rw n) .f32 ← Prog.lift (.load arg9 (⟨![o, 0], (Rw n).size, ![4, 1], y_inb ho⟩ : LoadRect S2048x128) (View.loadsAt_vmem (Rw_pos hn)))
  Prog.lift (.store arg9 ⟨(⟨![o, 0], (Rw n).size, ![4, 1], y_inb ho⟩ : LoadRect S2048x128), spos_4_1⟩ (quot n spread a b c d e) Finset.univ (View.stores_vmem_bits_univ (Rw_pos hn) rfl) (.inl rfl))

/-- `k` half-blocks of eight rows from the `h`-th on, the `h`-th at frame row `11 + 8 (h / 2)`. -/
def blks (bi : Nat) (hb : bi < 2) : (k h : Nat) → h + k ≤ 126 → Prog (TpuEff nD τ sig (Elt F) Λ₀ .tc) PUnit
  | 0, _, _ => pure ⟨⟩
  | k + 1, h, hk => do
    blk arg8 arg9 arg13 8 (by omega) spread8 (11 + 8 * (h / 2)) (128 * (h % 2)) 3 (6 + 32 * (h / 2) + 2 * (h % 2) + bi)
      (by omega) (by omega) (by omega) (by omega)
    blks bi hb k (h + 1) (by omega)
end Blk

/-- Rows of a 1024-row array, 64 at a time, -/
theorem sp_inb {R : Nat} (hR : R + 64 ≤ 1024) :
    ∀ a, (![R, 0] : Fin 2 → Nat) a + S64x1026.size a ≤ S1024x1026.size a :=
  Fin.forall_fin_two.mpr ⟨hR, show 0 + 1026 ≤ 1026 by decide⟩

/-- and 512 at a time. -/
theorem sp512_inb {R : Nat} (hR : R + 512 ≤ 1024) :
    ∀ a, (![R, 0] : Fin 2 → Nat) a + S512x1026.size a ≤ S1024x1026.size a :=
  Fin.forall_fin_two.mpr ⟨hR, show 0 + 1026 ≤ 1026 by decide⟩

theorem sp_packed {R : Nat} (hR : R + 64 ≤ 1024) (h2 : 2 ∣ R) :
    (Rect.unit (s := S1024x1026) ![R, 0] S64x1026.size (sp_inb hR)).PackedRows (EltTy.packing .bf16) :=
  Or.inr ⟨Nat.le_refl 2, rfl, Or.inl ⟨h2, show 2 ∣ 64 by decide⟩⟩

theorem xs_inb {b l : Nat} (hb : b < 2) (hl : l + 128 ≤ 512) :
    ∀ a, (![b, l] : Fin 2 → Nat) a + S1x128.size a ≤ S2x512.size a :=
  Fin.forall_fin_two.mpr ⟨hb, hl⟩

/-- The 64 rows of the spectrum stored for the accumulator's 64 rows `a`: scaled by column 0 of `s` from row `o` and by the
    weights' scales `w`, offset by `b`, and turned into magnitude times cosine and sine, rounded. -/
def specPay (o : Nat) (ho : S128x128.Slices ![o, 0] S64x1) (w b : FVec F S1x1026 .f32) (s : FVec F S128x128 .f32)
    (a : Vec F S64x1026 .f32) : FVec F S64x1026 .bf16 :=
  let h : FVec F S64x1026 .f32 := addf (mulf (mulf a (broadcastTo S64x1026 (extractStridedSlice S64x1 ![o, 0] s ho) broadcasts_S64x1_S64x1026))
    (broadcastTo S64x1026 w broadcasts_S1x1026_S64x1026)) (broadcastTo S64x1026 b broadcasts_S1x1026_S64x1026)
  let mag : FVec F S64x513 .f32 := minimumf (exp (extractStridedSlice S64x513 ![0, 0] h slices_S64x1026_o0_0_S64x513))
    (broadcast S64x513 (Scalar.ofBits .f32 0x42C80000#32))
  let ph : FVec F S64x513 .f32 := extractStridedSlice S64x513 ![0, 513] h slices_S64x1026_o0_513_S64x513
  truncf .bf16 (concatenate S64x1026 1 [⟨S64x513, mulf mag (cos ph)⟩, ⟨S64x513, mulf mag (sin ph)⟩]
    concatenates_S64x513_S64x513_S64x1026_d1) bitsLt_bf16_f32

section Spec
variable (arg3 : Memref sig .tc .vmem S2x512 .f32) (arg11 : Memref sig .tc .vmem S1024x1026 .bf16) (harg11 : arg11.IsWhole)
  (arg12 : Memref sig .tc .vmem S1024x1026 .f32)

/-- 64 rows of the spectrum, from row `R`. -/
def specHalf (R o : Nat) (hR : R + 64 ≤ 1024) (h2 : 2 ∣ R) (ho : S128x128.Slices ![o, 0] S64x1) (w b : FVec F S1x1026 .f32) (s : FVec F S128x128 .f32) :
    Prog (TpuEff nD τ sig (Elt F) Λ₀ .tc) PUnit := do
  let a : Vec F S64x1026 .f32 ← Prog.lift (.load arg12 (Rect.unit (s := S1024x1026) ![R, 0] S64x1026.size (sp_inb hR)).toLoadRect (View.loadsAt_vmem h_S64x1026))
  let _ : Vec F S64x1026 .bf16 ← Prog.lift (.load arg11 (Rect.unit (s := S1024x1026) ![R, 0] S64x1026.size (sp_inb hR)).toLoadRect (View.loadsAt_vmem h_S64x1026))
  Prog.lift (.store arg11 (Rect.unit (s := S1024x1026) ![R, 0] S64x1026.size (sp_inb hR)) (specPay o ho w b s a) Finset.univ (View.stores_vmem h_S64x1026 (harg11.storeExact_slice rfl _ (sp_packed hR h2)) (fun _ => rfl)) (.inl rfl))

/-- 128 rows of the spectrum: chunk `ch` of batch `bi`. -/
def specChunk (bi ch : Nat) (hb : bi < 2) (hc : ch < 4) (w b : FVec F S1x1026 .f32) :
    Prog (TpuEff nD τ sig (Elt F) Λ₀ .tc) PUnit := do
  let x : Vec F S1x128 .f32 ← Prog.lift (.load arg3 (Rect.unit (s := S2x512) ![bi, 128 * ch] S1x128.size (xs_inb hb (by omega))).toLoadRect (View.loadsAt_vmem h_S1x128))
  specHalf arg11 harg11 arg12 (512 * bi + 128 * ch) 0 (by omega) (by omega) slices_S128x128_o0_0_S64x1 w b (k0_pay13 x)
  specHalf arg11 harg11 arg12 (512 * bi + 128 * ch + 64) 64 (by omega) (by omega) slices_S128x128_o64_0_S64x1 w b (k0_pay13 x)
end Spec

section Whole
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

/-- The last point's spectrum and frames of batch `bi`: the frames lie between eight zero rows above and below. -/
def batchA (bi : Nat) (hb : bi < 2) (w b : FVec F S1x1026 .f32) (g : FVec F S1x1024 .f32) :
    Prog (TpuEff nD τ sig (Elt F) Λ₀ .tc) PUnit := do
  let _ : Vec F S8x1024 .f32 ← Prog.lift (.load arg13 (Rect.unit (s := S528x1024) ![0, 0] S8x1024.size inb_S528x1024_S8x1024_0_0).toLoadRect (View.loadsAt_vmem h_S8x1024))
  Prog.lift (.store arg13 (Rect.unit (s := S528x1024) ![0, 0] S8x1024.size inb_S528x1024_S8x1024_0_0) (k0_pay11 (F := F)) Finset.univ (View.stores_vmem_bits_univ h_S8x1024 rfl) (.inl rfl))
  let _ : Vec F S8x1024 .f32 ← Prog.lift (.load arg13 (Rect.unit (s := S528x1024) ![520, 0] S8x1024.size inb_S528x1024_S8x1024_520_0).toLoadRect (View.loadsAt_vmem h_S8x1024))
  Prog.lift (.store arg13 (Rect.unit (s := S528x1024) ![520, 0] S8x1024.size inb_S528x1024_S8x1024_520_0) (k0_pay11 (F := F)) Finset.univ (View.stores_vmem_bits_univ h_S8x1024 rfl) (.inl rfl))
  specChunk arg3 arg11 harg11 arg12 bi 0 hb (by decide) w b
  specChunk arg3 arg11 harg11 arg12 bi 1 hb (by decide) w b
  specChunk arg3 arg11 harg11 arg12 bi 2 hb (by decide) w b
  specChunk arg3 arg11 harg11 arg12 bi 3 hb (by decide) w b
  let z : Vec F S512x1026 .bf16 ← Prog.lift (.load arg11 (Rect.unit (s := S1024x1026) ![512 * bi, 0] S512x1026.size (sp512_inb (by omega))).toLoadRect (View.loadsAt_vmem h_S512x1026))
  let m : Vec F S1026x1024 .bf16 ← Prog.lift (.load arg6 (Rect.unit (s := S1026x1024) ![0, 0] S1026x1024.size inb_S1026x1024_S1026x1024_0_0).toLoadRect (View.loadsAt_vmem h_S1026x1024))
  let _ : Vec F S512x1024 .f32 ← Prog.lift (.load arg13 (Rect.unit (s := S528x1024) ![8, 0] S512x1024.size inb_S528x1024_S512x1024_8_0).toLoadRect (View.loadsAt_vmem h_S512x1024))
  Prog.lift (.store arg13 (Rect.unit (s := S528x1024) ![8, 0] S512x1024.size inb_S528x1024_S512x1024_8_0) (k0_pay28 g z m) Finset.univ (View.stores_vmem_bits_univ h_S512x1024 rfl) (.inl rfl))

/-- The last point's waveform of batch `bi`. -/
def batchY (bi : Nat) (hb : bi < 2) : Prog (TpuEff nD τ sig (Elt F) Λ₀ .tc) PUnit := do
  blk arg8 arg9 arg13 1 (by decide) spread1 9 128 1 (0 + bi) (by decide) (by decide) (by decide) (by omega)
  blk arg8 arg9 arg13 1 (by decide) spread1 10 0 2 (2 + bi) (by decide) (by decide) (by decide) (by omega)
  blk arg8 arg9 arg13 1 (by decide) spread1 10 128 2 (4 + bi) (by decide) (by decide) (by decide) (by omega)
  blks arg8 arg9 arg13 bi hb 126 0 (by decide)
  blk arg8 arg9 arg13 5 (by decide) spread5 515 0 3 (2022 + bi) (by decide) (by decide) (by decide) (by omega)
  blk arg8 arg9 arg13 5 (by decide) spread5 515 128 3 (2024 + bi) (by decide) (by decide) (by decide) (by omega)
  blk arg8 arg9 arg13 1 (by decide) spread1 520 0 4 (2042 + bi) (by decide) (by decide) (by decide) (by omega)
  blk arg8 arg9 arg13 1 (by decide) spread1 520 128 4 (2044 + bi) (by decide) (by decide) (by decide) (by omega)
  blk arg8 arg9 arg13 1 (by decide) spread1 521 0 5 (2046 + bi) (by decide) (by decide) (by decide) (by omega)

/-- The first and the last sixteen rows of the waveform, copied. -/
def endsStep : Prog (TpuEff nD τ sig (Elt F) Λ₀ .tc) PUnit := do
  let u : Vec F S16x128 .f32 ← Prog.lift (.load arg9 (Rect.unit (s := S2048x128) ![0, 0] S16x128.size inb_S2048x128_S16x128_0_0).toLoadRect (View.loadsAt_vmem h_S16x128))
  let _ : Vec F S16x128 .f32 ← Prog.lift (.load arg10 (Rect.unit (s := S32x128) ![0, 0] S16x128.size inb_S32x128_S16x128_0_0).toLoadRect (View.loadsAt_vmem h_S16x128))
  Prog.lift (.store arg10 (Rect.unit (s := S32x128) ![0, 0] S16x128.size inb_S32x128_S16x128_0_0) (k0_pay5 u) Finset.univ (View.stores_vmem_bits_univ h_S16x128 rfl) (.inl rfl))
  let u : Vec F S16x128 .f32 ← Prog.lift (.load arg9 (Rect.unit (s := S2048x128) ![2032, 0] S16x128.size inb_S2048x128_S16x128_2032_0).toLoadRect (View.loadsAt_vmem h_S16x128))
  let _ : Vec F S16x128 .f32 ← Prog.lift (.load arg10 (Rect.unit (s := S32x128) ![16, 0] S16x128.size inb_S32x128_S16x128_16_0).toLoadRect (View.loadsAt_vmem h_S16x128))
  Prog.lift (.store arg10 (Rect.unit (s := S32x128) ![16, 0] S16x128.size inb_S32x128_S16x128_16_0) (k0_pay6 u) Finset.univ (View.stores_vmem_bits_univ h_S16x128 rfl) (.inl rfl))

/-- The last point's work after the accumulator is complete. -/
def lastStep : Prog (TpuEff nD τ sig (Elt F) Λ₀ .tc) PUnit := do
  let w : Vec F S1x1026 .f32 ← Prog.lift (.load arg4 (Rect.unit (s := S1x1026) ![0, 0] S1x1026.size inb_S1x1026_S1x1026_0_0).toLoadRect (View.loadsAt_vmem h_S1x1026))
  let b : Vec F S1x1026 .f32 ← Prog.lift (.load arg5 (Rect.unit (s := S1x1026) ![0, 0] S1x1026.size inb_S1x1026_S1x1026_0_0).toLoadRect (View.loadsAt_vmem h_S1x1026))
  let g : Vec F S1x1024 .f32 ← Prog.lift (.load arg7 (Rect.unit (s := S1x1024) ![0, 0] S1x1024.size inb_S1x1024_S1x1024_0_0).toLoadRect (View.loadsAt_vmem h_S1x1024))
  batchA arg3 arg6 arg11 harg11 arg12 arg13 0 (by decide) (k0_pay7 w) (k0_pay8 b) (k0_pay9 g)
  batchY arg8 arg9 arg13 0 (by decide)
  batchA arg3 arg6 arg11 harg11 arg12 arg13 1 (by decide) (k0_pay7 w) (k0_pay8 b) (k0_pay9 g)
  batchY arg8 arg9 arg13 1 (by decide)
  endsStep arg9 arg10

/-- Every point's work: the point's product, put in the accumulator at the first point and added to it later. -/
def accStep : Prog (TpuEff nD τ sig (Elt F) Λ₀ .tc) PUnit := do
  let arg0 : BitVec 32 := BitVec.ofNat 32 (i 0).val
  let v0 : Vec F S1024x512 .fp8e4m3 ← Prog.lift (.load arg1 (Rect.unit (s := S1024x512) ![0, 0] S1024x512.size inb_S1024x512_S1024x512_0_0).toLoadRect (View.loadsAt_vmem h_S1024x512))
  let v2 : Vec F S512x1026 .fp8e4m3 ← Prog.lift (.load arg2 (Rect.unit (s := S512x1026) ![0, 0] S512x1026.size inb_S512x1026_S512x1026_0_0).toLoadRect (View.loadsAt_vmem h_S512x1026))
  if k0_h1 : Scalar.cmpi .ne (Scalar.extui (Scalar.cmpi .eq arg0 0#32)) 0#32 = 1#1 then do
    let _ : Vec F S1024x1026 .f32 ← Prog.lift (.load arg12 (Rect.unit (s := S1024x1026) ![0, 0] S1024x1026.size inb_S1024x1026_S1024x1026_0_0).toLoadRect (View.loadsAt_vmem h_S1024x1026))
    Prog.lift (.store arg12 (Rect.unit (s := S1024x1026) ![0, 0] S1024x1026.size inb_S1024x1026_S1024x1026_0_0) (k0_pay2 v0 v2) Finset.univ (View.stores_vmem_bits_univ h_S1024x1026 rfl) (.inl rfl))
    pure ⟨⟩
  else do
    pure ⟨⟩
  if k0_h2 : Scalar.cmpi .ne (Scalar.extui (Scalar.cmpi .sgt arg0 0#32)) 0#32 = 1#1 then do
    let v13 : Vec F S1024x1026 .f32 ← Prog.lift (.load arg12 (Rect.unit (s := S1024x1026) ![0, 0] S1024x1026.size inb_S1024x1026_S1024x1026_0_0).toLoadRect (View.loadsAt_vmem h_S1024x1026))
    let _ : Vec F S1024x1026 .f32 ← Prog.lift (.load arg12 (Rect.unit (s := S1024x1026) ![0, 0] S1024x1026.size inb_S1024x1026_S1024x1026_0_0).toLoadRect (View.loadsAt_vmem h_S1024x1026))
    Prog.lift (.store arg12 (Rect.unit (s := S1024x1026) ![0, 0] S1024x1026.size inb_S1024x1026_S1024x1026_0_0) (k0_pay3 v0 v2 v13) Finset.univ (View.stores_vmem_bits_univ h_S1024x1026 rfl) (.inl rfl))
    pure ⟨⟩
  else do
    pure ⟨⟩

/-- The last point's work as the program prints it, part after part. -/
def lastPrinted : Prog (TpuEff nD τ sig (Elt F) Λ₀ .tc) PUnit := do
  let ⟨v14, v16, v18, v19, v1803⟩ : Σ' (v14 : FVec F S1x1026 .f32) (v16 : FVec F S1x1026 .f32) (v18 : FVec F S1x1024 .f32) (v19 : FVec F S8x1024 .f32), Vec F S1x128 .f32 ← k0_part121 i arg1 harg1 arg2 harg2 arg3 harg3 arg4 harg4 arg5 harg5 arg6 harg6 arg7 harg7 arg8 harg8 arg9 harg9 arg10 harg10 arg11 harg11 arg12 harg12 arg13 harg13
  let v3595 : FVec F S1x128 .f32 ← k0_part122 i arg1 harg1 arg2 harg2 arg3 harg3 arg4 harg4 arg5 harg5 arg6 harg6 arg7 harg7 arg8 harg8 arg9 harg9 arg10 harg10 arg11 harg11 arg12 harg12 arg13 harg13 v14 v16 v18 v19 v1803
  let v3596 : Vec F S1x128 .f32 ← Prog.lift (.load arg9 (⟨![2045, 0], S1x128.size, ![4, 1], inb_S2048x128_S1x128_2045_0_s_4_1⟩ : LoadRect S2048x128) (View.loadsAt_vmem h_S1x128))
  Prog.lift (.store arg9 ⟨(⟨![2045, 0], S1x128.size, ![4, 1], inb_S2048x128_S1x128_2045_0_s_4_1⟩ : LoadRect S2048x128), spos_4_1⟩ v3595 Finset.univ (View.stores_vmem_bits_univ h_S1x128 rfl) (.inl rfl))
  let v3597 : Vec F S1x128 .f32 ← Prog.lift (.load arg13 (Rect.unit (s := S528x1024) ![521, 0] S1x128.size inb_S528x1024_S1x128_521_0).toLoadRect (View.loadsAt_vmem h_S1x128))
  let v3598 : Vec F S1x128 .f32 ← Prog.lift (.load arg13 (Rect.unit (s := S528x1024) ![520, 256] S1x128.size inb_S528x1024_S1x128_520_256).toLoadRect (View.loadsAt_vmem h_S1x128))
  let v3600 : Vec F S1x128 .f32 ← Prog.lift (.load arg13 (Rect.unit (s := S528x1024) ![519, 512] S1x128.size inb_S528x1024_S1x128_519_512).toLoadRect (View.loadsAt_vmem h_S1x128))
  let v3602 : Vec F S1x128 .f32 ← Prog.lift (.load arg13 (Rect.unit (s := S528x1024) ![518, 768] S1x128.size inb_S528x1024_S1x128_518_768).toLoadRect (View.loadsAt_vmem h_S1x128))
  let v3604 : Vec F S1x128 .f32 ← Prog.lift (.load arg8 (Rect.unit (s := S8x256) ![5, 0] S1x128.size inb_S8x256_S1x128_5_0).toLoadRect (View.loadsAt_vmem h_S1x128))
  let v3607 : Vec F S1x128 .f32 ← Prog.lift (.load arg9 (⟨![2047, 0], S1x128.size, ![4, 1], inb_S2048x128_S1x128_2047_0_s_4_1⟩ : LoadRect S2048x128) (View.loadsAt_vmem h_S1x128))
  Prog.lift (.store arg9 ⟨(⟨![2047, 0], S1x128.size, ![4, 1], inb_S2048x128_S1x128_2047_0_s_4_1⟩ : LoadRect S2048x128), spos_4_1⟩ (k0_pay4 v3597 v3598 v3600 v3602 v3604) Finset.univ (View.stores_vmem_bits_univ h_S1x128 rfl) (.inl rfl))
  let v3608 : Vec F S16x128 .f32 ← Prog.lift (.load arg9 (Rect.unit (s := S2048x128) ![0, 0] S16x128.size inb_S2048x128_S16x128_0_0).toLoadRect (View.loadsAt_vmem h_S16x128))
  let v3610 : Vec F S16x128 .f32 ← Prog.lift (.load arg10 (Rect.unit (s := S32x128) ![0, 0] S16x128.size inb_S32x128_S16x128_0_0).toLoadRect (View.loadsAt_vmem h_S16x128))
  Prog.lift (.store arg10 (Rect.unit (s := S32x128) ![0, 0] S16x128.size inb_S32x128_S16x128_0_0) (k0_pay5 v3608) Finset.univ (View.stores_vmem_bits_univ h_S16x128 rfl) (.inl rfl))
  let v3611 : Vec F S16x128 .f32 ← Prog.lift (.load arg9 (Rect.unit (s := S2048x128) ![2032, 0] S16x128.size inb_S2048x128_S16x128_2032_0).toLoadRect (View.loadsAt_vmem h_S16x128))
  let v3613 : Vec F S16x128 .f32 ← Prog.lift (.load arg10 (Rect.unit (s := S32x128) ![16, 0] S16x128.size inb_S32x128_S16x128_16_0).toLoadRect (View.loadsAt_vmem h_S16x128))
  Prog.lift (.store arg10 (Rect.unit (s := S32x128) ![16, 0] S16x128.size inb_S32x128_S16x128_16_0) (k0_pay6 v3611) Finset.univ (View.stores_vmem_bits_univ h_S16x128 rfl) (.inl rfl))
  pure ⟨⟩

end Whole

/-- Consecutive runs of half-blocks are one run. -/
theorem blks_append (arg8 : Memref sig .tc .vmem S8x256 .f32) (arg9 : Memref sig .tc .vmem S2048x128 .f32)
    (arg13 : Memref sig .tc .vmem S528x1024 .f32) (bi : Nat) (hb : bi < 2) : ∀ (k h k' h' : Nat) (hk : h + k ≤ 126) (hk' : h' + k' ≤ 126)
    (_ : h' = h + k) (n : Nat) (hn : h + n ≤ 126) (_ : n = k + k'),
    (blks (F := F) arg8 arg9 arg13 bi hb k h hk >>= fun _ => blks arg8 arg9 arg13 bi hb k' h' hk') = blks arg8 arg9 arg13 bi hb n h hn
  | 0, h, k', h', hk, hk', e, n, hn, en => by
    obtain rfl : h' = h := by omega
    obtain rfl : n = k' := by omega
    rfl
  | k + 1, h, k', h', hk, hk', e, n, hn, en => by
    obtain ⟨n, rfl⟩ : ∃ n', n = n' + 1 := ⟨n - 1, by omega⟩
    rw [blks, blks, Prog.bind_assoc]
    simp only [blks_append arg8 arg9 arg13 bi hb k (h + 1) k' h' (by omega) hk' (by omega) n (by omega) (by omega)]

end Cert.Kernel

end
-- ==== Proof.KB.Own.lean ====
module

public import proofs.«01_k».proof.Proof.KB.Steps
public import Idealize.ShloMosaic.Lib.Ring
public import Idealize.ShloMosaic.Lib.Tactic

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

/-! ## Arrays read and overwritten at a rectangle -/

/-- The array `X` read at the coordinates `r`. -/
def ld {s : Shape} {A : Type} (X : s.Idx → A) (r : LoadRect s) : r.shape.Idx → A := fun x => X (r.idx x)

/-- The array `X` with `w` written at the rectangle `r`. -/
def upd {s : Shape} {A : Type} (X : s.Idx → A) (r : Rect s) (w : r.shape.Idx → A) : s.Idx → A := fun y =>
  match preimage? r.emb y with
  | some x => w x
  | none => X y

theorem upd_emb {s : Shape} {A : Type} (X : s.Idx → A) (r : Rect s) (w : r.shape.Idx → A) (x : r.shape.Idx) :
    upd X r w (r.emb x) = w x := by
  unfold upd; rw [preimage?_emb]

theorem upd_hit {s : Shape} {A : Type} (X : s.Idx → A) (r : Rect s) (w : r.shape.Idx → A) (x : r.shape.Idx) (y : s.Idx)
    (h : ∀ a, (y a).val = r.off a + r.stride a * (x a).val) : upd X r w y = w x := by
  obtain rfl := r.emb_eq_of_coords x y h
  exact upd_emb X r w x

theorem upd_miss {s : Shape} {A : Type} (X : s.Idx → A) (r : Rect s) (w : r.shape.Idx → A) (y : s.Idx)
    (h : y ∉ r.set) : upd X r w y = X y := by
  unfold upd
  rw [preimage?_eq_none (emb := r.emb) (y := y) fun x hx => h (by rw [← hx]; exact r.idx_mem x)]

/-! ## Whole arrays -/

/-- Read at all of its coordinates an array is itself; -/
theorem ld_whole {s : Shape} {A : Type} (X : s.Idx → A) {off : Fin s.rank → ℕ} (h : ∀ a, off a + s.size a ≤ s.size a) :
    ld X (Rect.unit (s := s) off s.size h).toLoadRect = X := by
  funext x
  show X ((Rect.unit (s := s) off s.size h).toLoadRect.idx x) = X x
  refine congrArg X (funext fun a => Fin.ext ?_)
  show off a + 1 * (x a).val = (x a).val
  have := h a
  omega

/-- overwritten at all of them it is what was written. -/
theorem upd_whole {s : Shape} {A : Type} (X w : s.Idx → A) {off : Fin s.rank → ℕ} (h : ∀ a, off a + s.size a ≤ s.size a) :
    upd X (Rect.unit (s := s) off s.size h) w = w := by
  funext x
  refine upd_hit X (Rect.unit (s := s) off s.size h) w x x fun a => ?_
  show (x a).val = off a + 1 * (x a).val
  have := h a
  omega

variable {F : FTy → Type} [FloatOps F]

theorem read_write_upd {sp : Space} {s : Shape} {e : EltTy} (v : View sig .tc sp s e) (f : v.ty.Contents (Elt F)) (r : Rect s)
    (w : r.shape.Idx → Elt F e) :
    v.read (Elt F) ((v.slice r).write (Elt F) f w Finset.univ) = upd (v.read (Elt F) f) r w := by
  funext y
  by_cases hy : y ∈ r.set
  · obtain ⟨x, rfl⟩ := r.exists_idx_of_mem hy
    refine Eq.trans ?_ (upd_emb _ r w x).symm
    exact View.read_slice_write_emb r f w (Finset.mem_univ x)
  · rw [upd_miss _ _ _ _ hy]
    exact View.read_slice_write_of_not_mem r f w _ (by rwa [Rect.map_emb_univ])

local notation "𝕄" => MT nD τ sig Unit (Elt F) ℕ (UR sig nD τ) ℕ

variable (c : Dev nD) (E : Set ℕ)

/-- A load hands its continuation the array read at its coordinates. -/
theorem wp_ld {s : Shape} {e : EltTy} (m : Memref sig .tc .vmem s e) (X : s.Idx → Elt F e) (r : LoadRect s)
    (hl : m.view.LoadsAt r) (Φ : (r.shape.Idx → Elt F e) → sProp 𝕄) :
    iprop(owns (c : Thread nD τ) m fullShare X ∗ (owns (c : Thread nD τ) m fullShare X -∗ Φ (ld X r)))
      ⊢ wp frame (wpE (defs₀ (F := F)) Variants.none c none) E (Prog.lift (.load m r hl)) Φ := by
  unfold owns Prog.lift
  iintro ⟨⟨%f, %hf, H⟩, Hk⟩
  subst hf
  have e : ld (m.view.read (Elt F) f) r = m.view.readAt (Elt F) r f := rfl
  rw [e]
  sl_step
  sl_step
  iapply Hk
  iexists f
  isplitr
  · ipureintro; rfl
  iexact H

/-- Nothing to do. -/
theorem wp_nop (Φ : PUnit → sProp 𝕄) :
    Φ ⟨⟩ ⊢ wp frame (wpE (defs₀ (F := F)) Variants.none c none) E (pure ⟨⟩) Φ := by
  iintro H
  sl_step
  iexact H

/-- A store leaves the array overwritten at its rectangle. -/
theorem wp_st {s : Shape} {e : EltTy} (m : Memref sig .tc .vmem s e) (X : s.Idx → Elt F e) (r : Rect s) (w : r.shape.Idx → Elt F e)
    (hx : (m.access r).Stores Finset.univ) (hm : Finset.univ = Finset.univ ∨ ∀ a, r.stride a = 1) (Φ : PUnit → sProp 𝕄) :
    iprop(owns (c : Thread nD τ) m fullShare X ∗ (owns (c : Thread nD τ) m fullShare (upd X r w) -∗ Φ ⟨⟩))
      ⊢ wp frame (wpE (defs₀ (F := F)) Variants.none c none) E (Prog.lift (.store m r w Finset.univ hx hm)) Φ := by
  unfold owns Prog.lift
  iintro ⟨⟨%f, %hf, H⟩, Hk⟩
  subst hf
  sl_step
  sl_step
  iapply Hk
  iexists _
  isplitr
  swap; · iexact H
  ipureintro
  exact read_write_upd m.view f r w

end Cert.Kernel

end
-- ==== Proof.KB.Triples.lean ====
module

public import proofs.«01_k».proof.Proof.KB.Own
public import Idealize.ShloMosaic.Lib.Ring
public import Idealize.ShloMosaic.Lib.Tactic

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-! ## What the steps leave -/

/-- The rectangle of the frame scratch a half-block of `n` rows reads. -/
abbrev frR (n r l : Nat) (hr : r + n ≤ 528) (hl : l + 128 ≤ 1024) : Rect S528x1024 :=
  Rect.unit (s := S528x1024) ![r, l] (Rw n).size (fr_inb hr hl)

/-- The rows of the waveform a half-block of `n` rows writes: from `o`, every fourth. -/
abbrev yR (n o : Nat) (ho : o + 4 * (n - 1) < 2048) : Rect S2048x128 :=
  ⟨(⟨![o, 0], (Rw n).size, ![4, 1], y_inb ho⟩ : LoadRect S2048x128), spos_4_1⟩

/-- The waveform after one half-block. -/
def blkS (n : Nat) (spread : FVec F S1x128 .f32 → FVec F (Rw n) .f32) (r l q o : Nat)
    (hr : 3 ≤ r ∧ r + n ≤ 528) (hl : l + 896 ≤ 1024) (hq : q < 8) (ho : o + 4 * (n - 1) < 2048)
    (N : Vec F S8x256 .f32) (Z : Vec F S528x1024 .f32) (Y : Vec F S2048x128 .f32) : Vec F S2048x128 .f32 :=
  upd Y (yR n o ho) (quot n spread (ld Z (frR n r l (by omega) (by omega)).toLoadRect)
    (ld Z (frR n (r - 1) (l + 256) (by omega) (by omega)).toLoadRect) (ld Z (frR n (r - 2) (l + 512) (by omega) (by omega)).toLoadRect)
    (ld Z (frR n (r - 3) (l + 768) (by omega) (by omega)).toLoadRect)
    (ld N (Rect.unit (s := S8x256) ![q, l] S1x128.size (env_inb hq (by omega))).toLoadRect))

/-- The waveform after `k` half-blocks of eight rows, from the `h`-th. -/
def blksS (bi : Nat) (hb : bi < 2) (N : Vec F S8x256 .f32) (Z : Vec F S528x1024 .f32) :
    (k h : Nat) → h + k ≤ 126 → Vec F S2048x128 .f32 → Vec F S2048x128 .f32
  | 0, _, _, Y => Y
  | k + 1, h, hk, Y => blksS bi hb N Z k (h + 1) (by omega)
      (blkS 8 spread8 (11 + 8 * (h / 2)) (128 * (h % 2)) 3 (6 + 32 * (h / 2) + 2 * (h % 2) + bi)
        (by omega) (by omega) (by omega) (by omega) N Z Y)

/-- The waveform after a batch. -/
def batchYS (bi : Nat) (hb : bi < 2) (N : Vec F S8x256 .f32) (Z : Vec F S528x1024 .f32) (Y : Vec F S2048x128 .f32) : Vec F S2048x128 .f32 :=
  blkS 1 spread1 521 0 5 (2046 + bi) (by decide) (by decide) (by decide) (by omega) N Z
    (blkS 1 spread1 520 128 4 (2044 + bi) (by decide) (by decide) (by decide) (by omega) N Z
    (blkS 1 spread1 520 0 4 (2042 + bi) (by decide) (by decide) (by decide) (by omega) N Z
    (blkS 5 spread5 515 128 3 (2024 + bi) (by decide) (by decide) (by decide) (by omega) N Z
    (blkS 5 spread5 515 0 3 (2022 + bi) (by decide) (by decide) (by decide) (by omega) N Z
    (blksS bi hb N Z 126 0 (by decide)
    (blkS 1 spread1 10 128 2 (4 + bi) (by decide) (by decide) (by decide) (by omega) N Z
    (blkS 1 spread1 10 0 2 (2 + bi) (by decide) (by decide) (by decide) (by omega) N Z
    (blkS 1 spread1 9 128 1 (0 + bi) (by decide) (by decide) (by decide) (by omega) N Z
    Y))))))))

/-- 64 rows of the spectrum, from row `R`. -/
abbrev spR (R : Nat) (hR : R + 64 ≤ 1024) : Rect S1024x1026 := Rect.unit (s := S1024x1026) ![R, 0] S64x1026.size (sp_inb hR)

/-- The spectrum after 64 rows, -/
def specHalfS (R o : Nat) (hR : R + 64 ≤ 1024) (ho : S128x128.Slices ![o, 0] S64x1) (w b : FVec F S1x1026 .f32) (s : FVec F S128x128 .f32)
    (A : Vec F S1024x1026 .f32) (S : Vec F S1024x1026 .bf16) : Vec F S1024x1026 .bf16 :=
  upd S (spR R hR) (specPay o ho w b s (ld A (spR R hR).toLoadRect))

/-- after 128 rows, -/
def specChunkS (bi ch : Nat) (hb : bi < 2) (hc : ch < 4) (w b : FVec F S1x1026 .f32) (X : Vec F S2x512 .f32)
    (A : Vec F S1024x1026 .f32) (S : Vec F S1024x1026 .bf16) : Vec F S1024x1026 .bf16 :=
  specHalfS (512 * bi + 128 * ch + 64) 64 (by omega) slices_S128x128_o64_0_S64x1 w b
    (k0_pay13 (ld X (Rect.unit (s := S2x512) ![bi, 128 * ch] S1x128.size (xs_inb hb (by omega))).toLoadRect)) A
    (specHalfS (512 * bi + 128 * ch) 0 (by omega) slices_S128x128_o0_0_S64x1 w b
      (k0_pay13 (ld X (Rect.unit (s := S2x512) ![bi, 128 * ch] S1x128.size (xs_inb hb (by omega))).toLoadRect)) A S)

/-- after a batch. -/
def specS (bi : Nat) (hb : bi < 2) (w b : FVec F S1x1026 .f32) (X : Vec F S2x512 .f32)
    (A : Vec F S1024x1026 .f32) (S : Vec F S1024x1026 .bf16) : Vec F S1024x1026 .bf16 :=
  specChunkS bi 3 hb (by decide) w b X A (specChunkS bi 2 hb (by decide) w b X A
    (specChunkS bi 1 hb (by decide) w b X A (specChunkS bi 0 hb (by decide) w b X A S)))

/-- The frame scratch after a batch's spectrum `S`. -/
def frS (bi : Nat) (hb : bi < 2) (g : FVec F S1x1024 .f32) (M : Vec F S1026x1024 .bf16) (S : Vec F S1024x1026 .bf16)
    (Z : Vec F S528x1024 .f32) : Vec F S528x1024 .f32 :=
  upd (upd (upd Z (Rect.unit (s := S528x1024) ![0, 0] S8x1024.size inb_S528x1024_S8x1024_0_0) (k0_pay11 (F := F)))
      (Rect.unit (s := S528x1024) ![520, 0] S8x1024.size inb_S528x1024_S8x1024_520_0) (k0_pay11 (F := F)))
    (Rect.unit (s := S528x1024) ![8, 0] S512x1024.size inb_S528x1024_S512x1024_8_0)
    (k0_pay28 g (ld S (Rect.unit (s := S1024x1026) ![512 * bi, 0] S512x1026.size (sp512_inb (by omega))).toLoadRect)
      (ld M (Rect.unit (s := S1026x1024) ![0, 0] S1026x1024.size inb_S1026x1024_S1026x1024_0_0).toLoadRect))

/-- The ends of the waveform. -/
def endsS (Y : Vec F S2048x128 .f32) (e : Vec F S32x128 .f32) : Vec F S32x128 .f32 :=
  upd (upd e (Rect.unit (s := S32x128) ![0, 0] S16x128.size inb_S32x128_S16x128_0_0)
      (k0_pay5 (ld Y (Rect.unit (s := S2048x128) ![0, 0] S16x128.size inb_S2048x128_S16x128_0_0).toLoadRect)))
    (Rect.unit (s := S32x128) ![16, 0] S16x128.size inb_S32x128_S16x128_16_0)
    (k0_pay6 (ld Y (Rect.unit (s := S2048x128) ![2032, 0] S16x128.size inb_S2048x128_S16x128_2032_0).toLoadRect))

/-- The row of `W` read whole. -/
abbrev row1 (W : Vec F S1x1026 .f32) : Vec F S1x1026 .f32 := ld W (Rect.unit (s := S1x1026) ![0, 0] S1x1026.size inb_S1x1026_S1x1026_0_0).toLoadRect
abbrev rowG (G : Vec F S1x1024 .f32) : Vec F S1x1024 .f32 := ld G (Rect.unit (s := S1x1024) ![0, 0] S1x1024.size inb_S1x1024_S1x1024_0_0).toLoadRect

/-- The spectrum after batch 0, -/
def lastS0 (X : Vec F S2x512 .f32) (W B : Vec F S1x1026 .f32) (A : Vec F S1024x1026 .f32) (S : Vec F S1024x1026 .bf16) : Vec F S1024x1026 .bf16 :=
  specS 0 (by decide) (k0_pay7 (row1 W)) (k0_pay8 (row1 B)) X A S
/-- after both; -/
def lastS (X : Vec F S2x512 .f32) (W B : Vec F S1x1026 .f32) (A : Vec F S1024x1026 .f32) (S : Vec F S1024x1026 .bf16) : Vec F S1024x1026 .bf16 :=
  specS 1 (by decide) (k0_pay7 (row1 W)) (k0_pay8 (row1 B)) X A (lastS0 X W B A S)
/-- the frames of batch 0, -/
def lastZ0 (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) : Vec F S528x1024 .f32 :=
  frS 0 (by decide) (k0_pay9 (rowG G)) M (lastS0 X W B A S) Z
/-- of batch 1; -/
def lastZ (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) : Vec F S528x1024 .f32 :=
  frS 1 (by decide) (k0_pay9 (rowG G)) M (lastS X W B A S) (lastZ0 X W B M G A S Z)
/-- the waveform. -/
def lastY (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) : Vec F S2048x128 .f32 :=
  batchYS 1 (by decide) N (lastZ X W B M G A S Z) (batchYS 0 (by decide) N (lastZ0 X W B M G A S Z) Y)

/-! ## The steps leave it -/

section
variable (c : Dev nD) (E : Set ℕ)

/-- A half-block. -/
theorem wp_blk (arg8 : Memref sig .tc .vmem S8x256 .f32) (arg9 : Memref sig .tc .vmem S2048x128 .f32) (arg13 : Memref sig .tc .vmem S528x1024 .f32) (n : Nat) (hn : 0 < n) (spread : FVec F S1x128 .f32 → FVec F (Rw n) .f32) (r l q o : Nat)
    (hr : 3 ≤ r ∧ r + n ≤ 528) (hl : l + 128 ≤ 256) (hq : q < 8) (ho : o + 4 * (n - 1) < 2048)
    (N : Vec F S8x256 .f32) (Z : Vec F S528x1024 .f32) (Y : Vec F S2048x128 .f32) (Φ : PUnit → sProp 𝕄) :
    iprop(owns (c : Thread nD τ) arg8 fullShare N ∗ owns (c : Thread nD τ) arg9 fullShare Y ∗ owns (c : Thread nD τ) arg13 fullShare Z ∗ (iprop(owns (c : Thread nD τ) arg8 fullShare N ∗ owns (c : Thread nD τ) arg9 fullShare (blkS n spread r l q o hr (by omega) hq ho N Z Y) ∗ owns (c : Thread nD τ) arg13 fullShare Z) -∗ Φ ⟨⟩))
      ⊢ wp frame (wpE (defs₀ (F := F)) Variants.none c none) E (blk arg8 arg9 arg13 n hn spread r l q o hr hl hq ho) Φ := by
  unfold blk
  iintro ⟨H8, H9, H13, Hk⟩
  rw [wp_bind]
  iapply (wp_ld c E arg13 _ _ _ _)
  isplitl [H13]; · iexact H13
  iintro H13
  rw [wp_bind]
  iapply (wp_ld c E arg13 _ _ _ _)
  isplitl [H13]; · iexact H13
  iintro H13
  rw [wp_bind]
  iapply (wp_ld c E arg13 _ _ _ _)
  isplitl [H13]; · iexact H13
  iintro H13
  rw [wp_bind]
  iapply (wp_ld c E arg13 _ _ _ _)
  isplitl [H13]; · iexact H13
  iintro H13
  rw [wp_bind]
  iapply (wp_ld c E arg8 _ _ _ _)
  isplitl [H8]; · iexact H8
  iintro H8
  rw [wp_bind]
  iapply (wp_ld c E arg9 _ _ _ _)
  isplitl [H9]; · iexact H9
  iintro H9
  iapply (wp_st c E arg9 _ _ _ _ _ _)
  isplitl [H9]; · iexact H9
  iintro H9
  iapply Hk
  isplitl [H8]; · iexact H8
  isplitl [H9]; · iexact H9
  iexact H13

/-- A run of half-blocks. -/
theorem wp_blks (arg8 : Memref sig .tc .vmem S8x256 .f32) (arg9 : Memref sig .tc .vmem S2048x128 .f32) (arg13 : Memref sig .tc .vmem S528x1024 .f32) (bi : Nat) (hb : bi < 2) (N : Vec F S8x256 .f32) (Z : Vec F S528x1024 .f32) (k h : Nat) (hk : h + k ≤ 126) (Y : Vec F S2048x128 .f32) (Φ : PUnit → sProp 𝕄) :
    iprop(owns (c : Thread nD τ) arg8 fullShare N ∗ owns (c : Thread nD τ) arg9 fullShare Y ∗ owns (c : Thread nD τ) arg13 fullShare Z ∗ (iprop(owns (c : Thread nD τ) arg8 fullShare N ∗ owns (c : Thread nD τ) arg9 fullShare (blksS bi hb N Z k h hk Y) ∗ owns (c : Thread nD τ) arg13 fullShare Z) -∗ Φ ⟨⟩))
      ⊢ wp frame (wpE (defs₀ (F := F)) Variants.none c none) E (blks arg8 arg9 arg13 bi hb k h hk) Φ := by
  induction k generalizing h Y with
  | zero =>
    unfold blks blksS
    iintro ⟨H8, H9, H13, Hk⟩
    iapply (wp_nop c E _)
    iapply Hk
    isplitl [H8]; · iexact H8
    isplitl [H9]; · iexact H9
    iexact H13
  | succ k ih =>
    unfold blks blksS
    iintro ⟨H8, H9, H13, Hk⟩
    rw [wp_bind]
    iapply (wp_blk c E arg8 arg9 arg13 8 _ spread8 _ _ _ _ _ _ _ _ N Z Y _)
    isplitl [H8]; · iexact H8
    isplitl [H9]; · iexact H9
    isplitl [H13]; · iexact H13
    iintro ⟨H8, H9, H13⟩
    iapply (ih (h + 1) _ _)
    isplitl [H8]; · iexact H8
    isplitl [H9]; · iexact H9
    isplitl [H13]; · iexact H13
    iintro ⟨H8, H9, H13⟩
    iapply Hk
    isplitl [H8]; · iexact H8
    isplitl [H9]; · iexact H9
    iexact H13

/-- A batch's waveform. -/
theorem wp_batchY (arg8 : Memref sig .tc .vmem S8x256 .f32) (arg9 : Memref sig .tc .vmem S2048x128 .f32) (arg13 : Memref sig .tc .vmem S528x1024 .f32) (bi : Nat) (hb : bi < 2) (N : Vec F S8x256 .f32) (Z : Vec F S528x1024 .f32) (Y : Vec F S2048x128 .f32) (Φ : PUnit → sProp 𝕄) :
    iprop(owns (c : Thread nD τ) arg8 fullShare N ∗ owns (c : Thread nD τ) arg9 fullShare Y ∗ owns (c : Thread nD τ) arg13 fullShare Z ∗ (iprop(owns (c : Thread nD τ) arg8 fullShare N ∗ owns (c : Thread nD τ) arg9 fullShare (batchYS bi hb N Z Y) ∗ owns (c : Thread nD τ) arg13 fullShare Z) -∗ Φ ⟨⟩))
      ⊢ wp frame (wpE (defs₀ (F := F)) Variants.none c none) E (batchY arg8 arg9 arg13 bi hb) Φ := by
  unfold batchY batchYS
  iintro ⟨H8, H9, H13, Hk⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blks c E arg8 arg9 arg13 bi hb N Z _ _ _ _ _)
  isplitl [H8]; · iexact H8
  isplitl [H9]; · iexact H9
  isplitl [H13]; · iexact H13
  iintro ⟨H8, H9, H13⟩
  rw [wp_bind]
  iapply (wp_blk c E arg8 arg9 arg13 5 _ spread5 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 5 _ spread5 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  rw [wp_bind]
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  iapply (wp_blk c E arg8 arg9 arg13 1 _ spread1 _ _ _ _ _ _ _ _ N Z _ _)
  isplitl [H8]; · iexact H8
  isplitl [H9]; · iexact H9
  isplitl [H13]; · iexact H13
  iintro ⟨H8, H9, H13⟩
  iapply Hk
  isplitl [H8]; · iexact H8
  isplitl [H9]; · iexact H9
  iexact H13

/-- 64 rows of the spectrum. -/
theorem wp_specHalf (arg11 : Memref sig .tc .vmem S1024x1026 .bf16) (harg11 : arg11.IsWhole)
    (arg12 : Memref sig .tc .vmem S1024x1026 .f32) (R o : Nat) (hR : R + 64 ≤ 1024) (h2 : 2 ∣ R) (ho : S128x128.Slices ![o, 0] S64x1)
    (w b : FVec F S1x1026 .f32) (s : FVec F S128x128 .f32) (A : Vec F S1024x1026 .f32) (S : Vec F S1024x1026 .bf16) (Φ : PUnit → sProp 𝕄) :
    iprop(owns (c : Thread nD τ) arg11 fullShare S ∗ owns (c : Thread nD τ) arg12 fullShare A ∗ (iprop(owns (c : Thread nD τ) arg11 fullShare (specHalfS R o hR ho w b s A S) ∗ owns (c : Thread nD τ) arg12 fullShare A) -∗ Φ ⟨⟩))
      ⊢ wp frame (wpE (defs₀ (F := F)) Variants.none c none) E (specHalf arg11 harg11 arg12 R o hR h2 ho w b s) Φ := by
  unfold specHalf
  iintro ⟨H11, H12, Hk⟩
  rw [wp_bind]
  iapply (wp_ld c E arg12 _ _ _ _)
  isplitl [H12]; · iexact H12
  iintro H12
  rw [wp_bind]
  iapply (wp_ld c E arg11 _ _ _ _)
  isplitl [H11]; · iexact H11
  iintro H11
  iapply (wp_st c E arg11 _ _ _ _ _ _)
  isplitl [H11]; · iexact H11
  iintro H11
  iapply Hk
  isplitl [H11]; · iexact H11
  iexact H12

/-- 128 rows of the spectrum. -/
theorem wp_specChunk (arg3 : Memref sig .tc .vmem S2x512 .f32) (arg11 : Memref sig .tc .vmem S1024x1026 .bf16) (harg11 : arg11.IsWhole)
    (arg12 : Memref sig .tc .vmem S1024x1026 .f32) (bi ch : Nat) (hb : bi < 2) (hc : ch < 4)
    (w b : FVec F S1x1026 .f32) (X : Vec F S2x512 .f32) (A : Vec F S1024x1026 .f32) (S : Vec F S1024x1026 .bf16) (Φ : PUnit → sProp 𝕄) :
    iprop(owns (c : Thread nD τ) arg3 fullShare X ∗ owns (c : Thread nD τ) arg11 fullShare S ∗ owns (c : Thread nD τ) arg12 fullShare A ∗ (iprop(owns (c : Thread nD τ) arg3 fullShare X ∗ owns (c : Thread nD τ) arg11 fullShare (specChunkS bi ch hb hc w b X A S) ∗ owns (c : Thread nD τ) arg12 fullShare A) -∗ Φ ⟨⟩))
      ⊢ wp frame (wpE (defs₀ (F := F)) Variants.none c none) E (specChunk arg3 arg11 harg11 arg12 bi ch hb hc w b) Φ := by
  unfold specChunk
  iintro ⟨H3, H11, H12, Hk⟩
  rw [wp_bind]
  iapply (wp_ld c E arg3 _ _ _ _)
  isplitl [H3]; · iexact H3
  iintro H3
  rw [wp_bind]
  iapply (wp_specHalf c E arg11 harg11 arg12 _ _ _ _ _ w b _ A _ _)
  isplitl [H11]; · iexact H11
  isplitl [H12]; · iexact H12
  iintro ⟨H11, H12⟩
  iapply (wp_specHalf c E arg11 harg11 arg12 _ _ _ _ _ w b _ A _ _)
  isplitl [H11]; · iexact H11
  isplitl [H12]; · iexact H12
  iintro ⟨H11, H12⟩
  iapply Hk
  isplitl [H3]; · iexact H3
  isplitl [H11]; · iexact H11
  iexact H12

/-- A batch's spectrum and frames. -/
theorem wp_batchA (arg3 : Memref sig .tc .vmem S2x512 .f32) (arg11 : Memref sig .tc .vmem S1024x1026 .bf16) (harg11 : arg11.IsWhole)
    (arg12 : Memref sig .tc .vmem S1024x1026 .f32) (arg6 : Memref sig .tc .vmem S1026x1024 .bf16) (arg13 : Memref sig .tc .vmem S528x1024 .f32) (bi : Nat) (hb : bi < 2)
    (w b : FVec F S1x1026 .f32) (X : Vec F S2x512 .f32) (A : Vec F S1024x1026 .f32) (S : Vec F S1024x1026 .bf16) (g : FVec F S1x1024 .f32) (M : Vec F S1026x1024 .bf16) (Z : Vec F S528x1024 .f32) (Φ : PUnit → sProp 𝕄) :
    iprop(owns (c : Thread nD τ) arg3 fullShare X ∗ owns (c : Thread nD τ) arg6 fullShare M ∗ owns (c : Thread nD τ) arg11 fullShare S ∗ owns (c : Thread nD τ) arg12 fullShare A ∗ owns (c : Thread nD τ) arg13 fullShare Z ∗ (iprop(owns (c : Thread nD τ) arg3 fullShare X ∗ owns (c : Thread nD τ) arg6 fullShare M ∗ owns (c : Thread nD τ) arg11 fullShare (specS bi hb w b X A S) ∗ owns (c : Thread nD τ) arg12 fullShare A ∗ owns (c : Thread nD τ) arg13 fullShare (frS bi hb g M (specS bi hb w b X A S) Z)) -∗ Φ ⟨⟩))
      ⊢ wp frame (wpE (defs₀ (F := F)) Variants.none c none) E (batchA arg3 arg6 arg11 harg11 arg12 arg13 bi hb w b g) Φ := by
  unfold batchA frS specS
  iintro ⟨H3, H6, H11, H12, H13, Hk⟩
  rw [wp_bind]
  iapply (wp_ld c E arg13 _ _ _ _)
  isplitl [H13]; · iexact H13
  iintro H13
  rw [wp_bind]
  iapply (wp_st c E arg13 _ _ _ _ _ _)
  isplitl [H13]; · iexact H13
  iintro H13
  rw [wp_bind]
  iapply (wp_ld c E arg13 _ _ _ _)
  isplitl [H13]; · iexact H13
  iintro H13
  rw [wp_bind]
  iapply (wp_st c E arg13 _ _ _ _ _ _)
  isplitl [H13]; · iexact H13
  iintro H13
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_specChunk c E arg3 arg11 harg11 arg12 _ _ _ _ w b X A _ _)
  isplitl [H3]; · iexact H3
  isplitl [H11]; · iexact H11
  isplitl [H12]; · iexact H12
  iintro ⟨H3, H11, H12⟩
  rw [wp_bind]
  iapply (wp_ld c E arg11 _ _ _ _)
  isplitl [H11]; · iexact H11
  iintro H11
  rw [wp_bind]
  iapply (wp_ld c E arg6 _ _ _ _)
  isplitl [H6]; · iexact H6
  iintro H6
  rw [wp_bind]
  iapply (wp_ld c E arg13 _ _ _ _)
  isplitl [H13]; · iexact H13
  iintro H13
  iapply (wp_st c E arg13 _ _ _ _ _ _)
  isplitl [H13]; · iexact H13
  iintro H13
  iapply Hk
  isplitl [H3]; · iexact H3
  isplitl [H6]; · iexact H6
  isplitl [H11]; · iexact H11
  isplitl [H12]; · iexact H12
  iexact H13

/-- The ends. -/
theorem wp_endsStep (arg9 : Memref sig .tc .vmem S2048x128 .f32) (arg10 : Memref sig .tc .vmem S32x128 .f32) (Y : Vec F S2048x128 .f32) (e : Vec F S32x128 .f32) (Φ : PUnit → sProp 𝕄) :
    iprop(owns (c : Thread nD τ) arg9 fullShare Y ∗ owns (c : Thread nD τ) arg10 fullShare e ∗ (iprop(owns (c : Thread nD τ) arg9 fullShare Y ∗ owns (c : Thread nD τ) arg10 fullShare (endsS Y e)) -∗ Φ ⟨⟩))
      ⊢ wp frame (wpE (defs₀ (F := F)) Variants.none c none) E (endsStep arg9 arg10) Φ := by
  unfold endsStep endsS
  iintro ⟨H9, H10, Hk⟩
  rw [wp_bind]
  iapply (wp_ld c E arg9 _ _ _ _)
  isplitl [H9]; · iexact H9
  iintro H9
  rw [wp_bind]
  iapply (wp_ld c E arg10 _ _ _ _)
  isplitl [H10]; · iexact H10
  iintro H10
  rw [wp_bind]
  iapply (wp_st c E arg10 _ _ _ _ _ _)
  isplitl [H10]; · iexact H10
  iintro H10
  rw [wp_bind]
  iapply (wp_ld c E arg9 _ _ _ _)
  isplitl [H9]; · iexact H9
  iintro H9
  rw [wp_bind]
  iapply (wp_ld c E arg10 _ _ _ _)
  isplitl [H10]; · iexact H10
  iintro H10
  iapply (wp_st c E arg10 _ _ _ _ _ _)
  isplitl [H10]; · iexact H10
  iintro H10
  iapply Hk
  isplitl [H9]; · iexact H9
  iexact H10

/-- The last step. -/
theorem wp_lastStep (arg3 : Memref sig .tc .vmem S2x512 .f32) (arg4 arg5 : Memref sig .tc .vmem S1x1026 .f32) (arg6 : Memref sig .tc .vmem S1026x1024 .bf16)
    (arg7 : Memref sig .tc .vmem S1x1024 .f32) (arg8 : Memref sig .tc .vmem S8x256 .f32) (arg9 : Memref sig .tc .vmem S2048x128 .f32)
    (arg10 : Memref sig .tc .vmem S32x128 .f32) (arg11 : Memref sig .tc .vmem S1024x1026 .bf16) (harg11 : arg11.IsWhole)
    (arg12 : Memref sig .tc .vmem S1024x1026 .f32) (arg13 : Memref sig .tc .vmem S528x1024 .f32)
    (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) (e : Vec F S32x128 .f32) (Φ : PUnit → sProp 𝕄) :
    iprop(owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare Y ∗ owns (c : Thread nD τ) arg10 fullShare e ∗ owns (c : Thread nD τ) arg11 fullShare S ∗ owns (c : Thread nD τ) arg12 fullShare A ∗ owns (c : Thread nD τ) arg13 fullShare Z ∗ (iprop(owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare (lastY X W B M G N A S Z Y) ∗ owns (c : Thread nD τ) arg10 fullShare (endsS (lastY X W B M G N A S Z Y) e) ∗ owns (c : Thread nD τ) arg11 fullShare (lastS X W B A S) ∗ owns (c : Thread nD τ) arg12 fullShare A ∗ owns (c : Thread nD τ) arg13 fullShare (lastZ X W B M G A S Z)) -∗ Φ ⟨⟩))
      ⊢ wp frame (wpE (defs₀ (F := F)) Variants.none c none) E (lastStep arg3 arg4 arg5 arg6 arg7 arg8 arg9 arg10 arg11 harg11 arg12 arg13) Φ := by
  unfold lastStep
  iintro ⟨H3, H4, H5, H6, H7, H8, H9, H10, H11, H12, H13, Hk⟩
  rw [wp_bind]
  iapply (wp_ld c E arg4 _ _ _ _)
  isplitl [H4]; · iexact H4
  iintro H4
  rw [wp_bind]
  iapply (wp_ld c E arg5 _ _ _ _)
  isplitl [H5]; · iexact H5
  iintro H5
  rw [wp_bind]
  iapply (wp_ld c E arg7 _ _ _ _)
  isplitl [H7]; · iexact H7
  iintro H7
  rw [wp_bind]
  iapply (wp_batchA c E arg3 arg11 harg11 arg12 arg6 arg13 _ _ _ _ X A _ _ M _ _)
  isplitl [H3]; · iexact H3
  isplitl [H6]; · iexact H6
  isplitl [H11]; · iexact H11
  isplitl [H12]; · iexact H12
  isplitl [H13]; · iexact H13
  iintro ⟨H3, H6, H11, H12, H13⟩
  rw [wp_bind]
  iapply (wp_batchY c E arg8 arg9 arg13 _ _ N _ _ _)
  isplitl [H8]; · iexact H8
  isplitl [H9]; · iexact H9
  isplitl [H13]; · iexact H13
  iintro ⟨H8, H9, H13⟩
  rw [wp_bind]
  iapply (wp_batchA c E arg3 arg11 harg11 arg12 arg6 arg13 _ _ _ _ X A _ _ M _ _)
  isplitl [H3]; · iexact H3
  isplitl [H6]; · iexact H6
  isplitl [H11]; · iexact H11
  isplitl [H12]; · iexact H12
  isplitl [H13]; · iexact H13
  iintro ⟨H3, H6, H11, H12, H13⟩
  rw [wp_bind]
  iapply (wp_batchY c E arg8 arg9 arg13 _ _ N _ _ _)
  isplitl [H8]; · iexact H8
  isplitl [H9]; · iexact H9
  isplitl [H13]; · iexact H13
  iintro ⟨H8, H9, H13⟩
  iapply (wp_endsStep c E arg9 arg10 _ _ _)
  isplitl [H9]; · iexact H9
  isplitl [H10]; · iexact H10
  iintro ⟨H9, H10⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end

end Cert.Kernel

end
-- ==== Proof.KB.ChB.lean ====
module

public import proofs.«01_k».proof.Proof.KB.Steps

@[expose] public section

set_option maxRecDepth 65536

noncomputable section

namespace Cert.Kernel

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_0_46 {β : Type} (k : Prog (TpuEff nD τ sig (Elt F) Λ₀ .tc) β) : (do
    let v825 : FVec F S8x128 .f32 ← k0_part26 (F := F) i arg1 harg1 arg2 harg2 arg3 harg3 arg4 harg4 arg5 harg5 arg6 harg6 arg7 harg7 arg8 harg8 arg9 harg9 arg10 harg10 arg11 harg11 arg12 harg12 arg13 harg13
    let v855 : FVec F S8x128 .f32 ← k0_part27 i arg1 harg1 arg2 harg2 arg3 harg3 arg4 harg4 arg5 harg5 arg6 harg6 arg7 harg7 arg8 harg8 arg9 harg9 arg10 harg10 arg11 harg11 arg12 harg12 arg13 harg13 v825
    let v883 : FVec F S8x128 .f32 ← k0_part28 i arg1 harg1 arg2 harg2 arg3 harg3 arg4 harg4 arg5 harg5 arg6 harg6 arg7 harg7 arg8 harg8 arg9 harg9 arg10 harg10 arg11 harg11 arg12 harg12 arg13 harg13 v855
    let v911 : FVec F S8x128 .f32 ← k0_part29 i arg1 harg1 arg2 harg2 arg3 harg3 arg4 harg4 arg5 harg5 arg6 harg6 arg7 harg7 arg8 harg8 arg9 harg9 arg10 harg10 arg11 harg11 arg12 harg12 arg13 harg13 v883
    k0_part30 i arg1 harg1 arg2 harg2 arg3 harg3 arg4 harg4 arg5 harg5 arg6 harg6 arg7 harg7 arg8 harg8 arg9 harg9 arg10 harg10 arg11 harg11 arg12 harg12 arg13 harg13 v911
    k) = (do
    blks arg8 arg9 arg13 0 (by decide) 12 46 (by decide)
    k) := rfl

/-- Printed parts, chained, are structured steps. -/
theorem chunk_0_58 {β : Type} (k : Prog (TpuEff nD τ sig (Elt F) Λ₀ .tc) β) : (do
    let v969 : FVec F S8x128 .f32 ← k0_part31 (F := F) i arg1 harg1 arg2 harg2 arg3 harg3 arg4 harg4 arg5 harg5 arg6 harg6 arg7 harg7 arg8 harg8 arg9 harg9 arg10 harg10 arg11 harg11 arg12 harg12 arg13 harg13
    let v999 : FVec F S8x128 .f32 ← k0_part32 i arg1 harg1 arg2 harg2 arg3 harg3 arg4 harg4 arg5 harg5 arg6 harg6 arg7 harg7 arg8 harg8 arg9 harg9 arg10 harg10 arg11 harg11 arg12 harg12 arg13 harg13 v969
    let v1027 : FVec F S8x128 .f32 ← k0_part33 i arg1 harg1 arg2 harg2 arg3 harg3 arg4 harg4 arg5 harg5 arg6 harg6 arg7 harg7 arg8 harg8 arg9 harg9 arg10 harg10 arg11 harg11 arg12 harg12 arg13 harg13 v999
    let v1055 : FVec F S8x128 .f32 ← k0_part34 i arg1 harg1 arg2 harg2 arg3 harg3 arg4 harg4 arg5 harg5 arg6 harg6 arg7 harg7 arg8 harg8 arg9 harg9 arg10 harg10 arg11 harg11 arg12 harg12 arg13 harg13 v1027
    k0_part35 i arg1 harg1 arg2 harg2 arg3 harg3 arg4 harg4 arg5 harg5 arg6 harg6 arg7 harg7 arg8 harg8 arg9 harg9 arg10 harg10 arg11 harg11 arg12 harg12 arg13 harg13 v1055
    k) = (do
    blks arg8 arg9 arg13 0 (by decide) 12 58 (by decide)
    k) := rfl

/-- Printed parts, chained, are structured steps. -/
theorem chunk_0_70 {β : Type} (k : Prog (TpuEff nD τ sig (Elt F) Λ₀ .tc) β) : (do
    let v1113 : FVec F S8x128 .f32 ← k0_part36 (F := F) i arg1 harg1 arg2 harg2 arg3 harg3 arg4 harg4 arg5 harg5 arg6 harg6 arg7 harg7 arg8 harg8 arg9 harg9 arg10 harg10 arg11 harg11 arg12 harg12 arg13 harg13
    let v1143 : FVec F S8x128 .f32 ← k0_part37 i arg1 harg1 arg2 harg2 arg3 harg3 arg4 harg4 arg5 harg5 arg6 harg6 arg7 harg7 arg8 harg8 arg9 harg9 arg10 harg10 arg11 harg11 arg12 harg12 arg13 harg13 v1113
    let v1171 : FVec F S8x128 .f32 ← k0_part38 i arg1 harg1 arg2 harg2 arg3 harg3 arg4 harg4 arg5 harg5 arg6 harg6 arg7 harg7 arg8 harg8 arg9 harg9 arg10 harg10 arg11 harg11 arg12 harg12 arg13 harg13 v1143
    let v1199 : FVec F S8x128 .f32 ← k0_part39 i arg1 harg1 arg2 harg2 arg3 harg3 arg4 harg4 arg5 harg5 arg6 harg6 arg7 harg7 arg8 harg8 arg9 harg9 arg10 harg10 arg11 harg11 arg12 harg12 arg13 harg13 v1171
    k0_part40 i arg1 harg1 arg2 harg2 arg3 harg3 arg4 harg4 arg5 harg5 arg6 harg6 arg7 harg7 arg8 harg8 arg9 harg9 arg10 harg10 arg11 harg11 arg12 harg12 arg13 harg13 v1199
    k) = (do
    blks arg8 arg9 arg13 0 (by decide) 12 70 (by decide)
    k) := rfl

/-- Printed parts, chained, are structured steps. -/
theorem chunk_0_82 {β : Type} (k : Prog (TpuEff nD τ sig (Elt F) Λ₀ .tc) β) : (do
    let v1257 : FVec F S8x128 .f32 ← k0_part41 (F := F) i arg1 harg1 arg2 harg2 arg3 harg3 arg4 harg4 arg5 harg5 arg6 harg6 arg7 harg7 arg8 harg8 arg9 harg9 arg10 harg10 arg11 harg11 arg12 harg12 arg13 harg13
    let v1287 : FVec F S8x128 .f32 ← k0_part42 i arg1 harg1 arg2 harg2 arg3 harg3 arg4 harg4 arg5 harg5 arg6 harg6 arg7 harg7 arg8 harg8 arg9 harg9 arg10 harg10 arg11 harg11 arg12 harg12 arg13 harg13 v1257
    let v1315 : FVec F S8x128 .f32 ← k0_part43 i arg1 harg1 arg2 harg2 arg3 harg3 arg4 harg4 arg5 harg5 arg6 harg6 arg7 harg7 arg8 harg8 arg9 harg9 arg10 harg10 arg11 harg11 arg12 harg12 arg13 harg13 v1287
    let v1343 : FVec F S8x128 .f32 ← k0_part44 i arg1 harg1 arg2 harg2 arg3 harg3 arg4 harg4 arg5 harg5 arg6 harg6 arg7 harg7 arg8 harg8 arg9 harg9 arg10 harg10 arg11 harg11 arg12 harg12 arg13 harg13 v1315
    k0_part45 i arg1 harg1 arg2 harg2 arg3 harg3 arg4 harg4 arg5 harg5 arg6 harg6 arg7 harg7 arg8 harg8 arg9 harg9 arg10 harg10 arg11 harg11 arg12 harg12 arg13 harg13 v1343
    k) = (do
    blks arg8 arg9 arg13 0 (by decide) 12 82 (by decide)
    k) := rfl

/-- Printed parts, chained, are structured steps. -/
theorem chunk_0_94 {β : Type} (k : Prog (TpuEff nD τ sig (Elt F) Λ₀ .tc) β) : (do
    let v1401 : FVec F S8x128 .f32 ← k0_part46 (F := F) i arg1 harg1 arg2 harg2 arg3 harg3 arg4 harg4 arg5 harg5 arg6 harg6 arg7 harg7 arg8 harg8 arg9 harg9 arg10 harg10 arg11 harg11 arg12 harg12 arg13 harg13
    let v1431 : FVec F S8x128 .f32 ← k0_part47 i arg1 harg1 arg2 harg2 arg3 harg3 arg4 harg4 arg5 harg5 arg6 harg6 arg7 harg7 arg8 harg8 arg9 harg9 arg10 harg10 arg11 harg11 arg12 harg12 arg13 harg13 v1401
    let v1459 : FVec F S8x128 .f32 ← k0_part48 i arg1 harg1 arg2 harg2 arg3 harg3 arg4 harg4 arg5 harg5 arg6 harg6 arg7 harg7 arg8 harg8 arg9 harg9 arg10 harg10 arg11 harg11 arg12 harg12 arg13 harg13 v1431
    let v1487 : FVec F S8x128 .f32 ← k0_part49 i arg1 harg1 arg2 harg2 arg3 harg3 arg4 harg4 arg5 harg5 arg6 harg6 arg7 harg7 arg8 harg8 arg9 harg9 arg10 harg10 arg11 harg11 arg12 harg12 arg13 harg13 v1459
    k0_part50 i arg1 harg1 arg2 harg2 arg3 harg3 arg4 harg4 arg5 harg5 arg6 harg6 arg7 harg7 arg8 harg8 arg9 harg9 arg10 harg10 arg11 harg11 arg12 harg12 arg13 harg13 v1487
    k) = (do
    blks arg8 arg9 arg13 0 (by decide) 12 94 (by decide)
    k) := rfl

/-- Printed parts, chained, are structured steps. -/
theorem chunk_0_106 {β : Type} (k : Prog (TpuEff nD τ sig (Elt F) Λ₀ .tc) β) : (do
    let v1545 : FVec F S8x128 .f32 ← k0_part51 (F := F) i arg1 harg1 arg2 harg2 arg3 harg3 arg4 harg4 arg5 harg5 arg6 harg6 arg7 harg7 arg8 harg8 arg9 harg9 arg10 harg10 arg11 harg11 arg12 harg12 arg13 harg13
    let v1575 : FVec F S8x128 .f32 ← k0_part52 i arg1 harg1 arg2 harg2 arg3 harg3 arg4 harg4 arg5 harg5 arg6 harg6 arg7 harg7 arg8 harg8 arg9 harg9 arg10 harg10 arg11 harg11 arg12 harg12 arg13 harg13 v1545
    let v1603 : FVec F S8x128 .f32 ← k0_part53 i arg1 harg1 arg2 harg2 arg3 harg3 arg4 harg4 arg5 harg5 arg6 harg6 arg7 harg7 arg8 harg8 arg9 harg9 arg10 harg10 arg11 harg11 arg12 harg12 arg13 harg13 v1575
    let v1631 : FVec F S8x128 .f32 ← k0_part54 i arg1 harg1 arg2 harg2 arg3 harg3 arg4 harg4 arg5 harg5 arg6 harg6 arg7 harg7 arg8 harg8 arg9 harg9 arg10 harg10 arg11 harg11 arg12 harg12 arg13 harg13 v1603
    k0_part55 i arg1 harg1 arg2 harg2 arg3 harg3 arg4 harg4 arg5 harg5 arg6 harg6 arg7 harg7 arg8 harg8 arg9 harg9 arg10 harg10 arg11 harg11 arg12 harg12 arg13 harg13 v1631
    k) = (do
    blks arg8 arg9 arg13 0 (by decide) 12 106 (by decide)
    k) := rfl

end

end Cert.Kernel

end
-- ==== Proof.KB.ChC.lean ====
module

public import proofs.«01_k».proof.Proof.KB.Steps

@[expose] public section

set_option maxRecDepth 65536

noncomputable section

namespace Cert.Kernel

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_1_5 {β : Type} (k : Prog (TpuEff nD τ sig (Elt F) Λ₀ .tc) β) : (do
    let v2127 : FVec F S8x128 .f32 ← k0_part69 (F := F) i arg1 harg1 arg2 harg2 arg3 harg3 arg4 harg4 arg5 harg5 arg6 harg6 arg7 harg7 arg8 harg8 arg9 harg9 arg10 harg10 arg11 harg11 arg12 harg12 arg13 harg13
    let v2157 : FVec F S8x128 .f32 ← k0_part70 i arg1 harg1 arg2 harg2 arg3 harg3 arg4 harg4 arg5 harg5 arg6 harg6 arg7 harg7 arg8 harg8 arg9 harg9 arg10 harg10 arg11 harg11 arg12 harg12 arg13 harg13 v2127
    let p71 ← k0_part71 i arg1 harg1 arg2 harg2 arg3 harg3 arg4 harg4 arg5 harg5 arg6 harg6 arg7 harg7 arg8 harg8 arg9 harg9 arg10 harg10 arg11 harg11 arg12 harg12 arg13 harg13 v2157
    let v2213 : FVec F S8x128 .f32 ← k0_part72 i arg1 harg1 arg2 harg2 arg3 harg3 arg4 harg4 arg5 harg5 arg6 harg6 arg7 harg7 arg8 harg8 arg9 harg9 arg10 harg10 arg11 harg11 arg12 harg12 arg13 harg13 p71.1 p71.2
    k0_part73 i arg1 harg1 arg2 harg2 arg3 harg3 arg4 harg4 arg5 harg5 arg6 harg6 arg7 harg7 arg8 harg8 arg9 harg9 arg10 harg10 arg11 harg11 arg12 harg12 arg13 harg13 v2213
    k) = (do
    blks arg8 arg9 arg13 1 (by decide) 12 5 (by decide)
    k) := rfl

/-- Printed parts, chained, are structured steps. -/
theorem chunk_1_17 {β : Type} (k : Prog (TpuEff nD τ sig (Elt F) Λ₀ .tc) β) : (do
    let v2271 : FVec F S8x128 .f32 ← k0_part74 (F := F) i arg1 harg1 arg2 harg2 arg3 harg3 arg4 harg4 arg5 harg5 arg6 harg6 arg7 harg7 arg8 harg8 arg9 harg9 arg10 harg10 arg11 harg11 arg12 harg12 arg13 harg13
    let v2301 : FVec F S8x128 .f32 ← k0_part75 i arg1 harg1 arg2 harg2 arg3 harg3 arg4 harg4 arg5 harg5 arg6 harg6 arg7 harg7 arg8 harg8 arg9 harg9 arg10 harg10 arg11 harg11 arg12 harg12 arg13 harg13 v2271
    let p76 ← k0_part76 i arg1 harg1 arg2 harg2 arg3 harg3 arg4 harg4 arg5 harg5 arg6 harg6 arg7 harg7 arg8 harg8 arg9 harg9 arg10 harg10 arg11 harg11 arg12 harg12 arg13 harg13 v2301
    let v2357 : FVec F S8x128 .f32 ← k0_part77 i arg1 harg1 arg2 harg2 arg3 harg3 arg4 harg4 arg5 harg5 arg6 harg6 arg7 harg7 arg8 harg8 arg9 harg9 arg10 harg10 arg11 harg11 arg12 harg12 arg13 harg13 p76.1 p76.2
    k0_part78 i arg1 harg1 arg2 harg2 arg3 harg3 arg4 harg4 arg5 harg5 arg6 harg6 arg7 harg7 arg8 harg8 arg9 harg9 arg10 harg10 arg11 harg11 arg12 harg12 arg13 harg13 v2357
    k) = (do
    blks arg8 arg9 arg13 1 (by decide) 12 17 (by decide)
    k) := rfl

/-- Printed parts, chained, are structured steps. -/
theorem chunk_1_29 {β : Type} (k : Prog (TpuEff nD τ sig (Elt F) Λ₀ .tc) β) : (do
    let v2415 : FVec F S8x128 .f32 ← k0_part79 (F := F) i arg1 harg1 arg2 harg2 arg3 harg3 arg4 harg4 arg5 harg5 arg6 harg6 arg7 harg7 arg8 harg8 arg9 harg9 arg10 harg10 arg11 harg11 arg12 harg12 arg13 harg13
    let v2445 : FVec F S8x128 .f32 ← k0_part80 i arg1 harg1 arg2 harg2 arg3 harg3 arg4 harg4 arg5 harg5 arg6 harg6 arg7 harg7 arg8 harg8 arg9 harg9 arg10 harg10 arg11 harg11 arg12 harg12 arg13 harg13 v2415
    let p81 ← k0_part81 i arg1 harg1 arg2 harg2 arg3 harg3 arg4 harg4 arg5 harg5 arg6 harg6 arg7 harg7 arg8 harg8 arg9 harg9 arg10 harg10 arg11 harg11 arg12 harg12 arg13 harg13 v2445
    let v2501 : FVec F S8x128 .f32 ← k0_part82 i arg1 harg1 arg2 harg2 arg3 harg3 arg4 harg4 arg5 harg5 arg6 harg6 arg7 harg7 arg8 harg8 arg9 harg9 arg10 harg10 arg11 harg11 arg12 harg12 arg13 harg13 p81.1 p81.2
    k0_part83 i arg1 harg1 arg2 harg2 arg3 harg3 arg4 harg4 arg5 harg5 arg6 harg6 arg7 harg7 arg8 harg8 arg9 harg9 arg10 harg10 arg11 harg11 arg12 harg12 arg13 harg13 v2501
    k) = (do
    blks arg8 arg9 arg13 1 (by decide) 12 29 (by decide)
    k) := rfl

/-- Printed parts, chained, are structured steps. -/
theorem chunk_1_41 {β : Type} (k : Prog (TpuEff nD τ sig (Elt F) Λ₀ .tc) β) : (do
    let v2559 : FVec F S8x128 .f32 ← k0_part84 (F := F) i arg1 harg1 arg2 harg2 arg3 harg3 arg4 harg4 arg5 harg5 arg6 harg6 arg7 harg7 arg8 harg8 arg9 harg9 arg10 harg10 arg11 harg11 arg12 harg12 arg13 harg13
    let v2589 : FVec F S8x128 .f32 ← k0_part85 i arg1 harg1 arg2 harg2 arg3 harg3 arg4 harg4 arg5 harg5 arg6 harg6 arg7 harg7 arg8 harg8 arg9 harg9 arg10 harg10 arg11 harg11 arg12 harg12 arg13 harg13 v2559
    let p86 ← k0_part86 i arg1 harg1 arg2 harg2 arg3 harg3 arg4 harg4 arg5 harg5 arg6 harg6 arg7 harg7 arg8 harg8 arg9 harg9 arg10 harg10 arg11 harg11 arg12 harg12 arg13 harg13 v2589
    let v2645 : FVec F S8x128 .f32 ← k0_part87 i arg1 harg1 arg2 harg2 arg3 harg3 arg4 harg4 arg5 harg5 arg6 harg6 arg7 harg7 arg8 harg8 arg9 harg9 arg10 harg10 arg11 harg11 arg12 harg12 arg13 harg13 p86.1 p86.2
    k0_part88 i arg1 harg1 arg2 harg2 arg3 harg3 arg4 harg4 arg5 harg5 arg6 harg6 arg7 harg7 arg8 harg8 arg9 harg9 arg10 harg10 arg11 harg11 arg12 harg12 arg13 harg13 v2645
    k) = (do
    blks arg8 arg9 arg13 1 (by decide) 12 41 (by decide)
    k) := rfl

/-- Printed parts, chained, are structured steps. -/
theorem chunk_1_53 {β : Type} (k : Prog (TpuEff nD τ sig (Elt F) Λ₀ .tc) β) : (do
    let v2703 : FVec F S8x128 .f32 ← k0_part89 (F := F) i arg1 harg1 arg2 harg2 arg3 harg3 arg4 harg4 arg5 harg5 arg6 harg6 arg7 harg7 arg8 harg8 arg9 harg9 arg10 harg10 arg11 harg11 arg12 harg12 arg13 harg13
    let v2733 : FVec F S8x128 .f32 ← k0_part90 i arg1 harg1 arg2 harg2 arg3 harg3 arg4 harg4 arg5 harg5 arg6 harg6 arg7 harg7 arg8 harg8 arg9 harg9 arg10 harg10 arg11 harg11 arg12 harg12 arg13 harg13 v2703
    let p91 ← k0_part91 i arg1 harg1 arg2 harg2 arg3 harg3 arg4 harg4 arg5 harg5 arg6 harg6 arg7 harg7 arg8 harg8 arg9 harg9 arg10 harg10 arg11 harg11 arg12 harg12 arg13 harg13 v2733
    let v2789 : FVec F S8x128 .f32 ← k0_part92 i arg1 harg1 arg2 harg2 arg3 harg3 arg4 harg4 arg5 harg5 arg6 harg6 arg7 harg7 arg8 harg8 arg9 harg9 arg10 harg10 arg11 harg11 arg12 harg12 arg13 harg13 p91.1 p91.2
    k0_part93 i arg1 harg1 arg2 harg2 arg3 harg3 arg4 harg4 arg5 harg5 arg6 harg6 arg7 harg7 arg8 harg8 arg9 harg9 arg10 harg10 arg11 harg11 arg12 harg12 arg13 harg13 v2789
    k) = (do
    blks arg8 arg9 arg13 1 (by decide) 12 53 (by decide)
    k) := rfl

end

end Cert.Kernel

end
-- ==== Proof.KB.ChD.lean ====
module

public import proofs.«01_k».proof.Proof.KB.Steps

@[expose] public section

set_option maxRecDepth 65536

noncomputable section

namespace Cert.Kernel

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_1_65 {β : Type} (k : Prog (TpuEff nD τ sig (Elt F) Λ₀ .tc) β) : (do
    let v2847 : FVec F S8x128 .f32 ← k0_part94 (F := F) i arg1 harg1 arg2 harg2 arg3 harg3 arg4 harg4 arg5 harg5 arg6 harg6 arg7 harg7 arg8 harg8 arg9 harg9 arg10 harg10 arg11 harg11 arg12 harg12 arg13 harg13
    let v2877 : FVec F S8x128 .f32 ← k0_part95 i arg1 harg1 arg2 harg2 arg3 harg3 arg4 harg4 arg5 harg5 arg6 harg6 arg7 harg7 arg8 harg8 arg9 harg9 arg10 harg10 arg11 harg11 arg12 harg12 arg13 harg13 v2847
    let p96 ← k0_part96 i arg1 harg1 arg2 harg2 arg3 harg3 arg4 harg4 arg5 harg5 arg6 harg6 arg7 harg7 arg8 harg8 arg9 harg9 arg10 harg10 arg11 harg11 arg12 harg12 arg13 harg13 v2877
    let v2933 : FVec F S8x128 .f32 ← k0_part97 i arg1 harg1 arg2 harg2 arg3 harg3 arg4 harg4 arg5 harg5 arg6 harg6 arg7 harg7 arg8 harg8 arg9 harg9 arg10 harg10 arg11 harg11 arg12 harg12 arg13 harg13 p96.1 p96.2
    k0_part98 i arg1 harg1 arg2 harg2 arg3 harg3 arg4 harg4 arg5 harg5 arg6 harg6 arg7 harg7 arg8 harg8 arg9 harg9 arg10 harg10 arg11 harg11 arg12 harg12 arg13 harg13 v2933
    k) = (do
    blks arg8 arg9 arg13 1 (by decide) 12 65 (by decide)
    k) := rfl

/-- Printed parts, chained, are structured steps. -/
theorem chunk_1_77 {β : Type} (k : Prog (TpuEff nD τ sig (Elt F) Λ₀ .tc) β) : (do
    let v2991 : FVec F S8x128 .f32 ← k0_part99 (F := F) i arg1 harg1 arg2 harg2 arg3 harg3 arg4 harg4 arg5 harg5 arg6 harg6 arg7 harg7 arg8 harg8 arg9 harg9 arg10 harg10 arg11 harg11 arg12 harg12 arg13 harg13
    let v3021 : FVec F S8x128 .f32 ← k0_part100 i arg1 harg1 arg2 harg2 arg3 harg3 arg4 harg4 arg5 harg5 arg6 harg6 arg7 harg7 arg8 harg8 arg9 harg9 arg10 harg10 arg11 harg11 arg12 harg12 arg13 harg13 v2991
    let p101 ← k0_part101 i arg1 harg1 arg2 harg2 arg3 harg3 arg4 harg4 arg5 harg5 arg6 harg6 arg7 harg7 arg8 harg8 arg9 harg9 arg10 harg10 arg11 harg11 arg12 harg12 arg13 harg13 v3021
    let v3077 : FVec F S8x128 .f32 ← k0_part102 i arg1 harg1 arg2 harg2 arg3 harg3 arg4 harg4 arg5 harg5 arg6 harg6 arg7 harg7 arg8 harg8 arg9 harg9 arg10 harg10 arg11 harg11 arg12 harg12 arg13 harg13 p101.1 p101.2
    k0_part103 i arg1 harg1 arg2 harg2 arg3 harg3 arg4 harg4 arg5 harg5 arg6 harg6 arg7 harg7 arg8 harg8 arg9 harg9 arg10 harg10 arg11 harg11 arg12 harg12 arg13 harg13 v3077
    k) = (do
    blks arg8 arg9 arg13 1 (by decide) 12 77 (by decide)
    k) := rfl

/-- Printed parts, chained, are structured steps. -/
theorem chunk_1_89 {β : Type} (k : Prog (TpuEff nD τ sig (Elt F) Λ₀ .tc) β) : (do
    let v3135 : FVec F S8x128 .f32 ← k0_part104 (F := F) i arg1 harg1 arg2 harg2 arg3 harg3 arg4 harg4 arg5 harg5 arg6 harg6 arg7 harg7 arg8 harg8 arg9 harg9 arg10 harg10 arg11 harg11 arg12 harg12 arg13 harg13
    let v3165 : FVec F S8x128 .f32 ← k0_part105 i arg1 harg1 arg2 harg2 arg3 harg3 arg4 harg4 arg5 harg5 arg6 harg6 arg7 harg7 arg8 harg8 arg9 harg9 arg10 harg10 arg11 harg11 arg12 harg12 arg13 harg13 v3135
    let p106 ← k0_part106 i arg1 harg1 arg2 harg2 arg3 harg3 arg4 harg4 arg5 harg5 arg6 harg6 arg7 harg7 arg8 harg8 arg9 harg9 arg10 harg10 arg11 harg11 arg12 harg12 arg13 harg13 v3165
    let v3221 : FVec F S8x128 .f32 ← k0_part107 i arg1 harg1 arg2 harg2 arg3 harg3 arg4 harg4 arg5 harg5 arg6 harg6 arg7 harg7 arg8 harg8 arg9 harg9 arg10 harg10 arg11 harg11 arg12 harg12 arg13 harg13 p106.1 p106.2
    k0_part108 i arg1 harg1 arg2 harg2 arg3 harg3 arg4 harg4 arg5 harg5 arg6 harg6 arg7 harg7 arg8 harg8 arg9 harg9 arg10 harg10 arg11 harg11 arg12 harg12 arg13 harg13 v3221
    k) = (do
    blks arg8 arg9 arg13 1 (by decide) 12 89 (by decide)
    k) := rfl

/-- Printed parts, chained, are structured steps. -/
theorem chunk_1_101 {β : Type} (k : Prog (TpuEff nD τ sig (Elt F) Λ₀ .tc) β) : (do
    let v3279 : FVec F S8x128 .f32 ← k0_part109 (F := F) i arg1 harg1 arg2 harg2 arg3 harg3 arg4 harg4 arg5 harg5 arg6 harg6 arg7 harg7 arg8 harg8 arg9 harg9 arg10 harg10 arg11 harg11 arg12 harg12 arg13 harg13
    let v3309 : FVec F S8x128 .f32 ← k0_part110 i arg1 harg1 arg2 harg2 arg3 harg3 arg4 harg4 arg5 harg5 arg6 harg6 arg7 harg7 arg8 harg8 arg9 harg9 arg10 harg10 arg11 harg11 arg12 harg12 arg13 harg13 v3279
    let p111 ← k0_part111 i arg1 harg1 arg2 harg2 arg3 harg3 arg4 harg4 arg5 harg5 arg6 harg6 arg7 harg7 arg8 harg8 arg9 harg9 arg10 harg10 arg11 harg11 arg12 harg12 arg13 harg13 v3309
    let v3365 : FVec F S8x128 .f32 ← k0_part112 i arg1 harg1 arg2 harg2 arg3 harg3 arg4 harg4 arg5 harg5 arg6 harg6 arg7 harg7 arg8 harg8 arg9 harg9 arg10 harg10 arg11 harg11 arg12 harg12 arg13 harg13 p111.1 p111.2
    k0_part113 i arg1 harg1 arg2 harg2 arg3 harg3 arg4 harg4 arg5 harg5 arg6 harg6 arg7 harg7 arg8 harg8 arg9 harg9 arg10 harg10 arg11 harg11 arg12 harg12 arg13 harg13 v3365
    k) = (do
    blks arg8 arg9 arg13 1 (by decide) 12 101 (by decide)
    k) := rfl

/-- Printed parts, chained, are structured steps. -/
theorem chunk_1_113 {β : Type} (k : Prog (TpuEff nD τ sig (Elt F) Λ₀ .tc) β) : (do
    let v3423 : FVec F S8x128 .f32 ← k0_part114 (F := F) i arg1 harg1 arg2 harg2 arg3 harg3 arg4 harg4 arg5 harg5 arg6 harg6 arg7 harg7 arg8 harg8 arg9 harg9 arg10 harg10 arg11 harg11 arg12 harg12 arg13 harg13
    let v3453 : FVec F S8x128 .f32 ← k0_part115 i arg1 harg1 arg2 harg2 arg3 harg3 arg4 harg4 arg5 harg5 arg6 harg6 arg7 harg7 arg8 harg8 arg9 harg9 arg10 harg10 arg11 harg11 arg12 harg12 arg13 harg13 v3423
    let p116 ← k0_part116 i arg1 harg1 arg2 harg2 arg3 harg3 arg4 harg4 arg5 harg5 arg6 harg6 arg7 harg7 arg8 harg8 arg9 harg9 arg10 harg10 arg11 harg11 arg12 harg12 arg13 harg13 v3453
    let v3509 : FVec F S8x128 .f32 ← k0_part117 i arg1 harg1 arg2 harg2 arg3 harg3 arg4 harg4 arg5 harg5 arg6 harg6 arg7 harg7 arg8 harg8 arg9 harg9 arg10 harg10 arg11 harg11 arg12 harg12 arg13 harg13 p116.1 p116.2
    k0_part118 i arg1 harg1 arg2 harg2 arg3 harg3 arg4 harg4 arg5 harg5 arg6 harg6 arg7 harg7 arg8 harg8 arg9 harg9 arg10 harg10 arg11 harg11 arg12 harg12 arg13 harg13 v3509
    k) = (do
    blks arg8 arg9 arg13 1 (by decide) 12 113 (by decide)
    k) := rfl

/-- Printed parts, chained, are structured steps. -/
theorem chunk_last  : (do
    let v3567 : FVec F S5x128 .f32 ← k0_part119 (F := F) i arg1 harg1 arg2 harg2 arg3 harg3 arg4 harg4 arg5 harg5 arg6 harg6 arg7 harg7 arg8 harg8 arg9 harg9 arg10 harg10 arg11 harg11 arg12 harg12 arg13 harg13
    let v3595 : FVec F S1x128 .f32 ← k0_part120 i arg1 harg1 arg2 harg2 arg3 harg3 arg4 harg4 arg5 harg5 arg6 harg6 arg7 harg7 arg8 harg8 arg9 harg9 arg10 harg10 arg11 harg11 arg12 harg12 arg13 harg13 v3567
    let v3596 : Vec F S1x128 .f32 ← Prog.lift (.load arg9 (⟨![2045, 0], S1x128.size, ![4, 1], inb_S2048x128_S1x128_2045_0_s_4_1⟩ : LoadRect S2048x128) (View.loadsAt_vmem h_S1x128))
    Prog.lift (.store arg9 ⟨(⟨![2045, 0], S1x128.size, ![4, 1], inb_S2048x128_S1x128_2045_0_s_4_1⟩ : LoadRect S2048x128), spos_4_1⟩ v3595 Finset.univ (View.stores_vmem_bits_univ h_S1x128 rfl) (.inl rfl))
    let v3597 : Vec F S1x128 .f32 ← Prog.lift (.load arg13 (Rect.unit (s := S528x1024) ![521, 0] S1x128.size inb_S528x1024_S1x128_521_0).toLoadRect (View.loadsAt_vmem h_S1x128))
    let v3598 : Vec F S1x128 .f32 ← Prog.lift (.load arg13 (Rect.unit (s := S528x1024) ![520, 256] S1x128.size inb_S528x1024_S1x128_520_256).toLoadRect (View.loadsAt_vmem h_S1x128))
    let v3600 : Vec F S1x128 .f32 ← Prog.lift (.load arg13 (Rect.unit (s := S528x1024) ![519, 512] S1x128.size inb_S528x1024_S1x128_519_512).toLoadRect (View.loadsAt_vmem h_S1x128))
    let v3602 : Vec F S1x128 .f32 ← Prog.lift (.load arg13 (Rect.unit (s := S528x1024) ![518, 768] S1x128.size inb_S528x1024_S1x128_518_768).toLoadRect (View.loadsAt_vmem h_S1x128))
    let v3604 : Vec F S1x128 .f32 ← Prog.lift (.load arg8 (Rect.unit (s := S8x256) ![5, 0] S1x128.size inb_S8x256_S1x128_5_0).toLoadRect (View.loadsAt_vmem h_S1x128))
    let v3607 : Vec F S1x128 .f32 ← Prog.lift (.load arg9 (⟨![2047, 0], S1x128.size, ![4, 1], inb_S2048x128_S1x128_2047_0_s_4_1⟩ : LoadRect S2048x128) (View.loadsAt_vmem h_S1x128))
    Prog.lift (.store arg9 ⟨(⟨![2047, 0], S1x128.size, ![4, 1], inb_S2048x128_S1x128_2047_0_s_4_1⟩ : LoadRect S2048x128), spos_4_1⟩ (k0_pay4 v3597 v3598 v3600 v3602 v3604) Finset.univ (View.stores_vmem_bits_univ h_S1x128 rfl) (.inl rfl))
    let v3608 : Vec F S16x128 .f32 ← Prog.lift (.load arg9 (Rect.unit (s := S2048x128) ![0, 0] S16x128.size inb_S2048x128_S16x128_0_0).toLoadRect (View.loadsAt_vmem h_S16x128))
    let v3610 : Vec F S16x128 .f32 ← Prog.lift (.load arg10 (Rect.unit (s := S32x128) ![0, 0] S16x128.size inb_S32x128_S16x128_0_0).toLoadRect (View.loadsAt_vmem h_S16x128))
    Prog.lift (.store arg10 (Rect.unit (s := S32x128) ![0, 0] S16x128.size inb_S32x128_S16x128_0_0) (k0_pay5 v3608) Finset.univ (View.stores_vmem_bits_univ h_S16x128 rfl) (.inl rfl))
    let v3611 : Vec F S16x128 .f32 ← Prog.lift (.load arg9 (Rect.unit (s := S2048x128) ![2032, 0] S16x128.size inb_S2048x128_S16x128_2032_0).toLoadRect (View.loadsAt_vmem h_S16x128))
    let v3613 : Vec F S16x128 .f32 ← Prog.lift (.load arg10 (Rect.unit (s := S32x128) ![16, 0] S16x128.size inb_S32x128_S16x128_16_0).toLoadRect (View.loadsAt_vmem h_S16x128))
    Prog.lift (.store arg10 (Rect.unit (s := S32x128) ![16, 0] S16x128.size inb_S32x128_S16x128_16_0) (k0_pay6 v3611) Finset.univ (View.stores_vmem_bits_univ h_S16x128 rfl) (.inl rfl))
    pure ⟨⟩) = (do
    blks arg8 arg9 arg13 1 (by decide) 1 125 (by decide)
    blk arg8 arg9 arg13 5 (by decide) spread5 515 0 3 (2022 + 1) (by decide) (by decide) (by decide) (by decide)
    blk arg8 arg9 arg13 5 (by decide) spread5 515 128 3 (2024 + 1) (by decide) (by decide) (by decide) (by decide)
    blk arg8 arg9 arg13 1 (by decide) spread1 520 0 4 (2042 + 1) (by decide) (by decide) (by decide) (by decide)
    blk arg8 arg9 arg13 1 (by decide) spread1 520 128 4 (2044 + 1) (by decide) (by decide) (by decide) (by decide)
    blk arg8 arg9 arg13 1 (by decide) spread1 521 0 5 (2046 + 1) (by decide) (by decide) (by decide) (by decide)
    endsStep arg9 arg10) := rfl

end

end Cert.Kernel

end
-- ==== Proof.KB.ChM.lean ====
module

public import proofs.«01_k».proof.Proof.KB.Steps

@[expose] public section

set_option maxRecDepth 65536

noncomputable section

namespace Cert.Kernel

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_mid {β : Type} (k : Prog (TpuEff nD τ sig (Elt F) Λ₀ .tc) β) (v14 v16 : FVec F S1x1026 .f32) (v18 : FVec F S1x1024 .f32) : (do
    let v1689 : FVec F S8x128 .f32 ← k0_part56 (F := F) i arg1 harg1 arg2 harg2 arg3 harg3 arg4 harg4 arg5 harg5 arg6 harg6 arg7 harg7 arg8 harg8 arg9 harg9 arg10 harg10 arg11 harg11 arg12 harg12 arg13 harg13
    let v1719 : FVec F S8x128 .f32 ← k0_part57 i arg1 harg1 arg2 harg2 arg3 harg3 arg4 harg4 arg5 harg5 arg6 harg6 arg7 harg7 arg8 harg8 arg9 harg9 arg10 harg10 arg11 harg11 arg12 harg12 arg13 harg13 v1689
    let v1747 : FVec F S8x128 .f32 ← k0_part58 i arg1 harg1 arg2 harg2 arg3 harg3 arg4 harg4 arg5 harg5 arg6 harg6 arg7 harg7 arg8 harg8 arg9 harg9 arg10 harg10 arg11 harg11 arg12 harg12 arg13 harg13 v1719
    let v1775 : FVec F S5x128 .f32 ← k0_part59 i arg1 harg1 arg2 harg2 arg3 harg3 arg4 harg4 arg5 harg5 arg6 harg6 arg7 harg7 arg8 harg8 arg9 harg9 arg10 harg10 arg11 harg11 arg12 harg12 arg13 harg13 v1747
    let v1803 : Vec F S1x128 .f32 ← k0_part60 i arg1 harg1 arg2 harg2 arg3 harg3 arg4 harg4 arg5 harg5 arg6 harg6 arg7 harg7 arg8 harg8 arg9 harg9 arg10 harg10 arg11 harg11 arg12 harg12 arg13 harg13 v1775
    let p61 ← k0_part61 i arg1 harg1 arg2 harg2 arg3 harg3 arg4 harg4 arg5 harg5 arg6 harg6 arg7 harg7 arg8 harg8 arg9 harg9 arg10 harg10 arg11 harg11 arg12 harg12 arg13 harg13 v14 v16 (k0_pay10 (F := F)) v1803
    let p62 ← k0_part62 i arg1 harg1 arg2 harg2 arg3 harg3 arg4 harg4 arg5 harg5 arg6 harg6 arg7 harg7 arg8 harg8 arg9 harg9 arg10 harg10 arg11 harg11 arg12 harg12 arg13 harg13 v14 v16 p61.1 p61.2
    let v1911 : FVec F S128x128 .f32 ← k0_part63 i arg1 harg1 arg2 harg2 arg3 harg3 arg4 harg4 arg5 harg5 arg6 harg6 arg7 harg7 arg8 harg8 arg9 harg9 arg10 harg10 arg11 harg11 arg12 harg12 arg13 harg13 v14 v16 p62.1 p62.2
    let v1955 : FVec F S128x128 .f32 ← k0_part64 i arg1 harg1 arg2 harg2 arg3 harg3 arg4 harg4 arg5 harg5 arg6 harg6 arg7 harg7 arg8 harg8 arg9 harg9 arg10 harg10 arg11 harg11 arg12 harg12 arg13 harg13 v14 v16 v1911
    let p65 ← k0_part65 i arg1 harg1 arg2 harg2 arg3 harg3 arg4 harg4 arg5 harg5 arg6 harg6 arg7 harg7 arg8 harg8 arg9 harg9 arg10 harg10 arg11 harg11 arg12 harg12 arg13 harg13 v14 v16 v18 v1955
    let p66 ← k0_part66 i arg1 harg1 arg2 harg2 arg3 harg3 arg4 harg4 arg5 harg5 arg6 harg6 arg7 harg7 arg8 harg8 arg9 harg9 arg10 harg10 arg11 harg11 arg12 harg12 arg13 harg13 p65.1 p65.2
    let v2069 : FVec F S8x128 .f32 ← k0_part67 i arg1 harg1 arg2 harg2 arg3 harg3 arg4 harg4 arg5 harg5 arg6 harg6 arg7 harg7 arg8 harg8 arg9 harg9 arg10 harg10 arg11 harg11 arg12 harg12 arg13 harg13 p66.1 p66.2
    k0_part68 i arg1 harg1 arg2 harg2 arg3 harg3 arg4 harg4 arg5 harg5 arg6 harg6 arg7 harg7 arg8 harg8 arg9 harg9 arg10 harg10 arg11 harg11 arg12 harg12 arg13 harg13 v2069
    k) = (do
    blks arg8 arg9 arg13 0 (by decide) 8 118 (by decide)
    blk arg8 arg9 arg13 5 (by decide) spread5 515 0 3 (2022 + 0) (by decide) (by decide) (by decide) (by decide)
    blk arg8 arg9 arg13 5 (by decide) spread5 515 128 3 (2024 + 0) (by decide) (by decide) (by decide) (by decide)
    blk arg8 arg9 arg13 1 (by decide) spread1 520 0 4 (2042 + 0) (by decide) (by decide) (by decide) (by decide)
    blk arg8 arg9 arg13 1 (by decide) spread1 520 128 4 (2044 + 0) (by decide) (by decide) (by decide) (by decide)
    blk arg8 arg9 arg13 1 (by decide) spread1 521 0 5 (2046 + 0) (by decide) (by decide) (by decide) (by decide)
    batchA arg3 arg6 arg11 harg11 arg12 arg13 1 (by decide) v14 v16 v18
    blk arg8 arg9 arg13 1 (by decide) spread1 9 128 1 (0 + 1) (by decide) (by decide) (by decide) (by decide)
    blk arg8 arg9 arg13 1 (by decide) spread1 10 0 2 (2 + 1) (by decide) (by decide) (by decide) (by decide)
    blk arg8 arg9 arg13 1 (by decide) spread1 10 128 2 (4 + 1) (by decide) (by decide) (by decide) (by decide)
    blks arg8 arg9 arg13 1 (by decide) 5 0 (by decide)
    k) := rfl

end

end Cert.Kernel

end
-- ==== Proof.KB.ChA.lean ====
module

public import proofs.«01_k».proof.Proof.KB.Steps

@[expose] public section

set_option maxRecDepth 65536

noncomputable section

namespace Cert.Kernel

open Idealize.ShloMosaic Idealize.SL.Sem Gen

variable {F : FTy → Type} [FloatOps F]

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

set_option maxHeartbeats 0
/-- Printed parts, chained, are structured steps. -/
theorem chunk_first {β : Type} (k : FVec F S1x1026 .f32 → FVec F S1x1026 .f32 → FVec F S1x1024 .f32 → FVec F S8x1024 .f32 → Prog (TpuEff nD τ sig (Elt F) Λ₀ .tc) β) : (do
    let p1 ← k0_part1 (F := F) i arg1 harg1 arg2 harg2 arg3 harg3 arg4 harg4 arg5 harg5 arg6 harg6 arg7 harg7 arg8 harg8 arg9 harg9 arg10 harg10 arg11 harg11 arg12 harg12 arg13 harg13
    let p2 ← k0_part2 i arg1 harg1 arg2 harg2 arg3 harg3 arg4 harg4 arg5 harg5 arg6 harg6 arg7 harg7 arg8 harg8 arg9 harg9 arg10 harg10 arg11 harg11 arg12 harg12 arg13 harg13 p1.1 p1.2.1 p1.2.2.2.2
    let v141 : FVec F S64x1026 .f32 ← k0_part3 i arg1 harg1 arg2 harg2 arg3 harg3 arg4 harg4 arg5 harg5 arg6 harg6 arg7 harg7 arg8 harg8 arg9 harg9 arg10 harg10 arg11 harg11 arg12 harg12 arg13 harg13 p1.1 p1.2.1 p2.1 p2.2
    let v187 : FVec F S64x1026 .f32 ← k0_part4 i arg1 harg1 arg2 harg2 arg3 harg3 arg4 harg4 arg5 harg5 arg6 harg6 arg7 harg7 arg8 harg8 arg9 harg9 arg10 harg10 arg11 harg11 arg12 harg12 arg13 harg13 p1.1 p1.2.1 v141
    k0_part5 i arg1 harg1 arg2 harg2 arg3 harg3 arg4 harg4 arg5 harg5 arg6 harg6 arg7 harg7 arg8 harg8 arg9 harg9 arg10 harg10 arg11 harg11 arg12 harg12 arg13 harg13 p1.2.1 p1.2.2.1 v187
    k p1.1 p1.2.1 p1.2.2.1 p1.2.2.2.1) = (do
    let w : Vec F S1x1026 .f32 ← Prog.lift (.load arg4 (Rect.unit (s := S1x1026) ![0, 0] S1x1026.size inb_S1x1026_S1x1026_0_0).toLoadRect (View.loadsAt_vmem h_S1x1026))
    let b : Vec F S1x1026 .f32 ← Prog.lift (.load arg5 (Rect.unit (s := S1x1026) ![0, 0] S1x1026.size inb_S1x1026_S1x1026_0_0).toLoadRect (View.loadsAt_vmem h_S1x1026))
    let g : Vec F S1x1024 .f32 ← Prog.lift (.load arg7 (Rect.unit (s := S1x1024) ![0, 0] S1x1024.size inb_S1x1024_S1x1024_0_0).toLoadRect (View.loadsAt_vmem h_S1x1024))
    batchA arg3 arg6 arg11 harg11 arg12 arg13 0 (by decide) (k0_pay7 w) (k0_pay8 b) (k0_pay9 g)
    blk arg8 arg9 arg13 1 (by decide) spread1 9 128 1 (0 + 0) (by decide) (by decide) (by decide) (by decide)
    k (k0_pay7 w) (k0_pay8 b) (k0_pay9 g) (k0_pay10 (F := F))) := rfl

/-- The first printed parts, what follows them reading all they return but the last. -/
theorem chunk_first_of {β : Type} (k : (Σ' (_ : FVec F S1x1026 .f32) (_ : FVec F S1x1026 .f32) (_ : FVec F S1x1024 .f32) (_ : FVec F S8x1024 .f32), FVec F S128x128 .f32) → Prog (TpuEff nD τ sig (Elt F) Λ₀ .tc) β)
    (z : FVec F S128x128 .f32) (hk : ∀ p, k p = k ⟨p.1, p.2.1, p.2.2.1, p.2.2.2.1, z⟩) : (do
    let p1 ← k0_part1 (F := F) i arg1 harg1 arg2 harg2 arg3 harg3 arg4 harg4 arg5 harg5 arg6 harg6 arg7 harg7 arg8 harg8 arg9 harg9 arg10 harg10 arg11 harg11 arg12 harg12 arg13 harg13
    let p2 ← k0_part2 i arg1 harg1 arg2 harg2 arg3 harg3 arg4 harg4 arg5 harg5 arg6 harg6 arg7 harg7 arg8 harg8 arg9 harg9 arg10 harg10 arg11 harg11 arg12 harg12 arg13 harg13 p1.1 p1.2.1 p1.2.2.2.2
    let v141 : FVec F S64x1026 .f32 ← k0_part3 i arg1 harg1 arg2 harg2 arg3 harg3 arg4 harg4 arg5 harg5 arg6 harg6 arg7 harg7 arg8 harg8 arg9 harg9 arg10 harg10 arg11 harg11 arg12 harg12 arg13 harg13 p1.1 p1.2.1 p2.1 p2.2
    let v187 : FVec F S64x1026 .f32 ← k0_part4 i arg1 harg1 arg2 harg2 arg3 harg3 arg4 harg4 arg5 harg5 arg6 harg6 arg7 harg7 arg8 harg8 arg9 harg9 arg10 harg10 arg11 harg11 arg12 harg12 arg13 harg13 p1.1 p1.2.1 v141
    k0_part5 i arg1 harg1 arg2 harg2 arg3 harg3 arg4 harg4 arg5 harg5 arg6 harg6 arg7 harg7 arg8 harg8 arg9 harg9 arg10 harg10 arg11 harg11 arg12 harg12 arg13 harg13 p1.2.1 p1.2.2.1 v187
    k p1) = (do
    let w : Vec F S1x1026 .f32 ← Prog.lift (.load arg4 (Rect.unit (s := S1x1026) ![0, 0] S1x1026.size inb_S1x1026_S1x1026_0_0).toLoadRect (View.loadsAt_vmem h_S1x1026))
    let b : Vec F S1x1026 .f32 ← Prog.lift (.load arg5 (Rect.unit (s := S1x1026) ![0, 0] S1x1026.size inb_S1x1026_S1x1026_0_0).toLoadRect (View.loadsAt_vmem h_S1x1026))
    let g : Vec F S1x1024 .f32 ← Prog.lift (.load arg7 (Rect.unit (s := S1x1024) ![0, 0] S1x1024.size inb_S1x1024_S1x1024_0_0).toLoadRect (View.loadsAt_vmem h_S1x1024))
    batchA arg3 arg6 arg11 harg11 arg12 arg13 0 (by decide) (k0_pay7 w) (k0_pay8 b) (k0_pay9 g)
    blk arg8 arg9 arg13 1 (by decide) spread1 9 128 1 (0 + 0) (by decide) (by decide) (by decide) (by decide)
    k ⟨k0_pay7 w, k0_pay8 b, k0_pay9 g, k0_pay10 (F := F), z⟩) := by
  refine Eq.trans ?_ (chunk_first i arg1 harg1 arg2 harg2 arg3 harg3 arg4 harg4 arg5 harg5 arg6 harg6 arg7 harg7 arg8 harg8 arg9 harg9 arg10 harg10 arg11 harg11 arg12 harg12 arg13 harg13 (fun a b c d => k ⟨a, b, c, d, z⟩))
  exact congrArg _ (funext fun p => congrArg _ (funext fun _ => congrArg _ (funext fun _ => congrArg _ (funext fun _ => congrArg _ (funext fun _ => hk p)))))

/-- Printed parts, chained, are structured steps. -/
theorem chunk_0_0 {β : Type} (k : Prog (TpuEff nD τ sig (Elt F) Λ₀ .tc) β) : (do
    let v249 : FVec F S8x128 .f32 ← k0_part6 (F := F) i arg1 harg1 arg2 harg2 arg3 harg3 arg4 harg4 arg5 harg5 arg6 harg6 arg7 harg7 arg8 harg8 arg9 harg9 arg10 harg10 arg11 harg11 arg12 harg12 arg13 harg13
    let v279 : FVec F S8x128 .f32 ← k0_part7 i arg1 harg1 arg2 harg2 arg3 harg3 arg4 harg4 arg5 harg5 arg6 harg6 arg7 harg7 arg8 harg8 arg9 harg9 arg10 harg10 arg11 harg11 arg12 harg12 arg13 harg13 v249
    let v307 : FVec F S8x128 .f32 ← k0_part8 i arg1 harg1 arg2 harg2 arg3 harg3 arg4 harg4 arg5 harg5 arg6 harg6 arg7 harg7 arg8 harg8 arg9 harg9 arg10 harg10 arg11 harg11 arg12 harg12 arg13 harg13 v279
    let v335 : FVec F S8x128 .f32 ← k0_part9 i arg1 harg1 arg2 harg2 arg3 harg3 arg4 harg4 arg5 harg5 arg6 harg6 arg7 harg7 arg8 harg8 arg9 harg9 arg10 harg10 arg11 harg11 arg12 harg12 arg13 harg13 v307
    k0_part10 i arg1 harg1 arg2 harg2 arg3 harg3 arg4 harg4 arg5 harg5 arg6 harg6 arg7 harg7 arg8 harg8 arg9 harg9 arg10 harg10 arg11 harg11 arg12 harg12 arg13 harg13 v335
    k) = (do
    blk arg8 arg9 arg13 1 (by decide) spread1 10 0 2 (2 + 0) (by decide) (by decide) (by decide) (by decide)
    blk arg8 arg9 arg13 1 (by decide) spread1 10 128 2 (4 + 0) (by decide) (by decide) (by decide) (by decide)
    blks arg8 arg9 arg13 0 (by decide) 10 0 (by decide)
    k) := rfl

/-- Printed parts, chained, are structured steps. -/
theorem chunk_0_10 {β : Type} (k : Prog (TpuEff nD τ sig (Elt F) Λ₀ .tc) β) : (do
    let v393 : FVec F S8x128 .f32 ← k0_part11 (F := F) i arg1 harg1 arg2 harg2 arg3 harg3 arg4 harg4 arg5 harg5 arg6 harg6 arg7 harg7 arg8 harg8 arg9 harg9 arg10 harg10 arg11 harg11 arg12 harg12 arg13 harg13
    let v423 : FVec F S8x128 .f32 ← k0_part12 i arg1 harg1 arg2 harg2 arg3 harg3 arg4 harg4 arg5 harg5 arg6 harg6 arg7 harg7 arg8 harg8 arg9 harg9 arg10 harg10 arg11 harg11 arg12 harg12 arg13 harg13 v393
    let v451 : FVec F S8x128 .f32 ← k0_part13 i arg1 harg1 arg2 harg2 arg3 harg3 arg4 harg4 arg5 harg5 arg6 harg6 arg7 harg7 arg8 harg8 arg9 harg9 arg10 harg10 arg11 harg11 arg12 harg12 arg13 harg13 v423
    let v479 : FVec F S8x128 .f32 ← k0_part14 i arg1 harg1 arg2 harg2 arg3 harg3 arg4 harg4 arg5 harg5 arg6 harg6 arg7 harg7 arg8 harg8 arg9 harg9 arg10 harg10 arg11 harg11 arg12 harg12 arg13 harg13 v451
    k0_part15 i arg1 harg1 arg2 harg2 arg3 harg3 arg4 harg4 arg5 harg5 arg6 harg6 arg7 harg7 arg8 harg8 arg9 harg9 arg10 harg10 arg11 harg11 arg12 harg12 arg13 harg13 v479
    k) = (do
    blks arg8 arg9 arg13 0 (by decide) 12 10 (by decide)
    k) := rfl

/-- Printed parts, chained, are structured steps. -/
theorem chunk_0_22 {β : Type} (k : Prog (TpuEff nD τ sig (Elt F) Λ₀ .tc) β) : (do
    let v537 : FVec F S8x128 .f32 ← k0_part16 (F := F) i arg1 harg1 arg2 harg2 arg3 harg3 arg4 harg4 arg5 harg5 arg6 harg6 arg7 harg7 arg8 harg8 arg9 harg9 arg10 harg10 arg11 harg11 arg12 harg12 arg13 harg13
    let v567 : FVec F S8x128 .f32 ← k0_part17 i arg1 harg1 arg2 harg2 arg3 harg3 arg4 harg4 arg5 harg5 arg6 harg6 arg7 harg7 arg8 harg8 arg9 harg9 arg10 harg10 arg11 harg11 arg12 harg12 arg13 harg13 v537
    let v595 : FVec F S8x128 .f32 ← k0_part18 i arg1 harg1 arg2 harg2 arg3 harg3 arg4 harg4 arg5 harg5 arg6 harg6 arg7 harg7 arg8 harg8 arg9 harg9 arg10 harg10 arg11 harg11 arg12 harg12 arg13 harg13 v567
    let v623 : FVec F S8x128 .f32 ← k0_part19 i arg1 harg1 arg2 harg2 arg3 harg3 arg4 harg4 arg5 harg5 arg6 harg6 arg7 harg7 arg8 harg8 arg9 harg9 arg10 harg10 arg11 harg11 arg12 harg12 arg13 harg13 v595
    k0_part20 i arg1 harg1 arg2 harg2 arg3 harg3 arg4 harg4 arg5 harg5 arg6 harg6 arg7 harg7 arg8 harg8 arg9 harg9 arg10 harg10 arg11 harg11 arg12 harg12 arg13 harg13 v623
    k) = (do
    blks arg8 arg9 arg13 0 (by decide) 12 22 (by decide)
    k) := rfl

/-- Printed parts, chained, are structured steps. -/
theorem chunk_0_34 {β : Type} (k : Prog (TpuEff nD τ sig (Elt F) Λ₀ .tc) β) : (do
    let v681 : FVec F S8x128 .f32 ← k0_part21 (F := F) i arg1 harg1 arg2 harg2 arg3 harg3 arg4 harg4 arg5 harg5 arg6 harg6 arg7 harg7 arg8 harg8 arg9 harg9 arg10 harg10 arg11 harg11 arg12 harg12 arg13 harg13
    let v711 : FVec F S8x128 .f32 ← k0_part22 i arg1 harg1 arg2 harg2 arg3 harg3 arg4 harg4 arg5 harg5 arg6 harg6 arg7 harg7 arg8 harg8 arg9 harg9 arg10 harg10 arg11 harg11 arg12 harg12 arg13 harg13 v681
    let v739 : FVec F S8x128 .f32 ← k0_part23 i arg1 harg1 arg2 harg2 arg3 harg3 arg4 harg4 arg5 harg5 arg6 harg6 arg7 harg7 arg8 harg8 arg9 harg9 arg10 harg10 arg11 harg11 arg12 harg12 arg13 harg13 v711
    let v767 : FVec F S8x128 .f32 ← k0_part24 i arg1 harg1 arg2 harg2 arg3 harg3 arg4 harg4 arg5 harg5 arg6 harg6 arg7 harg7 arg8 harg8 arg9 harg9 arg10 harg10 arg11 harg11 arg12 harg12 arg13 harg13 v739
    k0_part25 i arg1 harg1 arg2 harg2 arg3 harg3 arg4 harg4 arg5 harg5 arg6 harg6 arg7 harg7 arg8 harg8 arg9 harg9 arg10 harg10 arg11 harg11 arg12 harg12 arg13 harg13 v767
    k) = (do
    blks arg8 arg9 arg13 0 (by decide) 12 34 (by decide)
    k) := rfl

end

end Cert.Kernel

end
-- ==== Proof.KB.Whole.lean ====
module

public import proofs.«01_k».proof.Proof.KB.ChB
public import proofs.«01_k».proof.Proof.KB.ChC
public import proofs.«01_k».proof.Proof.KB.ChD
public import proofs.«01_k».proof.Proof.KB.ChM
public import proofs.«01_k».proof.Proof.KB.ChA

@[expose] public section

set_option maxRecDepth 65536

noncomputable section

namespace Cert.Kernel

open Idealize.ShloMosaic Idealize.SL.Sem Gen

variable {F : FTy → Type} [FloatOps F]

theorem bind_cong {α β : Type} {p : Prog (TpuEff nD τ sig (Elt F) Λ₀ .tc) α} {f g : α → Prog (TpuEff nD τ sig (Elt F) Λ₀ .tc) β}
    (h : ∀ a, f a = g a) : (p >>= f) = (p >>= g) := congrArg (p >>= ·) (funext h)

/-- The first of a run of half-blocks, split off. -/
theorem blks_step {β : Type} {arg8 : Memref sig .tc .vmem S8x256 .f32} {arg9 : Memref sig .tc .vmem S2048x128 .f32}
    {arg13 : Memref sig .tc .vmem S528x1024 .f32} {bi : Nat} {hb : bi < 2} {k h n : Nat} {hk : h + k ≤ 126} {hn : h + n ≤ 126}
    (n' h' : Nat) (hn' : h' + n' ≤ 126) (e : h' = h + k) (e' : n = k + n')
    {K : Prog (TpuEff nD τ sig (Elt F) Λ₀ .tc) β} {K' : PUnit → Prog (TpuEff nD τ sig (Elt F) Λ₀ .tc) β}
    (H : K = (blks (F := F) arg8 arg9 arg13 bi hb n' h' hn' >>= K')) :
    (blks (F := F) arg8 arg9 arg13 bi hb k h hk >>= fun _ => K) = (blks arg8 arg9 arg13 bi hb n h hn >>= K') := by
  rw [← blks_append arg8 arg9 arg13 bi hb k h n' h' hk hn' e n hn e', Prog.bind_assoc]
  exact bind_cong fun _ => H

section
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

/-- The printed last step is the structured one. -/
theorem lastPrinted_eq : lastPrinted (F := F) i arg1 harg1 arg2 harg2 arg3 harg3 arg4 harg4 arg5 harg5 arg6 harg6 arg7 harg7 arg8 harg8 arg9 harg9 arg10 harg10 arg11 harg11 arg12 harg12 arg13 harg13 = lastStep arg3 arg4 arg5 arg6 arg7 arg8 arg9 arg10 arg11 harg11 arg12 arg13 := by
  unfold lastPrinted lastStep batchY
  rw [k0_part121_eq_skeleton, k0_part122_eq_skeleton]
  unfold k0_part121_skel k0_part122_skel
  simp only [Prog.bind_assoc, pure_bind]
  refine (chunk_first_of i arg1 harg1 arg2 harg2 arg3 harg3 arg4 harg4 arg5 harg5 arg6 harg6 arg7 harg7 arg8 harg8 arg9 harg9 arg10 harg10 arg11 harg11 arg12 harg12 arg13 harg13 _ (broadcast S128x128 (Scalar.ofBits .f32 0#32)) (fun _ => rfl)).trans ?_
  refine bind_cong fun w => bind_cong fun b => bind_cong fun g => bind_cong fun _ => bind_cong fun _ => ?_
  refine (chunk_0_0 i arg1 harg1 arg2 harg2 arg3 harg3 arg4 harg4 arg5 harg5 arg6 harg6 arg7 harg7 arg8 harg8 arg9 harg9 arg10 harg10 arg11 harg11 arg12 harg12 arg13 harg13 _).trans ?_
  refine bind_cong fun _ => bind_cong fun _ => blks_step 116 10 (by decide) (by decide) (by decide) ?_
  refine (chunk_0_10 i arg1 harg1 arg2 harg2 arg3 harg3 arg4 harg4 arg5 harg5 arg6 harg6 arg7 harg7 arg8 harg8 arg9 harg9 arg10 harg10 arg11 harg11 arg12 harg12 arg13 harg13 _).trans (blks_step 104 22 (by decide) (by decide) (by decide) ?_)
  refine (chunk_0_22 i arg1 harg1 arg2 harg2 arg3 harg3 arg4 harg4 arg5 harg5 arg6 harg6 arg7 harg7 arg8 harg8 arg9 harg9 arg10 harg10 arg11 harg11 arg12 harg12 arg13 harg13 _).trans (blks_step 92 34 (by decide) (by decide) (by decide) ?_)
  refine (chunk_0_34 i arg1 harg1 arg2 harg2 arg3 harg3 arg4 harg4 arg5 harg5 arg6 harg6 arg7 harg7 arg8 harg8 arg9 harg9 arg10 harg10 arg11 harg11 arg12 harg12 arg13 harg13 _).trans (blks_step 80 46 (by decide) (by decide) (by decide) ?_)
  refine (chunk_0_46 i arg1 harg1 arg2 harg2 arg3 harg3 arg4 harg4 arg5 harg5 arg6 harg6 arg7 harg7 arg8 harg8 arg9 harg9 arg10 harg10 arg11 harg11 arg12 harg12 arg13 harg13 _).trans (blks_step 68 58 (by decide) (by decide) (by decide) ?_)
  refine (chunk_0_58 i arg1 harg1 arg2 harg2 arg3 harg3 arg4 harg4 arg5 harg5 arg6 harg6 arg7 harg7 arg8 harg8 arg9 harg9 arg10 harg10 arg11 harg11 arg12 harg12 arg13 harg13 _).trans (blks_step 56 70 (by decide) (by decide) (by decide) ?_)
  refine (chunk_0_70 i arg1 harg1 arg2 harg2 arg3 harg3 arg4 harg4 arg5 harg5 arg6 harg6 arg7 harg7 arg8 harg8 arg9 harg9 arg10 harg10 arg11 harg11 arg12 harg12 arg13 harg13 _).trans (blks_step 44 82 (by decide) (by decide) (by decide) ?_)
  refine (chunk_0_82 i arg1 harg1 arg2 harg2 arg3 harg3 arg4 harg4 arg5 harg5 arg6 harg6 arg7 harg7 arg8 harg8 arg9 harg9 arg10 harg10 arg11 harg11 arg12 harg12 arg13 harg13 _).trans (blks_step 32 94 (by decide) (by decide) (by decide) ?_)
  refine (chunk_0_94 i arg1 harg1 arg2 harg2 arg3 harg3 arg4 harg4 arg5 harg5 arg6 harg6 arg7 harg7 arg8 harg8 arg9 harg9 arg10 harg10 arg11 harg11 arg12 harg12 arg13 harg13 _).trans (blks_step 20 106 (by decide) (by decide) (by decide) ?_)
  refine (chunk_0_106 i arg1 harg1 arg2 harg2 arg3 harg3 arg4 harg4 arg5 harg5 arg6 harg6 arg7 harg7 arg8 harg8 arg9 harg9 arg10 harg10 arg11 harg11 arg12 harg12 arg13 harg13 _).trans (blks_step 8 118 (by decide) (by decide) (by decide) ?_)
  refine (chunk_mid i arg1 harg1 arg2 harg2 arg3 harg3 arg4 harg4 arg5 harg5 arg6 harg6 arg7 harg7 arg8 harg8 arg9 harg9 arg10 harg10 arg11 harg11 arg12 harg12 arg13 harg13 _ _ _ _).trans ?_
  refine bind_cong fun _ => bind_cong fun _ => bind_cong fun _ => bind_cong fun _ => bind_cong fun _ => bind_cong fun _ => ?_
  refine bind_cong fun _ => bind_cong fun _ => bind_cong fun _ => bind_cong fun _ => blks_step 121 5 (by decide) (by decide) (by decide) ?_
  refine (chunk_1_5 i arg1 harg1 arg2 harg2 arg3 harg3 arg4 harg4 arg5 harg5 arg6 harg6 arg7 harg7 arg8 harg8 arg9 harg9 arg10 harg10 arg11 harg11 arg12 harg12 arg13 harg13 _).trans (blks_step 109 17 (by decide) (by decide) (by decide) ?_)
  refine (chunk_1_17 i arg1 harg1 arg2 harg2 arg3 harg3 arg4 harg4 arg5 harg5 arg6 harg6 arg7 harg7 arg8 harg8 arg9 harg9 arg10 harg10 arg11 harg11 arg12 harg12 arg13 harg13 _).trans (blks_step 97 29 (by decide) (by decide) (by decide) ?_)
  refine (chunk_1_29 i arg1 harg1 arg2 harg2 arg3 harg3 arg4 harg4 arg5 harg5 arg6 harg6 arg7 harg7 arg8 harg8 arg9 harg9 arg10 harg10 arg11 harg11 arg12 harg12 arg13 harg13 _).trans (blks_step 85 41 (by decide) (by decide) (by decide) ?_)
  refine (chunk_1_41 i arg1 harg1 arg2 harg2 arg3 harg3 arg4 harg4 arg5 harg5 arg6 harg6 arg7 harg7 arg8 harg8 arg9 harg9 arg10 harg10 arg11 harg11 arg12 harg12 arg13 harg13 _).trans (blks_step 73 53 (by decide) (by decide) (by decide) ?_)
  refine (chunk_1_53 i arg1 harg1 arg2 harg2 arg3 harg3 arg4 harg4 arg5 harg5 arg6 harg6 arg7 harg7 arg8 harg8 arg9 harg9 arg10 harg10 arg11 harg11 arg12 harg12 arg13 harg13 _).trans (blks_step 61 65 (by decide) (by decide) (by decide) ?_)
  refine (chunk_1_65 i arg1 harg1 arg2 harg2 arg3 harg3 arg4 harg4 arg5 harg5 arg6 harg6 arg7 harg7 arg8 harg8 arg9 harg9 arg10 harg10 arg11 harg11 arg12 harg12 arg13 harg13 _).trans (blks_step 49 77 (by decide) (by decide) (by decide) ?_)
  refine (chunk_1_77 i arg1 harg1 arg2 harg2 arg3 harg3 arg4 harg4 arg5 harg5 arg6 harg6 arg7 harg7 arg8 harg8 arg9 harg9 arg10 harg10 arg11 harg11 arg12 harg12 arg13 harg13 _).trans (blks_step 37 89 (by decide) (by decide) (by decide) ?_)
  refine (chunk_1_89 i arg1 harg1 arg2 harg2 arg3 harg3 arg4 harg4 arg5 harg5 arg6 harg6 arg7 harg7 arg8 harg8 arg9 harg9 arg10 harg10 arg11 harg11 arg12 harg12 arg13 harg13 _).trans (blks_step 25 101 (by decide) (by decide) (by decide) ?_)
  refine (chunk_1_101 i arg1 harg1 arg2 harg2 arg3 harg3 arg4 harg4 arg5 harg5 arg6 harg6 arg7 harg7 arg8 harg8 arg9 harg9 arg10 harg10 arg11 harg11 arg12 harg12 arg13 harg13 _).trans (blks_step 13 113 (by decide) (by decide) (by decide) ?_)
  refine (chunk_1_113 i arg1 harg1 arg2 harg2 arg3 harg3 arg4 harg4 arg5 harg5 arg6 harg6 arg7 harg7 arg8 harg8 arg9 harg9 arg10 harg10 arg11 harg11 arg12 harg12 arg13 harg13 _).trans (blks_step 1 125 (by decide) (by decide) (by decide) ?_)
  exact chunk_last i arg1 harg1 arg2 harg2 arg3 harg3 arg4 harg4 arg5 harg5 arg6 harg6 arg7 harg7 arg8 harg8 arg9 harg9 arg10 harg10 arg11 harg11 arg12 harg12 arg13 harg13

/-- The printed body is the accumulation, then at the last point the last step. -/
theorem body_eq : cc0_istft_head (F := F) i arg1 harg1 arg2 harg2 arg3 harg3 arg4 harg4 arg5 harg5 arg6 harg6 arg7 harg7 arg8 harg8 arg9 harg9 arg10 harg10 arg11 harg11 arg12 harg12 arg13 harg13 = (accStep i arg1 arg2 arg12 >>= fun _ =>
    if k0_h3 : k0_cond3 i = 1#1 then lastStep arg3 arg4 arg5 arg6 arg7 arg8 arg9 arg10 arg11 harg11 arg12 arg13 else pure ⟨⟩) := by
  rw [← lastPrinted_eq i arg1 harg1 arg2 harg2 arg3 harg3 arg4 harg4 arg5 harg5 arg6 harg6 arg7 harg7 arg8 harg8 arg9 harg9 arg10 harg10 arg11 harg11 arg12 harg12 arg13 harg13]
  rw [cc0_istft_head_eq_skeleton]
  unfold cc0_istft_head_skel accStep lastPrinted
  by_cases h1 : Scalar.cmpi .ne (Scalar.extui (Scalar.cmpi .eq (BitVec.ofNat 32 (i 0).val) 0#32)) 0#32 = 1#1 <;>
  by_cases h2 : Scalar.cmpi .ne (Scalar.extui (Scalar.cmpi .sgt (BitVec.ofNat 32 (i 0).val) 0#32)) 0#32 = 1#1 <;>
  by_cases h3 : k0_cond3 i = 1#1 <;>
  (simp only [h1, h2, h3, dite_true, dite_false, Prog.bind_assoc, pure_bind]; try rfl)

end

end Cert.Kernel

end
-- ==== Proof.KB.Body.lean ====
module

public import proofs.«01_k».proof.Proof.KB.Triples
public import proofs.«01_k».proof.Proof.KB.Whole
public import Idealize.ShloMosaic.Lib.Ring
public import Idealize.ShloMosaic.Lib.Tactic

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-- The body's three conditions. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := (Scalar.cmpi .ne (Scalar.extui (Scalar.cmpi .sgt (BitVec.ofNat 32 (i 0).val) 0#32)) 0#32) = 1#1
abbrev cond0_2 (i : grid0.Coords) : Prop := k0_cond3 i = 1#1

section
variable (c : Dev nD) (E : Set ℕ)
variable (i : grid0.Coords) (arg1 : Memref sig .tc .vmem S1024x512 .fp8e4m3) (harg1 : arg1.IsWhole) (arg2 : Memref sig .tc .vmem S512x1026 .fp8e4m3) (harg2 : arg2.IsWhole) (arg3 : Memref sig .tc .vmem S2x512 .f32) (harg3 : arg3.IsWhole) (arg4 : Memref sig .tc .vmem S1x1026 .f32) (harg4 : arg4.IsWhole) (arg5 : Memref sig .tc .vmem S1x1026 .f32) (harg5 : arg5.IsWhole) (arg6 : Memref sig .tc .vmem S1026x1024 .bf16) (harg6 : arg6.IsWhole) (arg7 : Memref sig .tc .vmem S1x1024 .f32) (harg7 : arg7.IsWhole) (arg8 : Memref sig .tc .vmem S8x256 .f32) (harg8 : arg8.IsWhole) (arg9 : Memref sig .tc .vmem S2048x128 .f32) (harg9 : arg9.IsWhole) (arg10 : Memref sig .tc .vmem S32x128 .f32) (harg10 : arg10.IsWhole) (arg11 : Memref sig .tc .vmem S1024x1026 .bf16) (harg11 : arg11.IsWhole) (arg12 : Memref sig .tc .vmem S1024x1026 .f32) (harg12 : arg12.IsWhole) (arg13 : Memref sig .tc .vmem S528x1024 .f32) (harg13 : arg13.IsWhole)

/-- The first point's accumulation. -/
theorem wp_accFirst (h0 : cond0_0 i) (h1 : ¬cond0_1 i) (x0 : Vec F S1024x512 .fp8e4m3) (x1 : Vec F S512x1026 .fp8e4m3) (A : Vec F S1024x1026 .f32)
    (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay2 x0 x1)) -∗ Φ ⟨⟩))
      ⊢ wp frame (wpE (defs₀ (F := F)) Variants.none c none) E (accStep i arg1 arg2 arg12) Φ := by
  unfold accStep
  simp only [h0, h1, dite_true, dite_false, Prog.bind_assoc, pure_bind]
  iintro ⟨H1, H2, H12, Hk⟩
  rw [wp_bind]; iapply (wp_ld c E arg1 _ _ _ _); isplitl [H1]; · iexact H1
  iintro H1
  rw [wp_bind]; iapply (wp_ld c E arg2 _ _ _ _); isplitl [H2]; · iexact H2
  iintro H2
  rw [wp_bind]; iapply (wp_ld c E arg12 _ _ _ _); isplitl [H12]; · iexact H12
  iintro H12
  rw [wp_bind]; iapply (wp_st c E arg12 _ _ _ _ _ _); isplitl [H12]; · iexact H12
  iintro H12
  iapply (wp_nop c E _)
  rw [ld_whole x0, ld_whole x1, upd_whole A]
  iapply Hk
  isplitl [H1]; · iexact H1
  isplitl [H2]; · iexact H2
  iexact H12

/-- A later point's. -/
theorem wp_accNext (h0 : ¬cond0_0 i) (h1 : cond0_1 i) (x0 : Vec F S1024x512 .fp8e4m3) (x1 : Vec F S512x1026 .fp8e4m3) (A : Vec F S1024x1026 .f32)
    (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay3 x0 x1 A)) -∗ Φ ⟨⟩))
      ⊢ wp frame (wpE (defs₀ (F := F)) Variants.none c none) E (accStep i arg1 arg2 arg12) Φ := by
  unfold accStep
  simp only [h0, h1, dite_true, dite_false, Prog.bind_assoc, pure_bind]
  iintro ⟨H1, H2, H12, Hk⟩
  rw [wp_bind]; iapply (wp_ld c E arg1 _ _ _ _); isplitl [H1]; · iexact H1
  iintro H1
  rw [wp_bind]; iapply (wp_ld c E arg2 _ _ _ _); isplitl [H2]; · iexact H2
  iintro H2
  rw [wp_bind]; iapply (wp_ld c E arg12 _ _ _ _); isplitl [H12]; · iexact H12
  iintro H12
  rw [wp_bind]; iapply (wp_ld c E arg12 _ _ _ _); isplitl [H12]; · iexact H12
  iintro H12
  rw [wp_bind]; iapply (wp_st c E arg12 _ _ _ _ _ _); isplitl [H12]; · iexact H12
  iintro H12
  iapply (wp_nop c E _)
  rw [ld_whole x0, ld_whole x1, ld_whole A, upd_whole A]
  iapply Hk
  isplitl [H1]; · iexact H1
  isplitl [H2]; · iexact H2
  iexact H12

/-- The body at the first point, -/
theorem wp_bodyA (h0 : cond0_0 i) (h1 : ¬cond0_1 i) (h2 : ¬cond0_2 i) (x0 : Vec F S1024x512 .fp8e4m3) (x1 : Vec F S512x1026 .fp8e4m3)
    (A : Vec F S1024x1026 .f32) (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay2 x0 x1)) -∗ Φ ⟨⟩))
      ⊢ wp frame (wpE (defs₀ (F := F)) Variants.none c none) E (cc0_istft_head i arg1 harg1 arg2 harg2 arg3 harg3 arg4 harg4 arg5 harg5 arg6 harg6 arg7 harg7 arg8 harg8 arg9 harg9 arg10 harg10 arg11 harg11 arg12 harg12 arg13 harg13) Φ := by
  rw [body_eq, wp_bind]
  iintro ⟨H1, H2, H12, Hk⟩
  iapply (wp_accFirst c E i arg1 arg2 arg12 h0 h1 x0 x1 A _)
  isplitl [H1]; · iexact H1
  isplitl [H2]; · iexact H2
  isplitl [H12]; · iexact H12
  iintro H
  rw [dif_neg h2]
  iapply (wp_nop c E _)
  iapply Hk
  iexact H

/-- between, -/
theorem wp_bodyB (h0 : ¬cond0_0 i) (h1 : cond0_1 i) (h2 : ¬cond0_2 i) (x0 : Vec F S1024x512 .fp8e4m3) (x1 : Vec F S512x1026 .fp8e4m3)
    (A : Vec F S1024x1026 .f32) (Φ : PUnit → sProp 𝕄) :
    iprop(owns (c : Thread nD τ) arg1 fullShare x0 ∗ owns (c : Thread nD τ) arg2 fullShare x1 ∗ owns (c : Thread nD τ) arg12 fullShare A ∗ (iprop(owns (c : Thread nD τ) arg1 fullShare x0 ∗ owns (c : Thread nD τ) arg2 fullShare x1 ∗ owns (c : Thread nD τ) arg12 fullShare (k0_pay3 x0 x1 A)) -∗ Φ ⟨⟩))
      ⊢ wp frame (wpE (defs₀ (F := F)) Variants.none c none) E (cc0_istft_head i arg1 harg1 arg2 harg2 arg3 harg3 arg4 harg4 arg5 harg5 arg6 harg6 arg7 harg7 arg8 harg8 arg9 harg9 arg10 harg10 arg11 harg11 arg12 harg12 arg13 harg13) Φ := by
  rw [body_eq, wp_bind]
  iintro ⟨H1, H2, H12, Hk⟩
  iapply (wp_accNext c E i arg1 arg2 arg12 h0 h1 x0 x1 A _)
  isplitl [H1]; · iexact H1
  isplitl [H2]; · iexact H2
  isplitl [H12]; · iexact H12
  iintro H
  rw [dif_neg h2]
  iapply (wp_nop c E _)
  iapply Hk
  iexact H

/-- and at the last. -/
theorem wp_bodyC (h0 : ¬cond0_0 i) (h1 : cond0_1 i) (h2 : cond0_2 i) (x0 : Vec F S1024x512 .fp8e4m3) (x1 : Vec F S512x1026 .fp8e4m3)
    (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) (e : Vec F S32x128 .f32)
    (Φ : PUnit → sProp 𝕄) :
    iprop(owns (c : Thread nD τ) arg1 fullShare x0 ∗ owns (c : Thread nD τ) arg2 fullShare x1 ∗ owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare Y ∗ owns (c : Thread nD τ) arg10 fullShare e ∗ owns (c : Thread nD τ) arg11 fullShare S ∗ owns (c : Thread nD τ) arg12 fullShare A ∗ owns (c : Thread nD τ) arg13 fullShare Z ∗ (iprop(owns (c : Thread nD τ) arg1 fullShare x0 ∗ owns (c : Thread nD τ) arg2 fullShare x1 ∗ owns (c : Thread nD τ) arg3 fullShare X ∗ owns (c : Thread nD τ) arg4 fullShare W ∗ owns (c : Thread nD τ) arg5 fullShare B ∗ owns (c : Thread nD τ) arg6 fullShare M ∗ owns (c : Thread nD τ) arg7 fullShare G ∗ owns (c : Thread nD τ) arg8 fullShare N ∗ owns (c : Thread nD τ) arg9 fullShare (lastY X W B M G N (k0_pay3 x0 x1 A) S Z Y) ∗ owns (c : Thread nD τ) arg10 fullShare (endsS (lastY X W B M G N (k0_pay3 x0 x1 A) S Z Y) e) ∗ owns (c : Thread nD τ) arg11 fullShare (lastS X W B (k0_pay3 x0 x1 A) S) ∗ owns (c : Thread nD τ) arg12 fullShare (k0_pay3 x0 x1 A) ∗ owns (c : Thread nD τ) arg13 fullShare (lastZ X W B M G (k0_pay3 x0 x1 A) S Z)) -∗ Φ ⟨⟩))
      ⊢ wp frame (wpE (defs₀ (F := F)) Variants.none c none) E (cc0_istft_head i arg1 harg1 arg2 harg2 arg3 harg3 arg4 harg4 arg5 harg5 arg6 harg6 arg7 harg7 arg8 harg8 arg9 harg9 arg10 harg10 arg11 harg11 arg12 harg12 arg13 harg13) Φ := by
  rw [body_eq, wp_bind]
  iintro ⟨H1, H2, H3, H4, H5, H6, H7, H8, H9, H10, H11, H12, H13, Hk⟩
  iapply (wp_accNext c E i arg1 arg2 arg12 h0 h1 x0 x1 A _)
  isplitl [H1]; · iexact H1
  isplitl [H2]; · iexact H2
  isplitl [H12]; · iexact H12
  iintro ⟨H1, H2, H12⟩
  rw [dif_pos h2]
  iapply (wp_lastStep c E arg3 arg4 arg5 arg6 arg7 arg8 arg9 arg10 arg11 harg11 arg12 arg13 X W B M G N (k0_pay3 x0 x1 A) S Z Y e _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end

end Cert.Kernel

end
-- ==== Proof.KB.Closed.lean ====
module

public import proofs.«01_k».proof.Proof.KB.Triples
public import Idealize.ShloMosaic.Lib.Pointwise

@[expose] public section

set_option maxRecDepth 16384

noncomputable section

namespace Cert.Kernel

open Idealize.ShloMosaic Idealize.ShloMosaic.TcCoe Idealize.SL.Sem
open Gen

variable {F : FTy → Type} [FloatOps F]

/-! ## An array known on a part of its indices -/

/-- On `D` the array `X` is `G`. -/
def On {s : Shape} {A : Type} (D : s.Idx → Prop) (G X : s.Idx → A) : Prop := ∀ y, D y → X y = G y

theorem On.upd {s : Shape} {A : Type} {D : s.Idx → Prop} {G X : s.Idx → A} (h : On D G X) (D' : s.Idx → Prop) (r : Rect s)
    (w : r.shape.Idx → A) (hw : ∀ x, w x = G (r.emb x))
    (hD : ∀ y, D' y → D y ∨ ∃ x : r.shape.Idx, ∀ a, (y a).val = r.off a + r.stride a * (x a).val) :
    On D' G (upd X r w) := by
  intro y hy
  by_cases hr : y ∈ r.set
  · obtain ⟨x, rfl⟩ := r.exists_idx_of_mem hr
    exact (upd_emb X r w x).trans (hw x)
  · rw [upd_miss _ _ _ _ hr]
    rcases hD y hy with h' | ⟨x, hx⟩
    · exact h y h'
    · exact absurd (by rw [← r.emb_eq_of_coords x y hx]; exact r.idx_mem x) hr

theorem On.mono {s : Shape} {A : Type} {D D' : s.Idx → Prop} {G X : s.Idx → A} (h : On D G X) (hD : ∀ y, D' y → D y) : On D' G X :=
  fun y hy => h y (hD y hy)

theorem On.none {s : Shape} {A : Type} (G X : s.Idx → A) : On (fun _ => False) G X := fun _ h => h.elim

theorem On.eq {s : Shape} {A : Type} {G X : s.Idx → A} {D : s.Idx → Prop} (h : On D G X) (hD : ∀ y, D y) : X = G := funext fun y => h y (hD y)

/-! ## The spectrum -/

/-- The accumulator's entry, scaled and offset; -/
def hAt (X : Vec F S2x512 .f32) (W B : Vec F S1x1026 .f32) (A : Vec F S1024x1026 .f32) (R : Fin 1024) (j : Fin 1026) : F .f32 :=
  FloatOps.addf (FloatOps.mulf (FloatOps.mulf (A (ix2 R j)) (X (ix2 (⟨R.val / 512, by omega⟩ : Fin 2) (⟨R.val % 512, by omega⟩ : Fin 512))))
    (W (ix2 (0 : Fin 1) j))) (B (ix2 (0 : Fin 1) j))

/-- its magnitude, capped. -/
def magAt (X : Vec F S2x512 .f32) (W B : Vec F S1x1026 .f32) (A : Vec F S1024x1026 .f32) (R : Fin 1024) (j : Fin 1026) : F .f32 :=
  FloatOps.minimumf (FloatOps.exp (hAt X W B A R j)) (FloatOps.ofBits .f32 0x42C80000#32)

/-- The spectrum: real parts, then imaginary parts, rounded. -/
def specAt (X : Vec F S2x512 .f32) (W B : Vec F S1x1026 .f32) (A : Vec F S1024x1026 .f32) (R : Fin 1024) (j : Fin 1026) : F .bf16 :=
  FloatOps.truncf .bf16 bitsLt_bf16_f32
    (if h : j.val < 513 then FloatOps.mulf (magAt X W B A R j) (FloatOps.cos (hAt X W B A R ⟨513 + j.val, by omega⟩))
     else FloatOps.mulf (magAt X W B A R ⟨j.val - 513, by omega⟩) (FloatOps.sin (hAt X W B A R j)))

/-- The same as an array. -/
def specV (X : Vec F S2x512 .f32) (W B : Vec F S1x1026 .f32) (A : Vec F S1024x1026 .f32) : Vec F S1024x1026 .bf16 := fun y =>
  specAt X W B A (y 0) (y 1)

theorem specPay_at (X : Vec F S2x512 .f32) (W B : Vec F S1x1026 .f32) (A : Vec F S1024x1026 .f32) (o : Nat) (ho : S128x128.Slices ![o, 0] S64x1)
    (x : Vec F S1x128 .f32) (a : Vec F S64x1026 .f32) (R : Fin 1024) (i : Fin 64) (j : Fin 1026) (hoi : o + i.val < 128)
    (hx : x (ix2 (0 : Fin 1) (⟨o + i.val, hoi⟩ : Fin 128)) = X (ix2 (⟨R.val / 512, by omega⟩ : Fin 2) (⟨R.val % 512, by omega⟩ : Fin 512)))
    (ha : ∀ j : Fin 1026, a (ix2 i j) = A (ix2 R j)) :
    specPay o ho W B (k0_pay13 x) a (ix2 i j) = specAt X W B A R j := by
  pointwise [specPay, k0_pay13]
  have key : ∀ j : Fin 1026, FloatOps.addf (FloatOps.mulf (FloatOps.mulf (a (ix2 i j)) (x (ix2 (0 : Fin 1) (⟨o + i.val, hoi⟩ : Fin 128))))
      (W (ix2 (0 : Fin 1) j))) (B (ix2 (0 : Fin 1) j)) = hAt X W B A R j := fun j => by unfold hAt; rw [ha, hx]
  unfold specAt magAt
  refine congrArg _ ?_
  by_cases h : j.val < 513
  · refine (dif_pos h).trans (Eq.trans ?_ (dif_pos h).symm)
    exact congrArg₂ FloatOps.mulf (congrArg (fun z => FloatOps.minimumf (FloatOps.exp z) _) (key _)) (congrArg FloatOps.cos (key _))
  · have e : (⟨513 + (j.val - 513), by omega⟩ : Fin 1026) = j := Fin.ext (by show 513 + (j.val - 513) = j.val; omega)
    refine (dif_neg h).trans (Eq.trans ?_ (dif_neg h).symm)
    exact congrArg₂ FloatOps.mulf (congrArg (fun z => FloatOps.minimumf (FloatOps.exp z) _) (key _))
      (congrArg FloatOps.sin ((key _).trans (congrArg (hAt X W B A R) e)))

/-- 64 more rows. -/
theorem specHalfS_on (X : Vec F S2x512 .f32) (W B : Vec F S1x1026 .f32) (A : Vec F S1024x1026 .f32) (S : Vec F S1024x1026 .bf16)
    (bi ch o lo : Nat) (hb : bi < 2) (hc : ch < 4) (ho' : o = 0 ∨ o = 64) (hR : 512 * bi + 128 * ch + o + 64 ≤ 1024)
    (ho : S128x128.Slices ![o, 0] S64x1)
    (h : On (fun y => lo ≤ (y 0).val ∧ (y 0).val < 512 * bi + 128 * ch + o) (specV X W B A) S) :
    On (fun y => lo ≤ (y 0).val ∧ (y 0).val < 512 * bi + 128 * ch + o + 64) (specV X W B A)
      (specHalfS (512 * bi + 128 * ch + o) o hR ho W B
        (k0_pay13 (ld X (Rect.unit (s := S2x512) ![bi, 128 * ch] S1x128.size (xs_inb hb (by omega))).toLoadRect)) A S) := by
  unfold specHalfS
  refine h.upd _ (spR (512 * bi + 128 * ch + o) hR) _ (fun x => ?_) (fun y hy => ?_)
  · obtain ⟨i, j, rfl⟩ : ∃ (i : Fin 64) (j : Fin 1026), x = (ix2 i j : S64x1026.Idx) := ⟨x 0, x 1, eq_ix2 x⟩
    have hR' : 512 * bi + 128 * ch + o + i.val < 1024 := by omega
    have e : (spR (512 * bi + 128 * ch + o) hR).emb (ix2 i j : S64x1026.Idx) = ix2 (⟨512 * bi + 128 * ch + o + i.val, hR'⟩ : Fin 1024) j := by
      refine funext (Fin.forall_fin_two.mpr ⟨Fin.ext ?_, Fin.ext ?_⟩)
      · show 512 * bi + 128 * ch + o + 1 * i.val = _; rw [Nat.one_mul]; rfl
      · show 0 + 1 * j.val = j.val; omega
    rw [e]
    have hi := i.isLt
    refine specPay_at X W B A o ho _ _ (⟨512 * bi + 128 * ch + o + i.val, hR'⟩ : Fin 1024) i j (by omega) ?_ (fun j => ?_)
    · refine congrArg X (funext (Fin.forall_fin_two.mpr ⟨Fin.ext ?_, Fin.ext ?_⟩))
      · show bi + 1 * 0 = (512 * bi + 128 * ch + o + i.val) / 512; omega
      · show 128 * ch + 1 * (o + i.val) = (512 * bi + 128 * ch + o + i.val) % 512; omega
    · refine congrArg A (funext (Fin.forall_fin_two.mpr ⟨Fin.ext ?_, Fin.ext ?_⟩))
      · show 512 * bi + 128 * ch + o + 1 * i.val = 512 * bi + 128 * ch + o + i.val; omega
      · show 0 + 1 * j.val = j.val; omega
  · by_cases hlt : (y 0).val < 512 * bi + 128 * ch + o
    · exact Or.inl ⟨hy.1, hlt⟩
    · refine Or.inr ⟨(ix2 (⟨(y 0).val - (512 * bi + 128 * ch + o), by have := hy.2; omega⟩ : Fin 64) (y 1) : S64x1026.Idx), Fin.forall_fin_two.mpr ⟨?_, ?_⟩⟩
      · show (y 0).val = 512 * bi + 128 * ch + o + 1 * ((y 0).val - (512 * bi + 128 * ch + o)); omega
      · show (y 1).val = 0 + 1 * (y 1).val; omega

/-- A batch's rows. -/
theorem specS_on (X : Vec F S2x512 .f32) (W B : Vec F S1x1026 .f32) (A : Vec F S1024x1026 .f32) (S : Vec F S1024x1026 .bf16)
    (bi lo : Nat) (hb : bi < 2) (h : On (fun y => lo ≤ (y 0).val ∧ (y 0).val < 512 * bi) (specV X W B A) S) :
    On (fun y => lo ≤ (y 0).val ∧ (y 0).val < 512 * bi + 512) (specV X W B A) (specS bi hb W B X A S) := by
  have step (ch : Nat) (hc : ch < 4) (S : Vec F S1024x1026 .bf16)
      (h : On (fun y => lo ≤ (y 0).val ∧ (y 0).val < 512 * bi + 128 * ch) (specV X W B A) S) :
      On (fun y => lo ≤ (y 0).val ∧ (y 0).val < 512 * bi + 128 * (ch + 1)) (specV X W B A) (specChunkS bi ch hb hc W B X A S) :=
    (specHalfS_on X W B A _ bi ch 64 lo hb hc (Or.inr rfl) (by omega) slices_S128x128_o64_0_S64x1
      (specHalfS_on X W B A S bi ch 0 lo hb hc (Or.inl rfl) (by omega) slices_S128x128_o0_0_S64x1 h)).mono
      fun y hy => ⟨hy.1, by have := hy.2; omega⟩
  exact step 3 (by decide) _ (step 2 (by decide) _ (step 1 (by decide) _ (step 0 (by decide) S h)))

theorem k0_pay7_id (W : Vec F S1x1026 .f32) : k0_pay7 (row1 W) = W := by
  have : row1 W = W := ld_whole W _
  rw [this]; funext y; pointwise [k0_pay7]
theorem k0_pay8_id (W : Vec F S1x1026 .f32) : k0_pay8 (row1 W) = W := by
  have : row1 W = W := ld_whole W _
  rw [this]; funext y; pointwise [k0_pay8]
theorem k0_pay9_id (G : Vec F S1x1024 .f32) : k0_pay9 (rowG G) = G := by
  have : rowG G = G := ld_whole G _
  rw [this]; funext y; pointwise [k0_pay9]

/-- The first batch's rows after it; -/
theorem lastS0_on (X : Vec F S2x512 .f32) (W B : Vec F S1x1026 .f32) (A : Vec F S1024x1026 .f32) (S : Vec F S1024x1026 .bf16) :
    On (fun y => (y 0).val < 512) (specV X W B A) (lastS0 X W B A S) := by
  unfold lastS0
  rw [k0_pay7_id, k0_pay8_id]
  exact (specS_on X W B A S 0 0 (by decide) fun y hy => absurd hy.2 (by omega)).mono fun y hy => ⟨Nat.zero_le _, by omega⟩

/-- all rows after both. -/
theorem lastS_eq (X : Vec F S2x512 .f32) (W B : Vec F S1x1026 .f32) (A : Vec F S1024x1026 .f32) (S : Vec F S1024x1026 .bf16) :
    lastS X W B A S = specV X W B A := by
  unfold lastS
  rw [k0_pay7_id, k0_pay8_id]
  exact (specS_on X W B A _ 1 0 (by decide) ((lastS0_on X W B A S).mono fun y hy => by have := hy.2; omega)).eq
    fun y => ⟨Nat.zero_le _, (y 0).isLt⟩

/-! ## The frames -/

/-- Batch `bi`'s 512 rows of the spectrum. -/
def specOf (bi : Nat) (hb : bi < 2) (T : Vec F S1024x1026 .bf16) : Vec F S512x1026 .bf16 := fun x =>
  T (ix2 (⟨512 * bi + (x 0).val, by have : (x 0).val < 512 := (x 0).isLt; omega⟩ : Fin 1024) (x 1))

/-- A batch's frames between eight rows of zeros above and below. -/
def frV (bi : Nat) (hb : bi < 2) (G : Vec F S1x1024 .f32) (M : Vec F S1026x1024 .bf16) (T : Vec F S1024x1026 .bf16) : Vec F S528x1024 .f32 := fun y =>
  if h : 8 ≤ (y 0).val ∧ (y 0).val < 520 then
    k0_pay28 G (specOf bi hb T) M (ix2 (⟨(y 0).val - 8, by omega⟩ : Fin 512) (y 1))
  else FloatOps.ofBits .f32 0x00000000#32

theorem k0_pay11_at (x : S8x1024.Idx) : k0_pay11 (F := F) x = FloatOps.ofBits .f32 0x00000000#32 := by
  idx_vars x
  pointwise [k0_pay11, k0_pay10]

theorem frS_eq (bi : Nat) (hb : bi < 2) (G : Vec F S1x1024 .f32) (M : Vec F S1026x1024 .bf16) (T S : Vec F S1024x1026 .bf16)
    (Z : Vec F S528x1024 .f32) (h : On (fun y => 512 * bi ≤ (y 0).val ∧ (y 0).val < 512 * bi + 512) T S) :
    frS bi hb G M S Z = frV bi hb G M T := by
  have e1 : ld S (Rect.unit (s := S1024x1026) ![512 * bi, 0] S512x1026.size (sp512_inb (by omega))).toLoadRect = specOf bi hb T := by
    funext x
    have hx : (x 0).val < 512 := (x 0).isLt
    refine (h _ ?_).trans (congrArg T (funext (Fin.forall_fin_two.mpr ⟨Fin.ext ?_, Fin.ext ?_⟩)))
    · show 512 * bi ≤ 512 * bi + 1 * (x 0).val ∧ 512 * bi + 1 * (x 0).val < 512 * bi + 512; omega
    · show 512 * bi + 1 * (x 0).val = 512 * bi + (x 0).val; omega
    · show 0 + 1 * (x 1).val = (x 1).val; omega
  have e2 : ld M (Rect.unit (s := S1026x1024) ![0, 0] S1026x1024.size inb_S1026x1024_S1026x1024_0_0).toLoadRect = M := ld_whole M _
  unfold frS
  rw [e1, e2]
  refine On.eq (D := fun _ => True) ?_ (fun _ => trivial)
  refine (((On.none (frV bi hb G M T) Z).upd (fun y => (y 0).val < 8) _ _ (fun x => ?_) (fun y hy => Or.inr ?_)).upd
    (fun y => (y 0).val < 8 ∨ 520 ≤ (y 0).val) _ _ (fun x => ?_) (fun y hy => ?_)).upd _ _ _ (fun x => ?_) (fun y _ => ?_)
  · have hx : (x 0).val < 8 := (x 0).isLt
    refine (k0_pay11_at x).trans (Eq.symm (dif_neg ?_))
    show ¬(8 ≤ 0 + 1 * (x 0).val ∧ 0 + 1 * (x 0).val < 520); omega
  · refine ⟨(ix2 (⟨(y 0).val, hy⟩ : Fin 8) (y 1) : S8x1024.Idx), Fin.forall_fin_two.mpr ⟨?_, ?_⟩⟩
    · show (y 0).val = 0 + 1 * (y 0).val; omega
    · show (y 1).val = 0 + 1 * (y 1).val; omega
  · refine (k0_pay11_at x).trans (Eq.symm (dif_neg ?_))
    show ¬(8 ≤ 520 + 1 * (x 0).val ∧ 520 + 1 * (x 0).val < 520); omega
  · rcases hy with hy | hy
    · exact Or.inl hy
    · have hy' : (y 0).val < 528 := (y 0).isLt
      refine Or.inr ⟨(ix2 (⟨(y 0).val - 520, by omega⟩ : Fin 8) (y 1) : S8x1024.Idx), Fin.forall_fin_two.mpr ⟨?_, ?_⟩⟩
      · show (y 0).val = 520 + 1 * ((y 0).val - 520); omega
      · show (y 1).val = 0 + 1 * (y 1).val; omega
  · have hx : (x 0).val < 512 := (x 0).isLt
    refine Eq.symm ((dif_pos (show 8 ≤ 8 + 1 * (x 0).val ∧ 8 + 1 * (x 0).val < 520 by omega)).trans
      (congrArg _ (funext (Fin.forall_fin_two.mpr ⟨Fin.ext ?_, Fin.ext ?_⟩))))
    · show 8 + 1 * (x 0).val - 8 = (x 0).val; omega
    · show 0 + 1 * (x 1).val = (x 1).val; omega
  · by_cases h8 : (y 0).val < 8 ∨ 520 ≤ (y 0).val
    · exact Or.inl h8
    · refine Or.inr ⟨(ix2 (⟨(y 0).val - 8, by omega⟩ : Fin 512) (y 1) : S512x1024.Idx), Fin.forall_fin_two.mpr ⟨?_, ?_⟩⟩
      · show (y 0).val = 8 + 1 * ((y 0).val - 8); omega
      · show (y 1).val = 0 + 1 * (y 1).val; omega

theorem lastZ0_eq (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) :
    lastZ0 X W B M G A S Z = frV 0 (by decide) G M (specV X W B A) := by
  unfold lastZ0
  rw [k0_pay9_id]
  exact frS_eq 0 _ G M _ _ Z ((lastS0_on X W B A S).mono fun y hy => by have := hy.2; omega)

theorem lastZ_eq (X : Vec F S2x512 .f32) (W B : Vec F S1x1026 .f32) (M : Vec F S1026x1024 .bf16) (G : Vec F S1x1024 .f32)
    (A : Vec F S1024x1026 .f32) (S : Vec F S1024x1026 .bf16) (Z : Vec F S528x1024 .f32) :
    lastZ X W B M G A S Z = frV 1 (by decide) G M (specV X W B A) := by
  unfold lastZ
  rw [k0_pay9_id, lastS_eq]
  exact frS_eq 1 _ G M _ _ _ fun _ _ => rfl

/-! ## The waveform -/

/-- The row of the envelope for the frame `j`. -/
def envRow (j : Nat) : Nat := if j = 1 then 1 else if j = 2 then 2 else if j = 512 then 4 else if j = 513 then 5 else 3

theorem envRow_lt (j : Nat) : envRow j < 8 := by
  unfold envRow; split_ifs <;> omega

/-- The sum of the four frames that meet in the half-block `t`, over the envelope. -/
def yAt (Z : Vec F S528x1024 .f32) (N : Vec F S8x256 .f32) (t : Nat) (ht : t < 1024) (l : Fin 128) : F .f32 :=
  FloatOps.divf (FloatOps.addf (FloatOps.addf (FloatOps.addf
      (Z (ix2 (⟨8 + (t + 3) / 2, by omega⟩ : Fin 528) (⟨128 * ((t + 3) % 2) + l.val, by omega⟩ : Fin 1024)))
      (Z (ix2 (⟨8 + (t + 3) / 2 - 1, by omega⟩ : Fin 528) (⟨128 * ((t + 3) % 2) + 256 + l.val, by omega⟩ : Fin 1024))))
      (Z (ix2 (⟨8 + (t + 3) / 2 - 2, by omega⟩ : Fin 528) (⟨128 * ((t + 3) % 2) + 512 + l.val, by omega⟩ : Fin 1024))))
      (Z (ix2 (⟨8 + (t + 3) / 2 - 3, by omega⟩ : Fin 528) (⟨128 * ((t + 3) % 2) + 768 + l.val, by omega⟩ : Fin 1024))))
    (N (ix2 (⟨envRow ((t + 3) / 2), envRow_lt _⟩ : Fin 8) (⟨128 * ((t + 3) % 2) + l.val, by omega⟩ : Fin 256)))

/-- The waveform: the two batches' half-blocks alternate. -/
def yV (Z0 Z1 : Vec F S528x1024 .f32) (N : Vec F S8x256 .f32) : Vec F S2048x128 .f32 := fun y =>
  yAt (if (y 0).val % 2 = 0 then Z0 else Z1) N ((y 0).val / 2) (by have : (y 0).val < 2048 := (y 0).isLt; omega) (y 1)

/-- One half-block. -/
theorem blkS_on (Z0 Z1 : Vec F S528x1024 .f32) (N : Vec F S8x256 .f32) (D : S2048x128.Idx → Prop) (Y : Vec F S2048x128 .f32)
    (h : On D (yV Z0 Z1 N) Y) (Z : Vec F S528x1024 .f32) (bi t n : Nat) (hn : 0 < n) (hb : bi < 2) (hZ : (if bi % 2 = 0 then Z0 else Z1) = Z)
    (spread : FVec F S1x128 .f32 → FVec F (Rw n) .f32) (hs : ∀ e i l, spread e (ix2 i l) = e (ix2 (0 : Fin 1) l)) (r l q o : Nat)
    (hr : 3 ≤ r ∧ r + n ≤ 528) (hl : l + 896 ≤ 1024) (hq : q < 8) (ho : o + 4 * (n - 1) < 2048)
    (hro : r = 8 + (t + 3) / 2) (hlo : l = 128 * ((t + 3) % 2)) (hoo : o = 2 * t + bi) (hqo : ∀ i, i < n → envRow ((t + 3) / 2 + i) = q) :
    On (fun y => D y ∨ ∃ i, i < n ∧ (y 0).val = 2 * t + bi + 4 * i) (yV Z0 Z1 N) (blkS n spread r l q o hr hl hq ho N Z Y) := by
  subst hro hlo hoo hZ
  unfold blkS
  refine h.upd _ (yR n (2 * t + bi) ho) _ (fun x => ?_) (fun y hy => ?_)
  · obtain ⟨i, k, rfl⟩ : ∃ (i : Fin n) (k : Fin 128), x = (ix2 i k : (Rw n).Idx) := ⟨x 0, x 1, eq_ix2 x⟩
    have hi := i.isLt
    have e : (yR n (2 * t + bi) ho).emb (ix2 i k : (Rw n).Idx) = (ix2 (⟨2 * (t + 2 * i.val) + bi, by omega⟩ : Fin 2048) k : S2048x128.Idx) := by
      refine funext (Fin.forall_fin_two.mpr ⟨Fin.ext ?_, Fin.ext ?_⟩)
      · show 2 * t + bi + 4 * i.val = 2 * (t + 2 * i.val) + bi; omega
      · show 0 + 1 * k.val = k.val; omega
    rw [e]
    have ez : ∀ (s d : Nat) (hs' : d ≤ 3) (h1 : 8 + (t + 3) / 2 - d + n ≤ 528) (h2 : 128 * ((t + 3) % 2) + s + 128 ≤ 1024) (Z : Vec F S528x1024 .f32),
        ld Z (frR n (8 + (t + 3) / 2 - d) (128 * ((t + 3) % 2) + s) h1 h2).toLoadRect (ix2 i k : (Rw n).Idx)
          = Z (ix2 (⟨8 + (t + 2 * i.val + 3) / 2 - d, by omega⟩ : Fin 528) (⟨128 * ((t + 2 * i.val + 3) % 2) + s + k.val, by omega⟩ : Fin 1024)) := by
      intro s d hs' h1 h2 Z
      refine congrArg Z (funext (Fin.forall_fin_two.mpr ⟨Fin.ext ?_, Fin.ext ?_⟩))
      · show 8 + (t + 3) / 2 - d + 1 * i.val = 8 + (t + 2 * i.val + 3) / 2 - d; omega
      · show 128 * ((t + 3) % 2) + s + 1 * k.val = 128 * ((t + 2 * i.val + 3) % 2) + s + k.val; omega
    have hp : (2 * (t + 2 * i.val) + bi) % 2 = bi % 2 := by omega
    have hd : (2 * (t + 2 * i.val) + bi) / 2 = t + 2 * i.val := by omega
    have ey : yV Z0 Z1 N (ix2 (⟨2 * (t + 2 * i.val) + bi, by omega⟩ : Fin 2048) k : S2048x128.Idx)
        = yAt (if bi % 2 = 0 then Z0 else Z1) N (t + 2 * i.val) (by omega) k := by
      show yAt (if (2 * (t + 2 * i.val) + bi) % 2 = 0 then Z0 else Z1) N ((2 * (t + 2 * i.val) + bi) / 2) _ k = _
      simp only [hp, hd]
    rw [ey]
    unfold yAt quot
    refine congrArg₂ FloatOps.divf (congrArg₂ FloatOps.addf (congrArg₂ FloatOps.addf (congrArg₂ FloatOps.addf ?_ ?_) ?_) ?_) ?_
    · exact ez 0 0 (by omega) (by omega) (by omega) _
    · exact ez 256 1 (by omega) (by omega) (by omega) _
    · exact ez 512 2 (by omega) (by omega) (by omega) _
    · exact ez 768 3 (by omega) (by omega) (by omega) _
    · refine (hs _ i k).trans ?_
      have hq' := hqo i.val hi
      pointwise
      refine congrArg N (funext (Fin.forall_fin_two.mpr ⟨Fin.ext ?_, Fin.ext ?_⟩))
      · show q + 1 * 0 = envRow ((t + 2 * i.val + 3) / 2)
        rw [show (t + 2 * i.val + 3) / 2 = (t + 3) / 2 + i.val from by omega, hq']
        omega
      · show 128 * ((t + 3) % 2) + 1 * k.val = 128 * ((t + 2 * i.val + 3) % 2) + k.val; omega
  · rcases hy with hy | ⟨i, hi, hy⟩
    · exact Or.inl hy
    · refine Or.inr ⟨(ix2 (⟨i, hi⟩ : Fin n) (y 1) : (Rw n).Idx), Fin.forall_fin_two.mpr ⟨?_, ?_⟩⟩
      · show (y 0).val = 2 * t + bi + 4 * i; omega
      · show (y 1).val = 0 + 1 * (y 1).val; omega

theorem spread1_at (e : FVec F S1x128 .f32) (i : Fin 1) (l : Fin 128) : spread1 e (ix2 i l) = e (ix2 (0 : Fin 1) l) := by
  obtain rfl : i = 0 := Subsingleton.elim _ _
  rfl
theorem spread5_at (e : FVec F S1x128 .f32) (i : Fin 5) (l : Fin 128) : spread5 e (ix2 i l) = e (ix2 (0 : Fin 1) l) := by
  pointwise [spread5]
theorem spread8_at (e : FVec F S1x128 .f32) (i : Fin 8) (l : Fin 128) : spread8 e (ix2 i l) = e (ix2 (0 : Fin 1) l) := by
  pointwise [spread8]

/-- The half-blocks of eight rows. -/
theorem blksS_on (Z0 Z1 : Vec F S528x1024 .f32) (N : Vec F S8x256 .f32) (bi : Nat) (hb : bi < 2) (Z : Vec F S528x1024 .f32)
    (hZ : (if bi % 2 = 0 then Z0 else Z1) = Z) : ∀ (k h : Nat) (hk : h + k ≤ 126) (D : S2048x128.Idx → Prop) (Y : Vec F S2048x128 .f32),
    On D (yV Z0 Z1 N) Y →
    On (fun y => D y ∨ ∃ g i, h ≤ g ∧ g < h + k ∧ i < 8 ∧ (y 0).val = 6 + 32 * (g / 2) + 2 * (g % 2) + bi + 4 * i) (yV Z0 Z1 N)
      (blksS bi hb N Z k h hk Y)
  | 0, h, hk, D, Y, H => H.mono fun y hy => by
      rcases hy with hy | ⟨g, i, h1, h2, _⟩
      · exact hy
      · omega
  | k + 1, h, hk, D, Y, H => by
      unfold blksS
      refine (blksS_on Z0 Z1 N bi hb Z hZ k (h + 1) (by omega) _ _
        (blkS_on Z0 Z1 N D Y H Z bi (3 + 16 * (h / 2) + h % 2) 8 (by omega) hb hZ spread8 spread8_at _ _ _ _ _ _ _ _
          (by omega) (by omega) (by omega) (fun i hi => ?_))).mono fun y hy => ?_
      · unfold envRow
        rw [if_neg (by omega), if_neg (by omega), if_neg (by omega), if_neg (by omega)]
      · rcases hy with hy | ⟨g, i, h1, h2, h3, h4⟩
        · exact Or.inl (Or.inl hy)
        · by_cases hg : g = h
          · subst hg
            exact Or.inl (Or.inr ⟨i, h3, by omega⟩)
          · exact Or.inr ⟨g, i, by omega, by omega, h3, h4⟩

/-- A batch's half-blocks. -/
theorem batchYS_on (Z0 Z1 : Vec F S528x1024 .f32) (N : Vec F S8x256 .f32) (bi : Nat) (hb : bi < 2) (Z : Vec F S528x1024 .f32)
    (hZ : (if bi % 2 = 0 then Z0 else Z1) = Z) (D : S2048x128.Idx → Prop) (Y : Vec F S2048x128 .f32) (H : On D (yV Z0 Z1 N) Y) :
    On (fun y => D y ∨ (y 0).val % 2 = bi) (yV Z0 Z1 N) (batchYS bi hb N Z Y) := by
  have e (n j q : Nat) (hj : ∀ i, i < n → envRow (j + i) = q) := hj
  have H1 := blkS_on Z0 Z1 N D Y H Z bi 0 1 (by decide) hb hZ spread1 spread1_at 9 128 1 (0 + bi) (by decide) (by decide) (by decide) (by omega)
    (by decide) (by decide) (by omega) (by decide)
  have H2 := blkS_on Z0 Z1 N _ _ H1 Z bi 1 1 (by decide) hb hZ spread1 spread1_at 10 0 2 (2 + bi) (by decide) (by decide) (by decide) (by omega)
    (by decide) (by decide) (by omega) (by decide)
  have H3 := blkS_on Z0 Z1 N _ _ H2 Z bi 2 1 (by decide) hb hZ spread1 spread1_at 10 128 2 (4 + bi) (by decide) (by decide) (by decide) (by omega)
    (by decide) (by decide) (by omega) (by decide)
  have H4 := blksS_on Z0 Z1 N bi hb Z hZ 126 0 (by decide) _ _ H3
  have H5 := blkS_on Z0 Z1 N _ _ H4 Z bi 1011 5 (by decide) hb hZ spread5 spread5_at 515 0 3 (2022 + bi) (by decide) (by decide) (by decide) (by omega)
    (by decide) (by decide) (by omega) (by decide)
  have H6 := blkS_on Z0 Z1 N _ _ H5 Z bi 1012 5 (by decide) hb hZ spread5 spread5_at 515 128 3 (2024 + bi) (by decide) (by decide) (by decide) (by omega)
    (by decide) (by decide) (by omega) (by decide)
  have H7 := blkS_on Z0 Z1 N _ _ H6 Z bi 1021 1 (by decide) hb hZ spread1 spread1_at 520 0 4 (2042 + bi) (by decide) (by decide) (by decide) (by omega)
    (by decide) (by decide) (by omega) (by decide)
  have H8 := blkS_on Z0 Z1 N _ _ H7 Z bi 1022 1 (by decide) hb hZ spread1 spread1_at 520 128 4 (2044 + bi) (by decide) (by decide) (by decide) (by omega)
    (by decide) (by decide) (by omega) (by decide)
  have H9 := blkS_on Z0 Z1 N _ _ H8 Z bi 1023 1 (by decide) hb hZ spread1 spread1_at 521 0 5 (2046 + bi) (by decide) (by decide) (by decide) (by omega)
    (by decide) (by decide) (by omega) (by decide)
  refine H9.mono fun y hy => ?_
  have hlt : (y 0).val < 2048 := (y 0).isLt
  rcases hy with hy | hy
  · exact Or.inl (Or.inl (Or.inl (Or.inl (Or.inl (Or.inl (Or.inl (Or.inl (Or.inl hy))))))))
  · have c (t n : Nat) (i : Nat) (hi : i < n) (h : (y 0).val = 2 * t + bi + 4 * i) : ∃ i, i < n ∧ (y 0).val = 2 * t + bi + 4 * i := ⟨i, hi, h⟩
    by_cases h1 : (y 0).val < 2
    · exact Or.inl (Or.inl (Or.inl (Or.inl (Or.inl (Or.inl (Or.inl (Or.inl (Or.inr (c 0 1 0 (by omega) (by omega))))))))))
    by_cases h2 : (y 0).val < 4
    · exact Or.inl (Or.inl (Or.inl (Or.inl (Or.inl (Or.inl (Or.inl (Or.inr (c 1 1 0 (by omega) (by omega)))))))))
    by_cases h3 : (y 0).val < 6
    · exact Or.inl (Or.inl (Or.inl (Or.inl (Or.inl (Or.inl (Or.inr (c 2 1 0 (by omega) (by omega))))))))
    by_cases h4 : (y 0).val < 2022
    · exact Or.inl (Or.inl (Or.inl (Or.inl (Or.inl (Or.inr ⟨2 * (((y 0).val - 6) / 32) + ((y 0).val - 6) / 2 % 2, ((y 0).val - 6) % 32 / 4,
        by omega, by omega, by omega, by omega⟩)))))
    by_cases h5 : (y 0).val < 2042
    · by_cases h6 : (y 0).val / 2 % 2 = 1
      · exact Or.inl (Or.inl (Or.inl (Or.inl (Or.inr (c 1011 5 (((y 0).val - 2022) / 4) (by omega) (by omega))))))
      · exact Or.inl (Or.inl (Or.inl (Or.inr (c 1012 5 (((y 0).val - 2022) / 4) (by omega) (by omega)))))
    by_cases h7 : (y 0).val < 2044
    · exact Or.inl (Or.inl (Or.inr (c 1021 1 0 (by omega) (by omega))))
    by_cases h8 : (y 0).val < 2046
    · exact Or.inl (Or.inr (c 1022 1 0 (by omega) (by omega)))
    · exact Or.inr (c 1023 1 0 (by omega) (by omega))

/-- The waveform the last point leaves. -/
def outY (X : Vec F S2x512 .f32) (W B : Vec F S1x1026 .f32) (M : Vec F S1026x1024 .bf16) (G : Vec F S1x1024 .f32) (N : Vec F S8x256 .f32)
    (A : Vec F S1024x1026 .f32) : Vec F S2048x128 .f32 :=
  yV (frV 0 (by decide) G M (specV X W B A)) (frV 1 (by decide) G M (specV X W B A)) N

theorem lastY_eq (X : Vec F S2x512 .f32) (W B : Vec F S1x1026 .f32) (M : Vec F S1026x1024 .bf16) (G : Vec F S1x1024 .f32) (N : Vec F S8x256 .f32)
    (A : Vec F S1024x1026 .f32) (S : Vec F S1024x1026 .bf16) (Z : Vec F S528x1024 .f32) (Y : Vec F S2048x128 .f32) :
    lastY X W B M G N A S Z Y = outY X W B M G N A := by
  unfold lastY outY
  rw [lastZ_eq, lastZ0_eq]
  refine (batchYS_on _ _ N 1 _ _ rfl _ _ (batchYS_on _ _ N 0 _ _ rfl _ _ (On.none _ Y))).eq fun y => ?_
  rcases Nat.mod_two_eq_zero_or_one (y 0).val with h | h
  · exact Or.inl (Or.inr h)
  · exact Or.inr h

/-- The ends of a waveform: its first and last sixteen rows. -/
def endsV (Y : Vec F S2048x128 .f32) : Vec F S32x128 .f32 := fun y =>
  Y (ix2 (⟨if (y 0).val < 16 then (y 0).val else 2016 + (y 0).val, by have : (y 0).val < 32 := (y 0).isLt; split_ifs <;> omega⟩ : Fin 2048) (y 1))

theorem endsS_eq (Y : Vec F S2048x128 .f32) (e : Vec F S32x128 .f32) : endsS Y e = endsV Y := by
  have h5 (v : Vec F S16x128 .f32) : k0_pay5 v = v := by funext y; pointwise [k0_pay5]
  have h6 (v : Vec F S16x128 .f32) : k0_pay6 v = v := by funext y; pointwise [k0_pay6]
  unfold endsS
  rw [h5, h6]
  refine (((On.none (endsV Y) e).upd (fun y => (y 0).val < 16) _ _ (fun x => ?_) (fun y hy => Or.inr ?_)).upd
    (fun _ => True) _ _ (fun x => ?_) (fun y _ => ?_)).eq fun _ => trivial
  · have hx : (x 0).val < 16 := (x 0).isLt
    refine congrArg Y (funext (Fin.forall_fin_two.mpr ⟨Fin.ext ?_, Fin.ext ?_⟩))
    · show 0 + 1 * (x 0).val = if 0 + 1 * (x 0).val < 16 then 0 + 1 * (x 0).val else 2016 + (0 + 1 * (x 0).val)
      rw [if_pos (by omega)]
    · rfl
  · refine ⟨(ix2 (⟨(y 0).val, hy⟩ : Fin 16) (y 1) : S16x128.Idx), Fin.forall_fin_two.mpr ⟨?_, ?_⟩⟩
    · show (y 0).val = 0 + 1 * (y 0).val; omega
    · show (y 1).val = 0 + 1 * (y 1).val; omega
  · refine congrArg Y (funext (Fin.forall_fin_two.mpr ⟨Fin.ext ?_, Fin.ext ?_⟩))
    · show 2032 + 1 * (x 0).val = if 16 + 1 * (x 0).val < 16 then 16 + 1 * (x 0).val else 2016 + (16 + 1 * (x 0).val)
      rw [if_neg (by omega)]; omega
    · rfl
  · by_cases h : (y 0).val < 16
    · exact Or.inl h
    · have hy' : (y 0).val < 32 := (y 0).isLt
      refine Or.inr ⟨(ix2 (⟨(y 0).val - 16, by omega⟩ : Fin 16) (y 1) : S16x128.Idx), Fin.forall_fin_two.mpr ⟨?_, ?_⟩⟩
      · show (y 0).val = 16 + 1 * ((y 0).val - 16); omega
      · show (y 1).val = 0 + 1 * (y 1).val; omega

end Cert.Kernel

end
-- ==== Proof.KB.Run.lean ====
module

public import proofs.«01_k».proof.Proof.KB.Body
public import proofs.«01_k».proof.Proof.KB.Closed
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- It holds at the last point only — by arithmetic of the point. -/
theorem hcond0_2 : ∀ t : Fin cfg0.N, cond0_2 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_2, k0_cond3, e0]
    word_cmp
   : ∀ t : Fin grid0.N, cond0_2 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cond0_2 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → ¬cond0_2 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → cond0_1 (grid0.coords t) → ¬cond0_2 (grid0.coords t) → cfg0.idle 9 (grid0.coords t) = true := by decide +kernel
/-- At the points of case B the pipeline does not write output 9's block back. -/
theorem noFlush0_9_B : ∀ t : Fin cfg0.N, ¬cond0_0 (grid0.coords t) → cond0_1 (grid0.coords t) → ¬cond0_2 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cond0_2 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → ¬cond0_2 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → cfg0.idle 10 (grid0.coords t) = true := by decide +kernel
/-- At the points of case B the pipeline does not write output 10's block back. -/
theorem noFlush0_10_B : ∀ t : Fin cfg0.N, ¬cond0_0 (grid0.coords t) → cond0_1 (grid0.coords t) → ¬cond0_2 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cond0_2 (grid0.coords t) → cfg0.idle 10 (grid0.coords t) = false := by decide +kernel

/-- Each window's current staging memref at point `t`, spelled as the pipeline passes it (`bodyAt0`), and its wholeness. -/
abbrev ms0_0 (t : Fin cfg0.N) : Memref sig .tc .vmem S1024x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1026 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1026 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1026 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1026x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1026 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1026 .f32 := Memref.whole cc0_scratch0
abbrev scM0_1 : Memref sig .tc .vmem S528x1024 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the points leave -/

/-- The accumulator after point `n`. -/
def accAt (c : Dev nD) : (n : ℕ) → n < cfg0.N → Vec F S1024x1026 .f32
  | 0, h => k0_pay2 (iblk m c 0 ⟨0, h⟩) (iblk m c 1 ⟨0, h⟩)
  | n + 1, h => k0_pay3 (iblk m c 0 ⟨n + 1, h⟩) (iblk m c 1 ⟨n + 1, h⟩) (accAt c n (Nat.lt_of_succ_lt h))

theorem accAt_zero (c : Dev nD) (t : Fin cfg0.N) (h : t.val = 0) : accAt m c t.val t.isLt = k0_pay2 (iblk m c 0 t) (iblk m c 1 t) := by
  obtain ⟨n, hn⟩ := t
  cases n with
  | zero => rfl
  | succ n => exact absurd h (Nat.succ_ne_zero n)

theorem accAt_pos (c : Dev nD) (t : Fin cfg0.N) (h : t.val ≠ 0) : accAt m c t.val t.isLt
    = k0_pay3 (iblk m c 0 t) (iblk m c 1 t) (accAt m c (t.val - 1) (Nat.lt_of_le_of_lt (Nat.sub_le _ _) t.isLt)) := by
  obtain ⟨n, hn⟩ := t
  cases n with
  | zero => exact absurd rfl h
  | succ n => rfl

/-- The spectrum, -/
def specOut (c : Dev nD) (t : Fin cfg0.N) : Vec F S1024x1026 .bf16 :=
  specV (iblk m c 2 t) (iblk m c 3 t) (iblk m c 4 t) (accAt m c t.val t.isLt)

/-- the waveform -/
def yOut (c : Dev nD) (t : Fin cfg0.N) : Vec F S2048x128 .f32 :=
  outY (iblk m c 2 t) (iblk m c 3 t) (iblk m c 4 t) (iblk m c 5 t) (iblk m c 6 t) (iblk m c 7 t) (accAt m c t.val t.isLt)

/-- and its ends, of the accumulator after point `t`. -/
def endsOut (c : Dev nD) (t : Fin cfg0.N) : Vec F S32x128 .f32 := endsV (yOut m c t)

/-- The region invariant before position `n` with the accumulator carried between points: before the first point
    every scratch at anything; afterwards the accumulator at what the point before left in it (`accAt`), the frame scratch at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at what the last point leaves; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yOut m c t
    | ⟨9, _⟩ => endsOut m c t
    | ⟨10, _⟩ => specOut m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yOut m c t := by dsimp only [dats]
theorem after0_9 (c : Dev nD) (t : Fin cfg0.N) : (dats m 0 c).after 9 t = endsOut m c t := by dsimp only [dats]
theorem after0_10 (c : Dev nD) (t : Fin cfg0.N) : (dats m 0 c).after 10 t = specOut m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point: at the first it leaves the accumulator at that point's product, at a later one at the sum; at the last it leaves the
    outputs as well, whatever they and the frame scratch held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [PhiS_castSucc m c t]
  by_cases hz : t.val = 0
  · have c0 : cond0_0 (grid0.coords t) := (hcond0_0 t).mpr (by omega)
    have c1 : ¬cond0_1 (grid0.coords t) := fun h => absurd ((hcond0_1 t).mp h) (by omega)
    have c2 : ¬cond0_2 (grid0.coords t) := fun h => absurd ((hcond0_2 t).mp h) (by omega)
    rw [Dat.leavesExact_idle (dats m 0 c) 8 t (idleAt0_8_A t c0 c1 c2) (noFlush0_8_A t c0 c1 c2)]
    rw [Dat.leavesExact_idle (dats m 0 c) 9 t (idleAt0_9_A t c0 c1 c2) (noFlush0_9_A t c0 c1 c2)]
    rw [Dat.leavesExact_idle (dats m 0 c) 10 t (idleAt0_10_A t c0 c1 c2) (noFlush0_10_A t c0 c1 c2)]
    rw [PhiS_zero m c _ _ hz, PhiA0_eq, accAt_zero m c t hz]
    iintro ⟨⟨⟨⟨%s0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (wp_bodyA c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) c0 c1 c2 (iblk m c 0 t) (iblk m c 1 t) s0 _)
    isplitl [H0]; · iexact H0
    isplitl [H1]; · iexact H1
    isplitl [HS0]; · iexact HS0
    iintro ⟨H0, H1, HS0⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
  · have c0 : ¬cond0_0 (grid0.coords t) := fun h => absurd ((hcond0_0 t).mp h) (by omega)
    have c1 : cond0_1 (grid0.coords t) := (hcond0_1 t).mpr (by omega)
    rw [PhiS_pos m c _ _ hz]
    by_cases hl : t.val = 31
    · have c2 : cond0_2 (grid0.coords t) := (hcond0_2 t).mpr (by omega)
      rw [show (dats m 0 c).leavesExact 8 t = owns (c : Thread nD τ) (ms0_8 t) fullShare ((dats m 0 c).after 8 t) from by
        unfold Dat.leavesExact; rw [liveAt0_8_C t c0 c1 c2], after0_8]
      rw [show (dats m 0 c).leavesExact 9 t = owns (c : Thread nD τ) (ms0_9 t) fullShare ((dats m 0 c).after 9 t) from by
        unfold Dat.leavesExact; rw [liveAt0_9_C t c0 c1 c2], after0_9]
      rw [show (dats m 0 c).leavesExact 10 t = owns (c : Thread nD τ) (ms0_10 t) fullShare ((dats m 0 c).after 10 t) from by
        unfold Dat.leavesExact; rw [liveAt0_10_C t c0 c1 c2], after0_10]
      unfold endsOut yOut specOut
      rw [accAt_pos m c t hz]
      iintro ⟨⟨⟨HS0, ⟨%z, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (wp_bodyC c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) c0 c1 c2 (iblk m c 0 t) (iblk m c 1 t) (iblk m c 2 t) (iblk m c 3 t) (iblk m c 4 t) (iblk m c 5 t) (iblk m c 6 t) (iblk m c 7 t) _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      rw [lastY_eq, endsS_eq, lastS_eq]
      iintro ⟨H0, H1, H2, H3, H4, H5, H6, H7, H8, H9, H10, HS0, HS1⟩
      isplitl [HS0 HS1 Hg]
      · isplitl [HS0 HS1]
        · isplitl [HS0]; · iexact HS0
          iexists _; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have c2 : ¬cond0_2 (grid0.coords t) := fun h => absurd ((hcond0_2 t).mp h) (by omega)
      rw [Dat.leavesExact_idle (dats m 0 c) 8 t (idleAt0_8_B t c0 c1 c2) (noFlush0_8_B t c0 c1 c2)]
      rw [Dat.leavesExact_idle (dats m 0 c) 9 t (idleAt0_9_B t c0 c1 c2) (noFlush0_9_B t c0 c1 c2)]
      rw [Dat.leavesExact_idle (dats m 0 c) 10 t (idleAt0_10_B t c0 c1 c2) (noFlush0_10_B t c0 c1 c2)]
      rw [accAt_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (wp_bodyB c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) c0 c1 c2 (iblk m c 0 t) (iblk m c 1 t) _ _)
      isplitl [H0]; · iexact H0
      isplitl [H1]; · iexact H1
      isplitl [HS0]; · iexact HS0
      iintro ⟨H0, H1, HS0⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel

end
-- ==== Proof.Val.Math.lean ====
module

public import Idealize.ShloMosaic.Lib.Pointwise

@[expose] public section

noncomputable section

/- The arithmetic that both programs share: the window, the spectrum, the overlap-add. -/
namespace Cert.Val

open Idealize.ShloMosaic

/-- The Hann window at sample `n`. -/
def winAt (n : ℕ) : EReal :=
  Ideal.ofBits FTy.f32 1056964608#32 - Ideal.ofBits FTy.f32 1056964608#32 *
    Ideal.cos (FloatOps.sitofp (F := Ideal) FTy.f32 (BitVec.ofNat 32 n) * Ideal.ofBits FTy.f32 1003032539#32)

/-- Its square. -/
def sqAt (n : ℕ) : EReal := winAt n * winAt n

/-- Entry `j` of the spectrum of a frame whose head is `h`: magnitude times cosine, then magnitude times sine. -/
def specAt (h : Fin 1026 → EReal) (j : Fin 1026) : EReal :=
  if hj : j.val < 513 then min (Ideal.exp (h j)) (Ideal.ofBits FTy.f32 1120403456#32) * Ideal.cos (h ⟨513 + j.val, by omega⟩)
  else min (Ideal.exp (h ⟨j.val - 513, by omega⟩)) (Ideal.ofBits FTy.f32 1120403456#32) * Ideal.sin (h j)

/-- One entry of the matrix product, -/
def dotAt (x w : Fin 16384 → EReal) : EReal := ∑ k, x k * w k

/-- and of the head: the product scaled twice, and shifted. -/
def headAt (a x w b : EReal) : EReal := a * x * w + b

/-- Sample `j` of a windowed frame. -/
def frameAt (s : Fin 1026 → EReal) (g : Fin 1026 → Fin 1024 → EReal) (j : Fin 1024) : EReal :=
  (∑ k, s k * g k j) * winAt j.val

/-- One term of an overlap-add: block `r` of the frame that covers row `q`, zero where there is none. -/
def tapAt (v : Fin 512 → Fin 1024 → EReal) (q p r : ℕ) (hp : p < 256) (hr : r < 4) : EReal :=
  if h : r ≤ q ∧ q - r < 512 then v ⟨q - r, h.2⟩ ⟨256 * r + p, by omega⟩ else 0

/-- The overlap-add of the four blocks at row `q`, place `p`. -/
def olaAt (v : Fin 512 → Fin 1024 → EReal) (q p : ℕ) (hp : p < 256) : EReal :=
  tapAt v q p 0 hp (by omega) + tapAt v q p 1 hp (by omega) + tapAt v q p 2 hp (by omega) + tapAt v q p 3 hp (by omega)

/-- Sample `n` of the waveform. -/
def refY (v : Fin 512 → Fin 1024 → EReal) (w : Fin 1024 → EReal) (n : Fin 131072) : EReal :=
  Ideal.div (olaAt v ((384 + n) / 256) ((384 + n) % 256) (by omega)) (olaAt (fun _ j => w j * w j) ((384 + n) / 256) ((384 + n) % 256) (by omega))

theorem zero_sitofp : FloatOps.sitofp (F := Ideal) FTy.f32 0#32 = (0 : EReal) := by
  show ((((0#32 : BitVec 32).toInt : ℤ) : ℝ) : EReal) = 0
  simp

/-- A batch's frames between rows of zeros: row `Y` holds frame `Y - 8`. -/
def padAt (v : Fin 512 → Fin 1024 → EReal) (Y : Fin 528) (j : Fin 1024) : EReal :=
  if h : 8 ≤ Y.val ∧ Y.val < 520 then v ⟨Y.val - 8, by omega⟩ j else 0

/-- A read of the padded frames is a term of the overlap-add. -/
theorem padAt_tap (v : Fin 512 → Fin 1024 → EReal) (q p r : ℕ) (hp : p < 256) (hr : r < 4) (hq : q < 515) (Y : Fin 528) (hY : Y.val + r = 8 + q)
    (j : Fin 1024) (hj : j.val = 256 * r + p) : padAt v Y j = tapAt v q p r hp hr := by
  unfold padAt tapAt
  by_cases h : r ≤ q ∧ q - r < 512
  · rw [dif_pos h, dif_pos (by omega)]
    exact congrArg₂ v (Fin.ext (by simp only; omega)) (Fin.ext hj)
  · rw [dif_neg h, dif_neg (by omega)]

/-- The four terms of the window's own overlap-add, by the row. -/
theorem envAt_one (f : Fin 1024 → EReal) (p : ℕ) (hp : p < 256) :
    olaAt (fun _ => f) 1 p hp = f ⟨p, by omega⟩ + f ⟨256 + p, by omega⟩ := by
  simp [olaAt, tapAt]
theorem envAt_two (f : Fin 1024 → EReal) (p : ℕ) (hp : p < 256) :
    olaAt (fun _ => f) 2 p hp = f ⟨p, by omega⟩ + f ⟨256 + p, by omega⟩ + f ⟨512 + p, by omega⟩ := by
  simp [olaAt, tapAt]
theorem envAt_mid (f : Fin 1024 → EReal) (q p : ℕ) (hp : p < 256) (h3 : 3 ≤ q) (h512 : q < 512) :
    olaAt (fun _ => f) q p hp = f ⟨p, by omega⟩ + f ⟨256 + p, by omega⟩ + f ⟨512 + p, by omega⟩ + f ⟨768 + p, by omega⟩ := by
  unfold olaAt tapAt
  rw [dif_pos (by omega), dif_pos (by omega), dif_pos (by omega), dif_pos (by omega)]
  simp
theorem envAt_512 (f : Fin 1024 → EReal) (p : ℕ) (hp : p < 256) :
    olaAt (fun _ => f) 512 p hp = f ⟨256 + p, by omega⟩ + f ⟨512 + p, by omega⟩ + f ⟨768 + p, by omega⟩ := by
  simp [olaAt, tapAt]
theorem envAt_513 (f : Fin 1024 → EReal) (p : ℕ) (hp : p < 256) :
    olaAt (fun _ => f) 513 p hp = f ⟨512 + p, by omega⟩ + f ⟨768 + p, by omega⟩ := by
  simp [olaAt, tapAt]

/-- The head of frame `t` of batch `b`: the product of the codes, scaled twice, and shifted. -/
def headOf (x : Fin 2 → Fin 512 → Fin 16384 → EReal) (xs : Fin 2 → Fin 512 → EReal) (w : Fin 16384 → Fin 1026 → EReal) (ws bias : Fin 1026 → EReal)
    (b : Fin 2) (t : Fin 512) (j : Fin 1026) : EReal :=
  headAt (dotAt (x b t) fun k => w k j) (xs b t) (ws j) (bias j)

/-- The waveform of a head, -/
def waveOf (h : Fin 2 → Fin 512 → Fin 1026 → EReal) (g : Fin 1026 → Fin 1024 → EReal) (b : Fin 2) (n : Fin 131072) : EReal :=
  refY (fun t => frameAt (specAt (h b t)) g) (fun j => winAt j.val) n

/-- and the samples at its two ends. -/
def endOf (n : Fin 2048) : Fin 131072 := ⟨if n.val < 1024 then n.val else 130048 + (n.val - 1024), by split <;> omega⟩

end Cert.Val

end
-- ==== Proof.Val.KerOut.lean ====
module

public import proofs.«01_k».proof.Proof.KI.Run
public import proofs.«01_k».proof.Proof.Val.Math
public import Idealize.ShloMosaic.Lib.Pipeline.ValueKit

@[expose] public section

set_option maxRecDepth 16384

noncomputable section

/- What the region leaves in its three result arrays. -/
namespace Cert.KernelIdeal.Val

open Idealize.ShloMosaic Idealize.ShloMosaic.TcCoe Idealize.ShloMosaic.Tactic
open Idealize.ShloMosaic.Pipeline (Dat Cfg Window)
open Cert.KernelIdeal.Gen Cert.Val

variable (m : (ℓ : Loc nD τ sig) → Buf (Elt Ideal) ℓ) (c : Dev nD)

/-- Where each input's block lies at a point. -/
theorem idx : ∀ t : Fin cfg0.N, win0_0.index t = ![0, t.val] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem iblk_0 (t : Fin cfg0.N) (R : Fin 1024) (k : Fin 512) (h : t.val * 512 + k.val < 16384) :
    iblk m c 0 t (ix2 R k) = V m c main_v0 (ix2 R ⟨t.val * 512 + k.val, h⟩) := by
  blk_simp [iblk]
  congr 1
  blk_ext [idx t]

theorem iblk_1 (t : Fin cfg0.N) (k : Fin 512) (j : Fin 1026) (h : t.val * 512 + k.val < 16384) :
    iblk m c 1 t (ix2 k j) = V m c main_arg2 (ix2 ⟨t.val * 512 + k.val, h⟩ j) := by
  blk_simp [iblk]
  congr 1
  blk_ext [idx t]

theorem iblk_2 (t : Fin cfg0.N) : iblk m c 2 t = V m c main_arg1 := by
  funext x
  blk_simp [iblk]
  congr 1
  blk_ext [idx t]
theorem iblk_3 (t : Fin cfg0.N) : iblk m c 3 t = V m c main_v1 := by
  funext x
  blk_simp [iblk]
  congr 1
  blk_ext [idx t]
theorem iblk_4 (t : Fin cfg0.N) : iblk m c 4 t = V m c main_v2 := by
  funext x
  blk_simp [iblk]
  congr 1
  blk_ext [idx t]
theorem iblk_5 (t : Fin cfg0.N) : iblk m c 5 t = V m c main_v32 := by
  funext x
  blk_simp [iblk]
  congr 1
  blk_ext [idx t]
theorem iblk_6 (t : Fin cfg0.N) : iblk m c 6 t = V m c main_v41 := by
  funext x
  blk_simp [iblk]
  congr 1
  blk_ext [idx t]
theorem iblk_7 (t : Fin cfg0.N) : iblk m c 7 t = V m c main_v108 := by
  funext x
  blk_simp [iblk]
  congr 1
  blk_ext [idx t]

/-- One product of the contraction. -/
def prod1 (R : Fin 1024) (j : Fin 1026) (k : Fin 16384) : EReal :=
  let x : EReal := V m c main_v0 (ix2 R k)
  let w : EReal := V m c main_arg2 (ix2 k j)
  x * w

theorem pay1_at (t : Fin cfg0.N) (R : Fin 1024) (j : Fin 1026) :
    k0_pay1 (iblk m c 0 t) (iblk m c 1 t) (ix2 R j)
      = ∑ k : Fin 512, prod1 m c R j ⟨t.val * 512 + k.val, by have := Nat.lt_of_lt_of_eq t.isLt N_0; omega⟩ := by
  unfold prod1
  have ht := Nat.lt_of_lt_of_eq t.isLt N_0
  pointwise [k0_pay1]
  exact Finset.sum_congr rfl fun k _ => congrArg₂ (· * ·) (iblk_0 m c t R k (by omega)) (iblk_1 m c t k j (by omega))

theorem accAt_at (R : Fin 1024) (j : Fin 1026) : ∀ (n : ℕ) (h : n < cfg0.N), accAt m c n h (ix2 R j)
    = ∑ i : Fin (n + 1), ∑ k : Fin 512, prod1 m c R j ⟨i.val * 512 + k.val, by have := Nat.lt_of_lt_of_eq h N_0; omega⟩ := by
  intro n
  induction n with
  | zero =>
    intro h
    rw [Fin.sum_univ_one]
    refine Eq.trans ?_ (pay1_at m c ⟨0, h⟩ R j)
    unfold accAt k0_pay2
    pointwise
  | succ n ih =>
    intro h
    rw [Fin.sum_univ_castSucc]
    refine Eq.trans ?_ (congrArg₂ (· + ·) (ih (Nat.lt_of_succ_lt h)) (pay1_at m c ⟨n + 1, h⟩ R j))
    conv_lhs => unfold accAt k0_pay3
    pointwise

theorem accAt_last (t : Fin cfg0.N) (ht : t.val = 31) (R : Fin 1024) (j : Fin 1026) :
    accAt m c t.val t.isLt (ix2 R j) = ∑ k, prod1 m c R j k := by
  obtain ⟨n, hn⟩ := t
  dsimp only at ht
  subst ht
  rw [accAt_at, Fin.sum_univ_tiles 32 512 rfl]

theorem whole_8 : ∀ t : Fin cfg0.N, t.val = 31 → (cfg0.win 8).WholeAt t := by decide +kernel
theorem whole_9 : ∀ t : Fin cfg0.N, t.val = 31 → (cfg0.win 9).WholeAt t := by decide +kernel
theorem whole_10 : ∀ t : Fin cfg0.N, t.val = 31 → (cfg0.win 10).WholeAt t := by decide +kernel

theorem final_8 (t : Fin cfg0.N) (ht : t.val = 31) : (dats m 0 c).arrAt 8 cfg0.N = yOut m c t := by
  refine (dats m 0 c).arrAt_eq_of_after_last 8 t (whole_8 t ht) _ fun j => ?_
  blk_simp
  rw [after0_8]
theorem final_9 (t : Fin cfg0.N) (ht : t.val = 31) : (dats m 0 c).arrAt 9 cfg0.N = endsOut m c t := by
  refine (dats m 0 c).arrAt_eq_of_after_last 9 t (whole_9 t ht) _ fun j => ?_
  blk_simp
  rw [after0_9]
theorem final_10 (t : Fin cfg0.N) (ht : t.val = 31) : (dats m 0 c).arrAt 10 cfg0.N = specOut m c t := by
  refine (dats m 0 c).arrAt_eq_of_after_last 10 t (whole_10 t ht) _ fun j => ?_
  blk_simp
  rw [after0_10]

/-- The head of row `R`, before the spectrum. -/
def headK (R : Fin 1024) (j : Fin 1026) : EReal :=
  headAt (∑ k, prod1 m c R j k) (V m c main_arg1 (ix2 ⟨R.val / 512, by omega⟩ ⟨R.val % 512, by omega⟩)) (V m c main_v1 (ix2 0 j)) (V m c main_v2 (ix2 0 j))

theorem spec_at (t : Fin cfg0.N) (ht : t.val = 31) (R : Fin 1024) (j : Fin 1026) :
    specOut m c t (ix2 R j) = Cert.Val.specAt (headK m c R) j := by
  unfold specOut specV
  rw [iblk_2, iblk_3, iblk_4]
  unfold Cert.KernelIdeal.specAt Cert.Val.specAt magAt hAt headK headAt
  pointwise [accAt_last m c t ht]

/-- One batch's frames, between rows of zeros. -/
theorem fr_at (bi : Nat) (hb : bi < 2) (G : Vec Ideal S1x1024 .f32) (M : Vec Ideal S1026x1024 .bf16) (T : Vec Ideal S1024x1026 .bf16)
    (y0 : Fin 528) (y1 : Fin 1024) :
    frV bi hb G M T (ix2 y0 y1) = if h : 8 ≤ y0.val ∧ y0.val < 520 then
      (∑ k, T (ix2 ⟨512 * bi + (y0.val - 8), by omega⟩ k) * M (ix2 k y1)) * G (ix2 0 y1) else (0 : EReal) := by
  unfold frV specOf
  pointwise [k0_pay28]

end Cert.KernelIdeal.Val

end
-- ==== Proof.Val.RefLines.lean ====
module

public import proofs.«01_k».proof.Proof.Gen.ReferenceIdeal.Frame
public import proofs.«01_k».proof.Proof.Val.Math
public import Idealize.ShloMosaic.Lib.StableHlo.ReadAt
public import Idealize.ShloMosaic.Lib.Pipeline.ValueKit

@[expose] public section

set_option maxRecDepth 16384

noncomputable section

/- The lines of the reference after its matrix product, read in four parts. -/
namespace Cert.ReferenceIdeal.Val

open Idealize.ShloMosaic Idealize.ShloMosaic.TcCoe Idealize.ShloMosaic.Tactic
open Cert.ReferenceIdeal.Gen Cert.Val

/-- The first part: the spectrum and the basis. -/
abbrev opsA : List (HloOp τ sig (Elt Ideal)) :=
  hostOps1 ++ hostOps1_1 ++ hostOps1_2 ++ hostOps1_3 ++ hostOps1_4 ++ hostOps1_5 ++ hostOps1_6.take 2

/-- The second part: the windowed frames. -/
abbrev opsB : List (HloOp τ sig (Elt Ideal)) := (hostOps1_6.take 18).drop 2

/-- The third part: the overlap-add and the waveform. -/
abbrev opsC : List (HloOp τ sig (Elt Ideal)) :=
  hostOps1_6.drop 18 ++ hostOps1_7 ++ hostOps1_8 ++ hostOps1_9 ++ hostOps1_10 ++ hostOps1_11 ++ hostOps1_12 ++ hostOps1_13 ++ hostOps1_14
    ++ hostOps1_15 ++ hostOps1_16 ++ hostOps1_17 ++ hostOps1_18 ++ hostOps1_19 ++ hostOps1_20 ++ hostOps1_21 ++ hostOps1_22.take 7

/-- The last part: the two ends of the waveform. -/
abbrev opsD : List (HloOp τ sig (Elt Ideal)) :=
  [ StableHlo.unary main_v105 main_v106 ((extractStridedSlice S2x1024 ![0, 0] · slices_S2x131072_S2x1024_0_0) : (⟨S2x131072, .f32⟩ : BufTy).Contents (Elt Ideal) → (⟨S2x1024, .f32⟩ : BufTy).Contents (Elt Ideal)),
    StableHlo.unary main_v105 main_v107 ((extractStridedSlice S2x1024 ![0, 130048] · slices_S2x131072_S2x1024_0_130048) : (⟨S2x131072, .f32⟩ : BufTy).Contents (Elt Ideal) → (⟨S2x1024, .f32⟩ : BufTy).Contents (Elt Ideal)),
    StableHlo.binary main_v106 main_v107 main_v108 ((fun a b => concatenate S2x2048 1 [⟨S2x1024, a⟩, ⟨S2x1024, b⟩] concatenates_S2x1024_S2x1024_S2x2048_d1) : (⟨S2x1024, .f32⟩ : BufTy).Contents (Elt Ideal) → (⟨S2x1024, .f32⟩ : BufTy).Contents (Elt Ideal) → (⟨S2x2048, .f32⟩ : BufTy).Contents (Elt Ideal)) ]

theorem ops_eq : List.flatten [hostOps1, hostOps1_1, hostOps1_2, hostOps1_3, hostOps1_4, hostOps1_5, hostOps1_6, hostOps1_7, hostOps1_8, hostOps1_9, hostOps1_10,
      hostOps1_11, hostOps1_12, hostOps1_13, hostOps1_14, hostOps1_15, hostOps1_16, hostOps1_17, hostOps1_18, hostOps1_19, hostOps1_20, hostOps1_21, hostOps1_22]
    = (opsA ++ opsB ++ opsC ++ opsD : List (HloOp τ sig (Elt Ideal))) := rfl

variable (U : Valuation τ sig (Elt Ideal))

theorem ends_eq (b : Fin 2) (n : Fin 2048) :
    StableHlo.after opsD U (Proc.devRef .tc main_v108) (ix2 b n)
      = U (Proc.devRef .tc main_v105) (ix2 b ⟨if n.val < 1024 then n.val else 130048 + (n.val - 1024), by split <;> omega⟩) := by
  after_reads_at
  by_cases h : n.val < 1024
  · simp only [h, ↓reduceDIte, ↓reduceIte]
  · simp only [h, ↓reduceDIte, ↓reduceIte]

theorem y_eq (b : Fin 2) (n : Fin 131072) :
    StableHlo.after opsC U (Proc.devRef .tc main_v105) (ix2 b n)
      = refY (fun t j => U (Proc.devRef .tc main_v65) (ix4 b t ⟨j.val / 256, by omega⟩ ⟨j.val % 256, by omega⟩))
          (fun j => U (Proc.devRef .tc main_v61) (ix1 j)) n := by
  unfold refY
  after_reads_at
  unfold olaAt tapAt
  have hp : (384 + n.val) % 256 < 256 := Nat.mod_lt _ (by omega)
  refine congrArg₂ Ideal.div (congrArg₂ (· + ·) (congrArg₂ (· + ·) (congrArg₂ (· + ·) ?_ ?_) ?_) ?_)
    (congrArg₂ (· + ·) (congrArg₂ (· + ·) (congrArg₂ (· + ·) ?_ ?_) ?_) ?_)
  all_goals refine dite_congr (propext (by omega)) (fun h => ?_) (fun h => zero_sitofp)
  iterate 4 (focus (congr 1; blk_ext))
  all_goals simp only [Nat.mul_zero, Nat.zero_add, Nat.mul_one, Nat.reduceMul]

theorem frames_eq (b : Fin 2) (t : Fin 512) (r : Fin 4) (l : Fin 256) :
    StableHlo.after opsB U (Proc.devRef .tc main_v65) (ix4 b t r l)
      = frameAt (fun k => U (Proc.devRef .tc main_v22) (ix3 b t k)) (fun k j => U (Proc.devRef .tc main_v52) (ix2 k j)) ⟨r * 256 + l, by omega⟩ := by
  unfold frameAt winAt
  after_reads_at

theorem win_eq (j : Fin 1024) : StableHlo.after opsB U (Proc.devRef .tc main_v61) (ix1 j) = winAt j.val := by
  unfold winAt
  after_reads_at

theorem spec_eq (b : Fin 2) (t : Fin 512) (j : Fin 1026) :
    StableHlo.after opsA U (Proc.devRef .tc main_v22) (ix3 b t j)
      = specAt (fun j => headAt (U (Proc.devRef .tc main_v1) (ix2 ⟨b.val * 512 + t.val, by omega⟩ j)) (U (Proc.devRef .tc main_arg1) (ix2 b t))
          (U (Proc.devRef .tc main_arg3) (ix1 j)) (U (Proc.devRef .tc main_arg4) (ix1 j))) j := by
  unfold specAt headAt
  after_reads_at
  after_reads_at
  refine dite_congr rfl (fun h => rfl) (fun h => ?_)
  have e : (⟨513 + (j.val - 513), by omega⟩ : Fin 1026) = j := Fin.ext (by simp only; omega)
  simp only [e]

/-- A buffer that the second part does not write. -/
theorem spec_B : StableHlo.after opsB U (Proc.devRef .tc main_v22) = U (Proc.devRef .tc main_v22) := by
  after_reads_simp
theorem spec_C : StableHlo.after opsC U (Proc.devRef .tc main_v22) = U (Proc.devRef .tc main_v22) := by
  after_reads_simp
theorem spec_D : StableHlo.after opsD U (Proc.devRef .tc main_v22) = U (Proc.devRef .tc main_v22) := by
  after_reads_simp
theorem y_D : StableHlo.after opsD U (Proc.devRef .tc main_v105) = U (Proc.devRef .tc main_v105) := by
  after_reads_simp

end Cert.ReferenceIdeal.Val

end
-- ==== Proof.Val.KerLines.lean ====
module

public import proofs.«01_k».proof.Proof.Gen.KernelIdeal.Frame
public import proofs.«01_k».proof.Proof.Val.RefLines
public import proofs.«01_k».proof.Proof.Val.Math
public import Idealize.ShloMosaic.Lib.StableHlo.ReadAt
public import Idealize.ShloMosaic.Lib.Pipeline.ValueKit

@[expose] public section

set_option maxRecDepth 16384

noncomputable section

/- The lines of the kernel's program before its region, read at an index. -/
namespace Cert.KernelIdeal.Val

open Idealize.ShloMosaic Idealize.ShloMosaic.TcCoe Idealize.ShloMosaic.Tactic
open Cert.KernelIdeal.Gen Cert.Val

variable (m : (ℓ : Loc nD τ sig) → Buf (Elt Ideal) ℓ) (c : Dev nD)

theorem x_eq (R : Fin 1024) (k : Fin 16384) :
    V m c main_v0 (ix2 R k) = m ((c.tc : Thread nD τ).loc main_arg0) (ix3 ⟨R.val / 512, by omega⟩ ⟨R.val % 512, by omega⟩ k) := by
  unfold V V0
  after_reads_at

theorem ws_eq (j : Fin 1026) : V m c main_v1 (ix2 0 j) = m ((c.tc : Thread nD τ).loc main_arg3) (ix1 j) := by
  unfold V V0
  after_reads_at

theorem b_eq (j : Fin 1026) : V m c main_v2 (ix2 0 j) = m ((c.tc : Thread nD τ).loc main_arg4) (ix1 j) := by
  unfold V V0
  after_reads_at

theorem win_eq (j : Fin 1024) : V m c main_v41 (ix2 0 j) = winAt j.val := by
  unfold V V0 winAt
  after_reads_at

theorem env1_eq (l : Fin 256) : V m c main_v108 (ix2 1 l) = sqAt l + sqAt (256 + l) := by
  unfold V V0 sqAt winAt
  after_reads_at
  after_reads_at

theorem env2_eq (l : Fin 256) : V m c main_v108 (ix2 2 l) = sqAt l + sqAt (256 + l) + sqAt (512 + l) := by
  unfold V V0 sqAt winAt
  after_reads_at
  after_reads_at

theorem env3_eq (l : Fin 256) : V m c main_v108 (ix2 3 l) = sqAt l + sqAt (256 + l) + sqAt (512 + l) + sqAt (768 + l) := by
  unfold V V0 sqAt winAt
  after_reads_at
  after_reads_at

theorem env4_eq (l : Fin 256) : V m c main_v108 (ix2 4 l) = sqAt (256 + l) + sqAt (512 + l) + sqAt (768 + l) := by
  unfold V V0 sqAt winAt
  after_reads_at
  after_reads_at

theorem env5_eq (l : Fin 256) : V m c main_v108 (ix2 5 l) = sqAt (512 + l) + sqAt (768 + l) := by
  unfold V V0 sqAt winAt
  after_reads_at
  after_reads_at

/-- Both programs build the same basis. -/
theorem bas_ref (U : Valuation Cert.ReferenceIdeal.τ Cert.ReferenceIdeal.sig (Elt Ideal)) (k : Fin 1026) (n : Fin 1024) :
    V m c main_v32 (ix2 k n) = StableHlo.after (Cert.ReferenceIdeal.Val.opsA) U (Proc.devRef .tc Cert.ReferenceIdeal.main_v52) (ix2 k n) := by
  unfold V V0
  after_reads_at
  after_reads_simp
  rfl

end Cert.KernelIdeal.Val

end
-- ==== Proof.Val.KerY.lean ====
module

public import proofs.«01_k».proof.Proof.Val.KerOut
public import proofs.«01_k».proof.Proof.Val.KerLines

@[expose] public section

set_option maxRecDepth 16384

noncomputable section

/- The kernel's results at an index. -/
namespace Cert.KernelIdeal.Val

open Idealize.ShloMosaic Idealize.ShloMosaic.TcCoe Idealize.ShloMosaic.Tactic
open Idealize.ShloMosaic.Pipeline (Dat Cfg Window)
open Cert.KernelIdeal.Gen Cert.Val

variable (m : (ℓ : Loc nD τ sig) → Buf (Elt Ideal) ℓ) (c : Dev nD)

/-- The windowed frames of a batch. -/
def frameK (bi : ℕ) (hb : bi < 2) (t : Fin 512) (j : Fin 1024) : EReal :=
  frameAt (Cert.Val.specAt (headK m c ⟨512 * bi + t.val, by omega⟩)) (fun k j => V m c main_v32 (ix2 k j)) j

theorem frameK_congr {a b : ℕ} (ha : a < 2) (hb : b < 2) (h : a = b) : frameK m c a ha = frameK m c b hb := by
  subst h; rfl

theorem frames_at (t : Fin cfg0.N) (ht : t.val = 31) (bi : ℕ) (hb : bi < 2) (y0 : Fin 528) (y1 : Fin 1024) :
    frV bi hb (V m c main_v41) (V m c main_v32) (specOut m c t) (ix2 y0 y1) = padAt (frameK m c bi hb) y0 y1 := by
  refine (fr_at bi hb _ _ _ y0 y1).trans (dite_congr rfl (fun h => ?_) fun _ => rfl)
  unfold frameK frameAt
  refine congrArg₂ (· * ·) (Finset.sum_congr rfl fun k _ => ?_) (win_eq m c y1)
  exact congrArg (fun z : EReal => z * _) (spec_at m c t ht _ k)

/-- The envelope table holds the window's own overlap-add. -/
theorem env_at (q p : ℕ) (hp : p < 256) (h1 : 1 ≤ q) (h2 : q ≤ 513) :
    V m c main_v108 (ix2 ⟨envRow q, envRow_lt q⟩ ⟨p, hp⟩) = olaAt (fun _ j => winAt j.val * winAt j.val) q p hp := by
  by_cases e1 : q = 1
  · subst e1
    exact (env1_eq m c ⟨p, hp⟩).trans (envAt_one (fun j => winAt j.val * winAt j.val) p hp).symm
  by_cases e2 : q = 2
  · subst e2
    exact (env2_eq m c ⟨p, hp⟩).trans (envAt_two (fun j => winAt j.val * winAt j.val) p hp).symm
  by_cases e4 : q = 512
  · subst e4
    exact (env4_eq m c ⟨p, hp⟩).trans (envAt_512 (fun j => winAt j.val * winAt j.val) p hp).symm
  by_cases e5 : q = 513
  · subst e5
    exact (env5_eq m c ⟨p, hp⟩).trans (envAt_513 (fun j => winAt j.val * winAt j.val) p hp).symm
  have e3 : envRow q = 3 := by unfold envRow; rw [if_neg e1, if_neg e2, if_neg e4, if_neg e5]
  have e : (⟨envRow q, envRow_lt q⟩ : Fin 8) = 3 := Fin.ext e3
  rw [e]
  exact (env3_eq m c ⟨p, hp⟩).trans (envAt_mid (fun j => winAt j.val * winAt j.val) q p hp (by omega) (by omega)).symm

theorem yAt_at (Z : Vec Ideal S528x1024 .f32) (v : Fin 512 → Fin 1024 → EReal) (hZ : ∀ y0 y1, Z (ix2 y0 y1) = padAt v y0 y1)
    (t : ℕ) (ht : t < 1024) (l : Fin 128) (n : Fin 131072) (hn : n.val = 128 * t + l.val) :
    yAt Z (V m c main_v108) t ht l = refY v (fun j => winAt j.val) n := by
  have hq : (384 + n.val) / 256 = (t + 3) / 2 := by omega
  have hp : (384 + n.val) % 256 = 128 * ((t + 3) % 2) + l.val := by omega
  unfold refY yAt
  simp only [hq, hp]
  refine congrArg₂ Ideal.div ?_ (env_at m c _ _ _ (by omega) (by omega))
  unfold olaAt
  refine congrArg₂ (· + ·) (congrArg₂ (· + ·) (congrArg₂ (· + ·) ?_ ?_) ?_) ?_
  all_goals refine (hZ _ _).trans (padAt_tap v _ _ _ _ _ (by omega) _ ?_ _ ?_)
  all_goals simp only
  all_goals omega

theorem yOut_at (t : Fin cfg0.N) (ht : t.val = 31) (b : Fin 2) (Y : Fin 2048) (l : Fin 128) (n : Fin 131072)
    (hb : Y.val % 2 = b.val) (hn : n.val = 128 * (Y.val / 2) + l.val) :
    yOut m c t (ix2 Y l) = refY (frameK m c b.val b.isLt) (fun j => winAt j.val) n := by
  unfold yOut outY yV
  rw [iblk_2, iblk_3, iblk_4, iblk_5, iblk_6, iblk_7]
  have hS : specV (V m c main_arg1) (V m c main_v1) (V m c main_v2) (accAt m c t.val t.isLt) = specOut m c t := by
    unfold specOut; rw [iblk_2, iblk_3, iblk_4]
  rw [hS]
  refine yAt_at m c _ _ (fun y0 y1 => ?_) _ _ _ n hn
  by_cases h : Y.val % 2 = 0
  · have : ((ix2 Y l) 0 : Fin 2048).val % 2 = 0 := h
    rw [if_pos this]
    refine (frames_at m c t ht 0 (by omega) y0 y1).trans ?_
    rw [frameK_congr m c _ b.isLt (h.symm.trans hb)]
  · have : ¬((ix2 Y l) 0 : Fin 2048).val % 2 = 0 := h
    rw [if_neg this]
    refine (frames_at m c t ht 1 (by omega) y0 y1).trans ?_
    rw [frameK_congr m c _ b.isLt (show 1 = b.val by omega)]

/-! ## The lines after the region -/

section Tail
variable (U : Valuation τ sig (Elt Ideal))

theorem tail_y (b : Fin 2) (n : Fin 131072) : StableHlo.after hostOps1 U (Proc.devRef .tc main_v112) (ix2 b n)
    = U (Proc.devRef .tc main_v109_0) (ix2 ⟨n.val / 128 * 2 + b.val, by omega⟩ ⟨n.val % 128, by omega⟩) := by
  after_reads_at

theorem tail_ends (b : Fin 2) (n : Fin 2048) : StableHlo.after hostOps1 U (Proc.devRef .tc main_v115) (ix2 b n)
    = U (Proc.devRef .tc main_v109_1) (ix2 ⟨n.val / 128 * 2 + b.val, by omega⟩ ⟨n.val % 128, by omega⟩) := by
  after_reads_at

theorem tail_spec (b : Fin 2) (t : Fin 512) (j : Fin 1026) : StableHlo.after hostOps1 U (Proc.devRef .tc main_v116) (ix3 b t j)
    = U (Proc.devRef .tc main_v109_2) (ix2 ⟨b.val * 512 + t.val, by omega⟩ j) := by
  after_reads_at
end Tail

end Cert.KernelIdeal.Val

end
-- ==== Proof.Val.KerRun.lean ====
module

public import proofs.«01_k».proof.Proof.Val.KerY

@[expose] public section

set_option maxRecDepth 16384

noncomputable section

/- The kernel's program run: its three results as functions of its arguments. -/
namespace Cert.KernelIdeal.Val

open Idealize.ShloMosaic Idealize.ShloMosaic.TcCoe Idealize.ShloMosaic.Tactic
open Idealize.ShloMosaic.Pipeline (Dat Cfg Window)
open Idealize.SL.Sem
open Cert.KernelIdeal.Gen Cert.Val

variable (m : (ℓ : Loc nD τ sig) → Buf (Elt Ideal) ℓ) (c : Dev nD)

/-- The head, of the arguments. -/
def head (b : Fin 2) (t : Fin 512) (j : Fin 1026) : EReal :=
  headOf (fun b t k => m ((c.tc : Thread nD τ).loc main_arg0) (ix3 b t k)) (fun b t => m ((c.tc : Thread nD τ).loc main_arg1) (ix2 b t))
    (fun k j => m ((c.tc : Thread nD τ).loc main_arg2) (ix2 k j)) (fun j => m ((c.tc : Thread nD τ).loc main_arg3) (ix1 j))
    (fun j => m ((c.tc : Thread nD τ).loc main_arg4) (ix1 j)) b t j

/-- The basis. -/
def basis (k : Fin 1026) (j : Fin 1024) : EReal := V m c main_v32 (ix2 k j)

theorem headK_eq (b : Fin 2) (t : Fin 512) (R : Fin 1024) (hR : R.val = b.val * 512 + t.val) : headK m c R = head m c b t := by
  funext j
  have hb : (⟨R.val / 512, by omega⟩ : Fin 2) = b := Fin.ext (by simp only; omega)
  have ht : (⟨R.val % 512, by omega⟩ : Fin 512) = t := Fin.ext (by simp only; omega)
  have a1 : (∑ k, prod1 m c R j k) = dotAt (fun k => m ((c.tc : Thread nD τ).loc main_arg0) (ix3 b t k)) (fun k => m ((c.tc : Thread nD τ).loc main_arg2) (ix2 k j)) :=
    Finset.sum_congr rfl fun k _ => congrArg₂ (fun x w : EReal => x * w)
      ((x_eq m c R k).trans (congrArg₂ (fun b t => m ((c.tc : Thread nD τ).loc main_arg0) (ix3 b t k)) hb ht)) (congrFun (V_main_arg2 m c) _)
  have a2 := (congrFun (V_main_arg1 m c) (ix2 (⟨R.val / 512, by omega⟩ : Fin 2) (⟨R.val % 512, by omega⟩ : Fin 512))).trans
    (congrArg₂ (fun b t => m ((c.tc : Thread nD τ).loc main_arg1) (ix2 b t)) hb ht)
  have e := congr (congr (congr (congrArg headAt a1) a2) (ws_eq m c j)) (b_eq m c j)
  exact e

theorem frameK_eq (b : Fin 2) : frameK m c b.val b.isLt = fun t => frameAt (Cert.Val.specAt (head m c b t)) (basis m c) := by
  funext t
  unfold frameK
  rw [headK_eq m c b t _ (by simp only; omega)]
  rfl

/-- The buffers after the region, when the later lines start. -/
abbrev exitV : Valuation τ sig (Elt Ideal) :=
  Pipeline.withArrays (cfgs 0).spec c (V0 m c) fun w => (dats m 0 c).arrAt w (cfgs 0).N

theorem exit_8 : exitV m c (Proc.devRef .tc main_v109_0) = (dats m 0 c).arrAt 8 cfg0.N :=
  Pipeline.withArrays_arr (cfgs 0).spec launch0.win.arr_inj c (V0 m c) _ 8
theorem exit_9 : exitV m c (Proc.devRef .tc main_v109_1) = (dats m 0 c).arrAt 9 cfg0.N :=
  Pipeline.withArrays_arr (cfgs 0).spec launch0.win.arr_inj c (V0 m c) _ 9
theorem exit_10 : exitV m c (Proc.devRef .tc main_v109_2) = (dats m 0 c).arrAt 10 cfg0.N :=
  Pipeline.withArrays_arr (cfgs 0).spec launch0.win.arr_inj c (V0 m c) _ 10

/-- The last point. -/
theorem exists_last : ∃ t : Fin cfg0.N, t.val = 31 := ⟨⟨31, Nat.lt_of_lt_of_eq (by decide) N_0.symm⟩, rfl⟩

/-- The waveform, -/
def resY : Buf (Elt Ideal) ((c.tc : Thread nD τ).loc main_v112) := fun y : S2x131072.Idx => waveOf (head m c) (basis m c) (y 0) (y 1)
/-- its ends -/
def resE : Buf (Elt Ideal) ((c.tc : Thread nD τ).loc main_v115) := fun y : S2x2048.Idx => waveOf (head m c) (basis m c) (y 0) (endOf (y 1))
/-- and the spectrum. -/
def resS : Buf (Elt Ideal) ((c.tc : Thread nD τ).loc main_v116) := fun y : S2x512x1026.Idx => Cert.Val.specAt (head m c (y 0) (y 1)) (y 2)

theorem end_y : StableHlo.after hostOps1 (exitV m c) (Proc.devRef .tc main_v112) = resY m c := by
  obtain ⟨t, ht⟩ := exists_last
  funext y
  obtain ⟨b, n, rfl⟩ : ∃ (b : Fin 2) (n : Fin 131072), y = ix2 b n := ⟨_, _, eq_ix2 y⟩
  rw [tail_y, exit_8, final_8 m c t ht, yOut_at m c t ht b _ _ n (by simp only; omega) (by simp only; omega), frameK_eq]
  rfl

theorem end_ends : StableHlo.after hostOps1 (exitV m c) (Proc.devRef .tc main_v115) = resE m c := by
  obtain ⟨t, ht⟩ := exists_last
  funext y
  obtain ⟨b, n, rfl⟩ : ∃ (b : Fin 2) (n : Fin 2048), y = ix2 b n := ⟨_, _, eq_ix2 y⟩
  rw [tail_ends, exit_9, final_9 m c t ht]
  unfold endsOut endsV
  refine (yOut_at m c t ht b _ _ (endOf n) ?_ ?_).trans (by rw [frameK_eq]; rfl)
  · show (if n.val / 128 * 2 + b.val < 16 then n.val / 128 * 2 + b.val else 2016 + (n.val / 128 * 2 + b.val)) % 2 = b.val
    split <;> omega
  · show (if n.val < 1024 then n.val else 130048 + (n.val - 1024))
      = 128 * ((if n.val / 128 * 2 + b.val < 16 then n.val / 128 * 2 + b.val else 2016 + (n.val / 128 * 2 + b.val)) / 2) + n.val % 128
    split <;> split <;> omega

theorem end_spec : StableHlo.after hostOps1 (exitV m c) (Proc.devRef .tc main_v116) = resS m c := by
  obtain ⟨t, ht⟩ := exists_last
  funext y
  obtain ⟨b, r, j, rfl⟩ : ∃ (b : Fin 2) (r : Fin 512) (j : Fin 1026), y = ix3 b r j := ⟨_, _, _, eq_ix3 y⟩
  rw [tail_spec, exit_10, final_10 m c t ht, spec_at m c t ht, headK_eq m c b r _ rfl]
  rfl

theorem run (g : Dev nD → PrngReg) : θ_run defs (onTc (τ := τ) (main (F := Ideal))) ⟨m, fun _ => 0, g⟩ (fun r => ∀ c : Dev nD,
      r.2.mem ((c.tc : Thread nD τ).loc main_v112) = resY m c
      ∧ r.2.mem ((c.tc : Thread nD τ).loc main_v115) = resE m c
      ∧ r.2.mem ((c.tc : Thread nD τ).loc main_v116) = resS m c) := by
  refine θ_run_mono (run_main m g) fun r h c => ?_
  have hb := (h c).2
  refine ⟨(hb main_v112 (Pipeline.mem_restRefs_of main_v112 (by decide) (by decide))).trans (end_y m c), (hb main_v115 (Pipeline.mem_restRefs_of main_v115 (by decide) (by decide))).trans (end_ends m c), (hb main_v116 (Pipeline.mem_restRefs_of main_v116 (by decide) (by decide))).trans (end_spec m c)⟩

end Cert.KernelIdeal.Val

end
-- ==== Proof.Val.RefOut.lean ====
module

public import proofs.«01_k».proof.Proof.Val.RefLines

@[expose] public section

set_option maxRecDepth 16384

noncomputable section

/- The reference's matrix product. -/
namespace Cert.ReferenceIdeal.Val

open Idealize.ShloMosaic Idealize.ShloMosaic.TcCoe Idealize.ShloMosaic.Tactic
open Idealize.ShloMosaic.Pipeline (Dat Cfg Window)
open Idealize.SL.Sem
open Cert.ReferenceIdeal.Gen Cert.Val

variable (m : (ℓ : Loc nD τ sig) → Buf (Elt Ideal) ℓ) (c : Dev nD)

/-- Where each block lies at the one point. -/
theorem idx : ∀ t : Fin cfg0.N, win0_0.index t = ![0, 0] ∧ win0_1.index t = ![0, 0] ∧ win0_2.index t = ![0, 0] :=
  (by decide +kernel : ∀ t : Fin grid0.N, _)

theorem x_eq (R : Fin 1024) (k : Fin 16384) :
    V m c main_v0 (ix2 R k) = m ((c.tc : Thread nD τ).loc main_arg0) (ix3 ⟨R.val / 512, by omega⟩ ⟨R.val % 512, by omega⟩ k) := by
  unfold V V0
  after_reads_at

theorem iblk_0 (t : Fin cfg0.N) : iblk m c 0 t = V m c main_v0 := by
  funext x
  blk_simp [iblk]
  congr 1
  blk_ext [idx t]
theorem iblk_1 (t : Fin cfg0.N) : iblk m c 1 t = V m c main_arg2 := by
  funext x
  blk_simp [iblk]
  congr 1
  blk_ext [idx t]

/-- The product, entry by entry. -/
def prodV : Buf (Elt Ideal) ((c.tc : Thread nD τ).loc main_v1) := fun y : S1024x1026.Idx =>
  dotAt (fun k => V m c main_v0 (ix2 (y 0) k)) (fun k => V m c main_arg2 (ix2 k (y 1)))

theorem final : (dats m 0 c).arrAt 2 cfg0.N = prodV m c := by
  refine (dats m 0 c).arrAt_eq_of_after_last 2 t0_0 (by decide +kernel) _ fun j => ?_
  blk_simp
  rw [after0_2]
  frame_out
  rw [iblk_0, iblk_1]
  unfold prodV dotAt
  have e : j = ix2 (j 0) (j 1) := eq_ix2 j
  generalize (j 0 : Fin 1024) = R at e ⊢
  generalize (j 1 : Fin 1026) = k at e ⊢
  subst e
  pointwise [k0_pay1]

/-! ## The run -/

/-- The head, of the arguments. -/
def head (b : Fin 2) (t : Fin 512) (j : Fin 1026) : EReal :=
  headOf (fun b t k => m ((c.tc : Thread nD τ).loc main_arg0) (ix3 b t k)) (fun b t => m ((c.tc : Thread nD τ).loc main_arg1) (ix2 b t))
    (fun k j => m ((c.tc : Thread nD τ).loc main_arg2) (ix2 k j)) (fun j => m ((c.tc : Thread nD τ).loc main_arg3) (ix1 j))
    (fun j => m ((c.tc : Thread nD τ).loc main_arg4) (ix1 j)) b t j

/-- The buffers after the region, when the later lines start. -/
abbrev exitV : Valuation τ sig (Elt Ideal) :=
  Pipeline.withArrays (cfgs 0).spec c (V0 m c) fun w => (dats m 0 c).arrAt w (cfgs 0).N

theorem exit_v1 : exitV m c (Proc.devRef .tc main_v1) = prodV m c :=
  (Pipeline.withArrays_arr (cfgs 0).spec launch0.win.arr_inj c (V0 m c) _ 2).trans (final m c)
theorem exit_arg1 : exitV m c (Proc.devRef .tc main_arg1) = m ((c.tc : Thread nD τ).loc main_arg1) :=
  (Pipeline.withArrays_of_ne (cfgs 0).spec c (V0 m c) _ main_arg1 (by decide)).trans (V_main_arg1 m c)
theorem exit_arg3 : exitV m c (Proc.devRef .tc main_arg3) = m ((c.tc : Thread nD τ).loc main_arg3) :=
  (Pipeline.withArrays_of_ne (cfgs 0).spec c (V0 m c) _ main_arg3 (by decide)).trans (V_main_arg3 m c)
theorem exit_arg4 : exitV m c (Proc.devRef .tc main_arg4) = m ((c.tc : Thread nD τ).loc main_arg4) :=
  (Pipeline.withArrays_of_ne (cfgs 0).spec c (V0 m c) _ main_arg4 (by decide)).trans (V_main_arg4 m c)

theorem product_at (b : Fin 2) (t : Fin 512) (R : Fin 1024) (hR : R.val = b.val * 512 + t.val) (j : Fin 1026) : prodV m c (ix2 R j)
    = dotAt (fun k => m ((c.tc : Thread nD τ).loc main_arg0) (ix3 b t k)) (fun k => m ((c.tc : Thread nD τ).loc main_arg2) (ix2 k j)) := by
  have hb : (⟨R.val / 512, by omega⟩ : Fin 2) = b := Fin.ext (by simp only; omega)
  have ht : (⟨R.val % 512, by omega⟩ : Fin 512) = t := Fin.ext (by simp only; omega)
  have e := congrArg₂ dotAt (funext fun k => (x_eq m c R k).trans (congrArg₂ (fun b t => m ((c.tc : Thread nD τ).loc main_arg0) (ix3 b t k)) hb ht))
    (funext fun k => congrFun (V_main_arg2 m c) (ix2 k j))
  exact e

/-- The buffers once the spectrum and the basis are there, -/
abbrev midA : Valuation τ sig (Elt Ideal) := StableHlo.after opsA (exitV m c)
/-- once the frames are there, -/
abbrev midB : Valuation τ sig (Elt Ideal) := StableHlo.after opsB (midA m c)
/-- and once the waveform is there. -/
abbrev midC : Valuation τ sig (Elt Ideal) := StableHlo.after opsC (midB m c)

theorem midA_spec (b : Fin 2) (t : Fin 512) (j : Fin 1026) : midA m c (Proc.devRef .tc main_v22) (ix3 b t j) = specAt (head m c b t) j := by
  refine (spec_eq (exitV m c) b t j).trans (congrArg (fun h => specAt h j) (funext fun j => ?_))
  have e := congr (congr (congr (congrArg headAt ((congrFun (exit_v1 m c) (ix2 (⟨b.val * 512 + t.val, by omega⟩ : Fin 1024) j)).trans (product_at m c b t _ rfl j))) (congrFun (exit_arg1 m c) (ix2 b t)))
    (congrFun (exit_arg3 m c) (ix1 j))) (congrFun (exit_arg4 m c) (ix1 j))
  exact e

/-- The basis, -/
def basis (k : Fin 1026) (j : Fin 1024) : EReal := midA m c (Proc.devRef .tc main_v52) (ix2 k j)

/-- the waveform, -/
theorem midC_y (b : Fin 2) (n : Fin 131072) :
    midC m c (Proc.devRef .tc main_v105) (ix2 b n) = waveOf (head m c) (basis m c) b n := by
  refine (y_eq (midB m c) b n).trans (congrArg₂ (fun v w => refY v w n) (funext fun t => funext fun j => ?_) (funext fun j => win_eq (midA m c) j))
  refine (frames_eq (midA m c) b t _ _).trans ?_
  have ej : (⟨j.val / 256 * 256 + j.val % 256, by omega⟩ : Fin 1024) = j := Fin.ext (by simp only; omega)
  exact (congrArg (frameAt _ _) ej).trans (congrArg (fun s => frameAt s (basis m c) j) (funext fun k => midA_spec m c b t k))

/-- The list of all the later lines ends where its parts do. -/
theorem end_eq (b : Ref sig .tc) : Pipeline.afterTail₀ cfgs (dats m) 0 (V0 m) [hostOps1, hostOps1_1, hostOps1_2, hostOps1_3, hostOps1_4, hostOps1_5, hostOps1_6, hostOps1_7, hostOps1_8, hostOps1_9, hostOps1_10,
      hostOps1_11, hostOps1_12, hostOps1_13, hostOps1_14, hostOps1_15, hostOps1_16, hostOps1_17, hostOps1_18, hostOps1_19, hostOps1_20, hostOps1_21, hostOps1_22] c b
    = StableHlo.after opsD (midC m c) (Proc.devRef .tc b) := by
  unfold Pipeline.afterTail₀
  rw [ops_eq, StableHlo.after_append (opsA ++ opsB ++ opsC) opsD, StableHlo.after_append (opsA ++ opsB) opsC, StableHlo.after_append opsA opsB]

theorem run (g : Dev nD → PrngReg) : θ_run defs (onTc (τ := τ) (main (F := Ideal))) ⟨m, fun _ => 0, g⟩ (fun r => ∀ c : Dev nD,
      (∀ b n, r.2.mem ((c.tc : Thread nD τ).loc main_v105) (ix2 b n) = waveOf (head m c) (basis m c) b n)
      ∧ (∀ b n, r.2.mem ((c.tc : Thread nD τ).loc main_v108) (ix2 b n) = waveOf (head m c) (basis m c) b (endOf n))
      ∧ (∀ b t j, r.2.mem ((c.tc : Thread nD τ).loc main_v22) (ix3 b t j) = specAt (head m c b t) j)) := by
  refine θ_run_mono (run_main m g) fun r h c => ?_
  have hb := (h c).2
  refine ⟨fun b n => ?_, fun b n => ?_, fun b t j => ?_⟩
  · rw [(hb main_v105 (Pipeline.mem_restRefs_of main_v105 (by decide) (by decide))).trans (end_eq m c _), y_D]
    exact midC_y m c b n
  · rw [(hb main_v108 (Pipeline.mem_restRefs_of main_v108 (by decide) (by decide))).trans (end_eq m c _)]
    exact (ends_eq (midC m c) b n).trans (midC_y m c b (endOf n))
  · rw [(hb main_v22 (Pipeline.mem_restRefs_of main_v22 (by decide) (by decide))).trans (end_eq m c _), spec_D]
    exact (congrFun (spec_C (midB m c)) _).trans ((congrFun (spec_B (midA m c)) _).trans (midA_spec m c b t j))

end Cert.ReferenceIdeal.Val

end
-- ==== Proof.lean ====
module

public import proofs.«01_k».proof.Defs
public import proofs.«01_k».proof.Proof.KI.Run
public import proofs.«01_k».proof.Proof.KB.Run
public import proofs.«01_k».proof.Proof.Val.KerRun
public import proofs.«01_k».proof.Proof.Val.RefOut
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.SL.Sem

/-- Equal arguments give equal heads. -/
theorem head_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.head m' c = Cert.KernelIdeal.Val.head m c := by
  funext b t j
  unfold Cert.ReferenceIdeal.Val.head Cert.KernelIdeal.Val.head
  rw [h0, h1, h2, h3, h4]

/-- The kernel's program and the reference end with equal results. -/
theorem algebraic : @Cert.algebraic_KernelIdeal_ReferenceIdeal Cert.KernelIdeal.Gen.facts Cert.ReferenceIdeal.Gen.facts := by
  intro m g m' g' _ hagree
  refine ⟨Cert.KernelIdeal.Val.resY m, Cert.KernelIdeal.Val.resE m, Cert.KernelIdeal.Val.resS m, ?_, ?_⟩
  · exact θ_run_mono (θ_run_and (Cert.KernelIdeal.Val.run m g) (Cert.KernelIdeal.unchanged m g)) fun r h c =>
      ⟨(h.1 c).1, (h.1 c).2.1, (h.1 c).2.2, h.2 c⟩
  · refine θ_run_mono (θ_run_and (Cert.ReferenceIdeal.Val.run m' g') (Cert.ReferenceIdeal.Gen.unchanged m' g')) fun r h c => ?_
    obtain ⟨hy, he, hs⟩ := h.1 c
    obtain ⟨a0, a1, a2, a3, a4⟩ := hagree c
    have hh := head_eq m m' c a0 a1 a2 a3 a4
    have hg : Cert.ReferenceIdeal.Val.basis m' c = Cert.KernelIdeal.Val.basis m c :=
      funext fun k => funext fun j => (Cert.KernelIdeal.Val.bas_ref m c (Cert.ReferenceIdeal.Val.exitV m' c) k j).symm
    rw [hh, hg] at hy he
    rw [hh] at hs
    refine ⟨funext fun y => ?_, funext fun y => ?_, funext fun y => ?_, h.2 c⟩
    · obtain ⟨b, n, rfl⟩ : ∃ (b : Fin 2) (n : Fin 131072), y = ix2 b n := ⟨_, _, eq_ix2 y⟩
      exact hy b n
    · obtain ⟨b, n, rfl⟩ : ∃ (b : Fin 2) (n : Fin 2048), y = ix2 b n := ⟨_, _, eq_ix2 y⟩
      exact he b n
    · obtain ⟨b, t, j, rfl⟩ : ∃ (b : Fin 2) (t : Fin 512) (j : Fin 1026), y = ix3 b t j := ⟨_, _, _, eq_ix3 y⟩
      exact hs b t j

/-- Every claim. -/
theorem claim : Cert.Claim :=
  ⟨Cert.Kernel.Gen.facts, Cert.KernelIdeal.Gen.facts, Cert.ReferenceIdeal.Gen.facts,
    fun m ρ _ => Cert.Kernel.frame m ρ, fun m ρ _ => Cert.KernelIdeal.frame m ρ, fun m ρ _ => Cert.ReferenceIdeal.Gen.frame m ρ, trivial, algebraic⟩

end Cert.Proof

end
